-- ==== Defs.lean ====
def Pre_Kernel [hPre_groups_cover : Cert.Pre_groups_cover.Facts] (m : (ℓ : Loc Cert.Kernel.nD Cert.Kernel.τ Cert.Kernel.sig) → Buf (Elt Bits) ℓ) : Prop :=
  ∀ c : Dev Cert.Kernel.nD,
    (Cert.Pre_groups_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_groups_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_groups_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_groups_cover : Cert.Pre_groups_cover.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_groups_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_groups_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal [hPre_groups_cover : Cert.Pre_groups_cover.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_groups_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_groups_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] [hPre_groups_cover : Cert.Pre_groups_cover.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_groups_cover : Cert.Pre_groups_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_groups_cover : Cert.Pre_groups_cover.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_cover : Cert.Pre_groups_cover.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_groups_cover : Cert.Pre_groups_cover.Facts),
    quiescent_Kernel (hKernel := hKernel) (hPre_groups_cover := hPre_groups_cover)
    ∧ quiescent_KernelIdeal (hKernelIdeal := hKernelIdeal) (hPre_groups_cover := hPre_groups_cover)
    ∧ quiescent_ReferenceIdeal (hReferenceIdeal := hReferenceIdeal) (hPre_groups_cover := hPre_groups_cover)
    ∧ preserves_Kernel_KernelIdeal
    ∧ algebraic_KernelIdeal_ReferenceIdeal (hKernelIdeal := hKernelIdeal) (hReferenceIdeal := hReferenceIdeal) (hPre_groups_cover := hPre_groups_cover)
-- ==== Pre_groups_cover.lean ====
abbrev S18432 : Shape := ⟨1, ![18432]⟩
abbrev S11 : Shape := ⟨1, ![11]⟩
abbrev S1 : Shape := ⟨1, ![1]⟩
abbrev S9216x384 : Shape := ⟨2, ![9216, 384]⟩
abbrev S11x1280x1728 : Shape := ⟨3, ![11, 1280, 1728]⟩
abbrev S11x160x1728 : Shape := ⟨3, ![11, 160, 1728]⟩
abbrev S_ : Shape := ⟨0, ![]⟩

class Facts : Prop where
  bcast_S_S18432 : S_.BroadcastsInDim S18432 (![] : Fin 0 → Fin S18432.rank)
  reducesTo_S18432_S_d0 : S18432.ReducesTo [0] S_
  h_S_ : 0 < S_.numel
  bcast_S_S11 : S_.BroadcastsInDim S11 (![] : Fin 0 → Fin S11.rank)
  reducesTo_S11_S_d0 : S11.ReducesTo [0] S_

variable [Facts]

def fn {F : FTy → Type} [FloatOps F] (main_arg0 : IVec S18432 32) (main_arg1 : IVec S11 32) (main_arg2 : FVec F S11 .f32) (main_arg3 : FVec F S1 .f32) (main_arg4 : IVec S9216x384 32) (main_arg5 : IVec S11x1280x1728 8) (main_arg6 : FVec F S11x160x1728 .fp8e4m3) : IVec S_ 1 × IVec S_ 1 × IVec S_ 1 :=
  let main_c : IVec S_ 32 := constantI S_ 32 0#32
  let main_v0 : IVec S18432 32 := broadcastInDim S18432 ![] bcast_S_S18432 main_c
  let main_v1 : IVec S18432 1 := cmpi .sge main_arg0 main_v0
  let main_c_0 : IVec S_ 32 := constantI S_ 32 9216#32
  let main_v2 : IVec S18432 32 := broadcastInDim S18432 ![] bcast_S_S18432 main_c_0
  let main_v3 : IVec S18432 1 := cmpi .slt main_arg0 main_v2
  let main_v4 : IVec S18432 1 := andi main_v1 main_v3
  let main_c_1 : IVec S_ 1 := constantI S_ 1 1#1
  let main_v5 : IVec S_ 1 := (fun x v => Host.reduce IntOp.andi x v reducesTo_S18432_S_d0 h_S_) main_v4 main_c_1
  let main_c_2 : IVec S_ 32 := constantI S_ 32 0#32
  let main_v6 : IVec S11 32 := broadcastInDim S11 ![] bcast_S_S11 main_c_2
  let main_v7 : IVec S11 1 := cmpi .sge main_arg1 main_v6
  let main_c_3 : IVec S_ 32 := constantI S_ 32 18432#32
  let main_v8 : IVec S11 32 := broadcastInDim S11 ![] bcast_S_S11 main_c_3
  let main_v9 : IVec S11 1 := cmpi .sle main_arg1 main_v8
  let main_v10 : IVec S11 1 := andi main_v7 main_v9
  let main_c_4 : IVec S_ 1 := constantI S_ 1 1#1
  let main_v11 : IVec S_ 1 := (fun x v => Host.reduce IntOp.andi x v reducesTo_S11_S_d0 h_S_) main_v10 main_c_4
  let main_c_5 : IVec S_ 32 := constantI S_ 32 0#32
  let main_v12 : IVec S_ 32 := (fun x v => Host.reduce IntOp.addi x v reducesTo_S11_S_d0 h_S_) main_arg1 main_c_5
  let main_c_6 : IVec S_ 32 := constantI S_ 32 18432#32
  let main_v13 : IVec S_ 1 := cmpi .eq main_v12 main_c_6
  (main_v5, main_v11, main_v13)
-- ==== Kernel.lean ====
abbrev S18432 : Shape := ⟨1, ![18432]⟩
abbrev S11 : Shape := ⟨1, ![11]⟩
abbrev S1 : Shape := ⟨1, ![1]⟩
abbrev S9216x384 : Shape := ⟨2, ![9216, 384]⟩
abbrev S11x1280x1728 : Shape := ⟨3, ![11, 1280, 1728]⟩
abbrev S11x160x1728 : Shape := ⟨3, ![11, 160, 1728]⟩
abbrev S11x1728x1280 : Shape := ⟨3, ![11, 1728, 1280]⟩
abbrev S1728x18432 : Shape := ⟨2, ![1728, 18432]⟩
abbrev S2x11 : Shape := ⟨2, ![2, 11]⟩
abbrev S2x1728x1280 : Shape := ⟨3, ![2, 1728, 1280]⟩
abbrev S2x160x1728 : Shape := ⟨3, ![2, 160, 1728]⟩
abbrev S1728x256 : Shape := ⟨2, ![1728, 256]⟩
abbrev S1728x2560 : Shape := ⟨2, ![1728, 2560]⟩
abbrev S256x384 : Shape := ⟨2, ![256, 384]⟩
abbrev S256x2560 : Shape := ⟨2, ![256, 2560]⟩
abbrev S2x1728x256 : Shape := ⟨3, ![2, 1728, 256]⟩
abbrev S2x2 : Shape := ⟨2, ![2, 2]⟩
abbrev S2 : Shape := ⟨1, ![2]⟩
abbrev S1x1 : Shape := ⟨2, ![1, 1]⟩
abbrev S_ : Shape := ⟨0, ![]⟩
abbrev S1x1728x1280 : Shape := ⟨3, ![1, 1728, 1280]⟩
abbrev S1728x1280 : Shape := ⟨2, ![1728, 1280]⟩
abbrev S1x160x1728 : Shape := ⟨3, ![1, 160, 1728]⟩
abbrev S160x1728 : Shape := ⟨2, ![160, 1728]⟩
abbrev S1728x160 : Shape := ⟨2, ![1728, 160]⟩
abbrev S1728x96 : Shape := ⟨2, ![1728, 96]⟩
abbrev S1x64x128 : Shape := ⟨3, ![1, 64, 128]⟩
abbrev S64x128 : Shape := ⟨2, ![64, 128]⟩
abbrev S16x128 : Shape := ⟨2, ![16, 128]⟩
abbrev S64x128x1 : Shape := ⟨3, ![64, 128, 1]⟩
abbrev S1x384 : Shape := ⟨2, ![1, 384]⟩
abbrev S256x128 : Shape := ⟨2, ![256, 128]⟩
abbrev S256x128x1 : Shape := ⟨3, ![256, 128, 1]⟩
abbrev S1x1728x256 : Shape := ⟨3, ![1, 1728, 256]⟩
abbrev S18432x1728 : Shape := ⟨2, ![18432, 1728]⟩

abbrev nBuf : Space → Nat
  | .hbm => 10
  | .vmem => 8
  | .smem => 5
  | _ => 0

abbrev bufTy : (tb : Table) → Fin (tcTables nBuf tb) → BufTy
  | .hbm, ⟨0, _⟩ => ⟨S18432, .i32⟩
  | .hbm, ⟨1, _⟩ => ⟨S11, .i32⟩
  | .hbm, ⟨2, _⟩ => ⟨S11, .f32⟩
  | .hbm, ⟨3, _⟩ => ⟨S1, .f32⟩
  | .hbm, ⟨4, _⟩ => ⟨S9216x384, .i32⟩
  | .hbm, ⟨5, _⟩ => ⟨S11x1280x1728, .i8⟩
  | .hbm, ⟨6, _⟩ => ⟨S11x160x1728, .fp8e4m3⟩
  | .hbm, ⟨7, _⟩ => ⟨S11x1728x1280, .i8⟩
  | .hbm, ⟨8, _⟩ => ⟨S1728x18432, .bf16⟩
  | .hbm, ⟨9, _⟩ => ⟨S18432x1728, .bf16⟩
  | .local _ .vmem, ⟨0, _⟩ => ⟨S9216x384, .i32⟩
  | .local _ .vmem, ⟨1, _⟩ => ⟨S2x1728x1280, .i8⟩
  | .local _ .vmem, ⟨2, _⟩ => ⟨S2x160x1728, .fp8e4m3⟩
  | .local _ .vmem, ⟨3, _⟩ => ⟨S1728x256, .bf16⟩
  | .local _ .vmem, ⟨4, _⟩ => ⟨S1728x2560, .bf16⟩
  | .local _ .vmem, ⟨5, _⟩ => ⟨S256x384, .i32⟩
  | .local _ .vmem, ⟨6, _⟩ => ⟨S256x2560, .bf16⟩
  | .local _ .vmem, ⟨7, _⟩ => ⟨S2x1728x256, .bf16⟩
  | .local _ .smem, ⟨0, _⟩ => ⟨S18432, .i32⟩
  | .local _ .smem, ⟨1, _⟩ => ⟨S11, .i32⟩
  | .local _ .smem, ⟨2, _⟩ => ⟨S11, .f32⟩
  | .local _ .smem, ⟨3, _⟩ => ⟨S1, .f32⟩
  | .local _ .smem, ⟨4, _⟩ => ⟨S2x11, .i32⟩
  | _, _ => ⟨S18432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg4_0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_scratch0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c11_i32 : BitVec 32 := 11#32
  let v1 : BitVec 32 := Scalar.addi c0_i32_1 c11_i32
  let c1_i32 : BitVec 32 := 1#32
  ⟨c0_i32_1, v1, c1_i32⟩
def k0_off1 (k0_t1 : Fin k0_t1_loop.trips) : Fin 1 → Nat :=
  let c0_i32_1 : BitVec 32 := 0#32
  let c1_i32 : BitVec 32 := 1#32
  let arg18 : BitVec 32 := Scf.iv c0_i32_1 c1_i32 k0_t1
  let v35 : Index := Scalar.indexCast arg18
  ![v35.toNat]
def k0_off2 (arg19 : BitVec 32) : Fin 2 → Nat :=
  let c0_37 : Index := 0#32
  let v44 : Index := Scalar.indexCast arg19
  ![0, v44.toNat]
def k0_cond1 (v36 : BitVec 32) : BitVec 1 :=
  let c0_i32_34 : BitVec 32 := 0#32
  let v37 : BitVec 1 := Scalar.cmpi .sgt v36 c0_i32_34
  let v38 : BitVec 32 := Scalar.extui v37
  let c0_i32_35 : BitVec 32 := 0#32
  let v39 : BitVec 1 := Scalar.cmpi .ne v38 c0_i32_35
  v39

def k0_off3 (arg19 : BitVec 32) : Fin 2 → Nat :=
  let c1 : Index := 1#32
  let v46 : Index := Scalar.indexCast arg19
  ![1, v46.toNat]

def k0_chk1 (arg19 : BitVec 32) (v36 : BitVec 32) : Prop :=
  (∀ (k0_h1 : k0_cond1 v36 = 1#1), ∀ a, (k0_off2 arg19) a + S1x1.size a ≤ S2x11.size a) ∧
  (∀ (k0_h1 : k0_cond1 v36 = 1#1), ∀ a, (k0_off3 arg19) a + S1x1.size a ≤ S2x11.size a)
theorem k0_off2_inb : ∀ (arg19 : BitVec 32) (v36 : BitVec 32) (k0_hw1 : k0_chk1 arg19 v36), ∀ (k0_h1 : k0_cond1 v36 = 1#1), ∀ a, (k0_off2 arg19) a + S1x1.size a ≤ S2x11.size a := fun arg19 v36 k0_hw1 k0_h1 => k0_hw1.1 k0_h1
theorem k0_off3_inb : ∀ (arg19 : BitVec 32) (v36 : BitVec 32) (k0_hw1 : k0_chk1 arg19 v36), ∀ (k0_h1 : k0_cond1 v36 = 1#1), ∀ a, (k0_off3 arg19) a + S1x1.size a ≤ S2x11.size a := fun arg19 v36 k0_hw1 k0_h1 => k0_hw1.2 k0_h1

def k0_off4 (v3 : BitVec 32) : Fin 3 → Nat :=
  let c0_i32_10 : BitVec 32 := 0#32
  let c0_i32_11 : BitVec 32 := 0#32
  ![v3.toNat, 0, 0]

def k0_off5 (v3 : BitVec 32) : Fin 3 → Nat :=
  let c0_i32_17 : BitVec 32 := 0#32
  let c0_i32_18 : BitVec 32 := 0#32
  ![v3.toNat, 0, 0]

def k0_chk2 (v3 : BitVec 32) : Prop :=
  (∀ a, (k0_off4 v3) a + S1x1728x1280.size a ≤ S11x1728x1280.size a) ∧
  (∀ (hinb : ∀ a, (k0_off4 v3) a + S1x1728x1280.size a ≤ S11x1728x1280.size a), (Rect.unit (s := S11x1728x1280) (k0_off4 v3) S1x1728x1280.size hinb).WholeWords (EltTy.packing .i8)) ∧
  (∀ a, (k0_off5 v3) a + S1x160x1728.size a ≤ S11x160x1728.size a) ∧
  (∀ (hinb : ∀ a, (k0_off5 v3) a + S1x160x1728.size a ≤ S11x160x1728.size a), (Rect.unit (s := S11x160x1728) (k0_off5 v3) S1x160x1728.size hinb).WholeWords (EltTy.packing .fp8e4m3))
theorem k0_off4_inb : ∀ (v3 : BitVec 32) (k0_hw2 : k0_chk2 v3), ∀ a, (k0_off4 v3) a + S1x1728x1280.size a ≤ S11x1728x1280.size a := fun v3 k0_hw2 => k0_hw2.1
theorem k0_off4_wordsi8 : ∀ (v3 : BitVec 32) (k0_hw2 : k0_chk2 v3), (Rect.unit (s := S11x1728x1280) (k0_off4 v3) S1x1728x1280.size (k0_off4_inb v3 k0_hw2)).WholeWords (EltTy.packing .i8) := fun v3 k0_hw2 => k0_hw2.2.1 (k0_off4_inb v3 k0_hw2)
theorem k0_off5_inb : ∀ (v3 : BitVec 32) (k0_hw2 : k0_chk2 v3), ∀ a, (k0_off5 v3) a + S1x160x1728.size a ≤ S11x160x1728.size a := fun v3 k0_hw2 => k0_hw2.2.2.1
theorem k0_off5_wordsfp8e4m3 : ∀ (v3 : BitVec 32) (k0_hw2 : k0_chk2 v3), (Rect.unit (s := S11x160x1728) (k0_off5 v3) S1x160x1728.size (k0_off5_inb v3 k0_hw2)).WholeWords (EltTy.packing .fp8e4m3) := fun v3 k0_hw2 => k0_hw2.2.2.2 (k0_off5_inb v3 k0_hw2)

@[reducible] def k0_t2_loop (v2_0 : BitVec 32) : Scf.Loop 32 :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_22 : BitVec 32 := 1#32
  ⟨c0_i32_19, v20, c1_i32_22⟩

def k0_off6 (v2_0 : BitVec 32) (k0_t2 : Fin (k0_t2_loop v2_0).trips) : Fin 2 → Nat :=
  let c0_34 : Index := 0#32
  let c0_i32_19 : BitVec 32 := 0#32
  let c1_i32_22 : BitVec 32 := 1#32
  let arg18 : BitVec 32 := Scf.iv c0_i32_19 c1_i32_22 k0_t2
  let v35 : Index := Scalar.indexCast arg18
  ![0, v35.toNat]
def k0_off7 (v2_0 : BitVec 32) (k0_t2 : Fin (k0_t2_loop v2_0).trips) : Fin 2 → Nat :=
  let c1 : Index := 1#32
  let c0_i32_19 : BitVec 32 := 0#32
  let c1_i32_22 : BitVec 32 := 1#32
  let arg18 : BitVec 32 := Scf.iv c0_i32_19 c1_i32_22 k0_t2
  let v37 : Index := Scalar.indexCast arg18
  ![1, v37.toNat]
def k0_off8 (v36 : BitVec 32) : Fin 1 → Nat :=
  let v39 : Index := Scalar.indexCast v36
  ![v39.toNat]

def k0_chk4 (v36 : BitVec 32) : Prop :=
  (∀ a, (k0_off8 v36) a + S1.size a ≤ S11.size a)
theorem k0_off8_inb : ∀ (v36 : BitVec 32) (k0_hw4 : k0_chk4 v36), ∀ a, (k0_off8 v36) a + S1.size a ≤ S11.size a := fun v36 k0_hw4 => k0_hw4

def k0_off9 (v2_0 : BitVec 32) (k0_t2 : Fin (k0_t2_loop v2_0).trips) : Fin 2 → Nat :=
  let c0_40 : Index := 0#32
  let c0_i32_19 : BitVec 32 := 0#32
  let c1_i32_22 : BitVec 32 := 1#32
  let arg18 : BitVec 32 := Scf.iv c0_i32_19 c1_i32_22 k0_t2
  let v52 : Index := Scalar.indexCast arg18
  ![0, v52.toNat]
def k0_off10 (v2_0 : BitVec 32) (k0_t2 : Fin (k0_t2_loop v2_0).trips) : Fin 2 → Nat :=
  let c0_i32_19 : BitVec 32 := 0#32
  let c1_i32_22 : BitVec 32 := 1#32
  let arg18 : BitVec 32 := Scf.iv c0_i32_19 c1_i32_22 k0_t2
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c0_i32_47 : BitVec 32 := 0#32
  ![v63.toNat, 0]
def k0_off11 (v2_0 : BitVec 32) (k0_t2 : Fin (k0_t2_loop v2_0).trips) : Fin 3 → Nat :=
  let c0_i32_19 : BitVec 32 := 0#32
  let c1_i32_22 : BitVec 32 := 1#32
  let arg18 : BitVec 32 := Scf.iv c0_i32_19 c1_i32_22 k0_t2
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c0_i32_48 : BitVec 32 := 0#32
  let c0_i32_49 : BitVec 32 := 0#32
  ![v63.toNat, 0, 0]
def k0_off12 (v53 : BitVec 32) : Fin 3 → Nat :=
  let c0_i32_50 : BitVec 32 := 0#32
  let c0_i32_51 : BitVec 32 := 0#32
  ![v53.toNat, 0, 0]

def k0_off13 (v2_0 : BitVec 32) (k0_t2 : Fin (k0_t2_loop v2_0).trips) : Fin 2 → Nat :=
  let c0_i32_19 : BitVec 32 := 0#32
  let c1_i32_22 : BitVec 32 := 1#32
  let arg18 : BitVec 32 := Scf.iv c0_i32_19 c1_i32_22 k0_t2
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c1_i32_52 : BitVec 32 := 1#32
  ![v63.toNat, 1]
def k0_off14 (v2_0 : BitVec 32) (k0_t2 : Fin (k0_t2_loop v2_0).trips) : Fin 3 → Nat :=
  let c0_i32_19 : BitVec 32 := 0#32
  let c1_i32_22 : BitVec 32 := 1#32
  let arg18 : BitVec 32 := Scf.iv c0_i32_19 c1_i32_22 k0_t2
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c0_i32_53 : BitVec 32 := 0#32
  let c0_i32_54 : BitVec 32 := 0#32
  ![v63.toNat, 0, 0]
def k0_off15 (v53 : BitVec 32) : Fin 3 → Nat :=
  let c0_i32_55 : BitVec 32 := 0#32
  let c0_i32_56 : BitVec 32 := 0#32
  ![v53.toNat, 0, 0]

def k0_chk5 (v53 : BitVec 32) : Prop :=
  (∀ a, (k0_off12 v53) a + S1x1728x1280.size a ≤ S11x1728x1280.size a) ∧
  (∀ (hinb : ∀ a, (k0_off12 v53) a + S1x1728x1280.size a ≤ S11x1728x1280.size a), (Rect.unit (s := S11x1728x1280) (k0_off12 v53) S1x1728x1280.size hinb).WholeWords (EltTy.packing .i8)) ∧
  (∀ a, (k0_off15 v53) a + S1x160x1728.size a ≤ S11x160x1728.size a) ∧
  (∀ (hinb : ∀ a, (k0_off15 v53) a + S1x160x1728.size a ≤ S11x160x1728.size a), (Rect.unit (s := S11x160x1728) (k0_off15 v53) S1x160x1728.size hinb).WholeWords (EltTy.packing .fp8e4m3))
theorem k0_off12_inb : ∀ (v53 : BitVec 32) (k0_hw5 : k0_chk5 v53), ∀ a, (k0_off12 v53) a + S1x1728x1280.size a ≤ S11x1728x1280.size a := fun v53 k0_hw5 => k0_hw5.1
theorem k0_off12_wordsi8 : ∀ (v53 : BitVec 32) (k0_hw5 : k0_chk5 v53), (Rect.unit (s := S11x1728x1280) (k0_off12 v53) S1x1728x1280.size (k0_off12_inb v53 k0_hw5)).WholeWords (EltTy.packing .i8) := fun v53 k0_hw5 => k0_hw5.2.1 (k0_off12_inb v53 k0_hw5)
theorem k0_off15_inb : ∀ (v53 : BitVec 32) (k0_hw5 : k0_chk5 v53), ∀ a, (k0_off15 v53) a + S1x160x1728.size a ≤ S11x160x1728.size a := fun v53 k0_hw5 => k0_hw5.2.2.1
theorem k0_off15_wordsfp8e4m3 : ∀ (v53 : BitVec 32) (k0_hw5 : k0_chk5 v53), (Rect.unit (s := S11x160x1728) (k0_off15 v53) S1x160x1728.size (k0_off15_inb v53 k0_hw5)).WholeWords (EltTy.packing .fp8e4m3) := fun v53 k0_hw5 => k0_hw5.2.2.2 (k0_off15_inb v53 k0_hw5)

def k0_off16 (v2_0 : BitVec 32) (k0_t2 : Fin (k0_t2_loop v2_0).trips) : Fin 2 → Nat :=
  let c0_88 : Index := 0#32
  let c0_i32_19 : BitVec 32 := 0#32
  let c1_i32_22 : BitVec 32 := 1#32
  let arg18 : BitVec 32 := Scf.iv c0_i32_19 c1_i32_22 k0_t2
  let c1_i32_87 : BitVec 32 := 1#32
  let v136 : BitVec 32 := Scalar.addi arg18 c1_i32_87
  let v137 : Index := Scalar.indexCast v136
  ![0, v137.toNat]
def k0_cond2 (v2_0 : BitVec 32) (k0_t2 : Fin (k0_t2_loop v2_0).trips) : BitVec 1 :=
  let c0_i32_19 : BitVec 32 := 0#32
  let c1_i32_22 : BitVec 32 := 1#32
  let arg18 : BitVec 32 := Scf.iv c0_i32_19 c1_i32_22 k0_t2
  let c1_i32_57 : BitVec 32 := 1#32
  let v76 : BitVec 32 := Scalar.addi arg18 c1_i32_57
  let v77 : BitVec 1 := Scalar.cmpi .slt v76 v2_0
  let v78 : BitVec 32 := Scalar.extui v77
  let c0_i32_58 : BitVec 32 := 0#32
  let v79 : BitVec 1 := Scalar.cmpi .ne v78 c0_i32_58
  v79

def k0_off17 (v2_0 : BitVec 32) (k0_t2 : Fin (k0_t2_loop v2_0).trips) : Fin 2 → Nat :=
  let c0_i32_19 : BitVec 32 := 0#32
  let c1_i32_22 : BitVec 32 := 1#32
  let arg18 : BitVec 32 := Scf.iv c0_i32_19 c1_i32_22 k0_t2
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c0_i32_95 : BitVec 32 := 0#32
  ![v148.toNat, 0]
def k0_off18 (v2_0 : BitVec 32) (k0_t2 : Fin (k0_t2_loop v2_0).trips) : Fin 3 → Nat :=
  let c0_i32_19 : BitVec 32 := 0#32
  let c1_i32_22 : BitVec 32 := 1#32
  let arg18 : BitVec 32 := Scf.iv c0_i32_19 c1_i32_22 k0_t2
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c0_i32_96 : BitVec 32 := 0#32
  let c0_i32_97 : BitVec 32 := 0#32
  ![v148.toNat, 0, 0]
def k0_off19 (v138 : BitVec 32) : Fin 3 → Nat :=
  let c0_i32_98 : BitVec 32 := 0#32
  let c0_i32_99 : BitVec 32 := 0#32
  ![v138.toNat, 0, 0]

def k0_off20 (v2_0 : BitVec 32) (k0_t2 : Fin (k0_t2_loop v2_0).trips) : Fin 2 → Nat :=
  let c0_i32_19 : BitVec 32 := 0#32
  let c1_i32_22 : BitVec 32 := 1#32
  let arg18 : BitVec 32 := Scf.iv c0_i32_19 c1_i32_22 k0_t2
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c1_i32_100 : BitVec 32 := 1#32
  ![v148.toNat, 1]
def k0_off21 (v2_0 : BitVec 32) (k0_t2 : Fin (k0_t2_loop v2_0).trips) : Fin 3 → Nat :=
  let c0_i32_19 : BitVec 32 := 0#32
  let c1_i32_22 : BitVec 32 := 1#32
  let arg18 : BitVec 32 := Scf.iv c0_i32_19 c1_i32_22 k0_t2
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c0_i32_101 : BitVec 32 := 0#32
  let c0_i32_102 : BitVec 32 := 0#32
  ![v148.toNat, 0, 0]
def k0_off22 (v138 : BitVec 32) : Fin 3 → Nat :=
  let c0_i32_103 : BitVec 32 := 0#32
  let c0_i32_104 : BitVec 32 := 0#32
  ![v138.toNat, 0, 0]

def k0_chk6 (v2_0 : BitVec 32) (k0_t2 : Fin (k0_t2_loop v2_0).trips) (v138 : BitVec 32) : Prop :=
  (∀ (k0_h2 : k0_cond2 v2_0 k0_t2 = 1#1), ∀ a, (k0_off19 v138) a + S1x1728x1280.size a ≤ S11x1728x1280.size a) ∧
  (∀ (k0_h2 : k0_cond2 v2_0 k0_t2 = 1#1), ∀ (hinb : ∀ a, (k0_off19 v138) a + S1x1728x1280.size a ≤ S11x1728x1280.size a), (Rect.unit (s := S11x1728x1280) (k0_off19 v138) S1x1728x1280.size hinb).WholeWords (EltTy.packing .i8)) ∧
  (∀ (k0_h2 : k0_cond2 v2_0 k0_t2 = 1#1), ∀ a, (k0_off22 v138) a + S1x160x1728.size a ≤ S11x160x1728.size a) ∧
  (∀ (k0_h2 : k0_cond2 v2_0 k0_t2 = 1#1), ∀ (hinb : ∀ a, (k0_off22 v138) a + S1x160x1728.size a ≤ S11x160x1728.size a), (Rect.unit (s := S11x160x1728) (k0_off22 v138) S1x160x1728.size hinb).WholeWords (EltTy.packing .fp8e4m3))
theorem k0_off19_inb : ∀ (v2_0 : BitVec 32) (k0_t2 : Fin (k0_t2_loop v2_0).trips) (v138 : BitVec 32) (k0_hw6 : k0_chk6 v2_0 k0_t2 v138), ∀ (k0_h2 : k0_cond2 v2_0 k0_t2 = 1#1), ∀ a, (k0_off19 v138) a + S1x1728x1280.size a ≤ S11x1728x1280.size a := fun v2_0 k0_t2 v138 k0_hw6 k0_h2 => k0_hw6.1 k0_h2
theorem k0_off19_wordsi8 : ∀ (v2_0 : BitVec 32) (k0_t2 : Fin (k0_t2_loop v2_0).trips) (v138 : BitVec 32) (k0_hw6 : k0_chk6 v2_0 k0_t2 v138), ∀ (k0_h2 : k0_cond2 v2_0 k0_t2 = 1#1), (Rect.unit (s := S11x1728x1280) (k0_off19 v138) S1x1728x1280.size (k0_off19_inb v2_0 k0_t2 v138 k0_hw6 k0_h2)).WholeWords (EltTy.packing .i8) := fun v2_0 k0_t2 v138 k0_hw6 k0_h2 => k0_hw6.2.1 k0_h2 (k0_off19_inb v2_0 k0_t2 v138 k0_hw6 k0_h2)
theorem k0_off22_inb : ∀ (v2_0 : BitVec 32) (k0_t2 : Fin (k0_t2_loop v2_0).trips) (v138 : BitVec 32) (k0_hw6 : k0_chk6 v2_0 k0_t2 v138), ∀ (k0_h2 : k0_cond2 v2_0 k0_t2 = 1#1), ∀ a, (k0_off22 v138) a + S1x160x1728.size a ≤ S11x160x1728.size a := fun v2_0 k0_t2 v138 k0_hw6 k0_h2 => k0_hw6.2.2.1 k0_h2
theorem k0_off22_wordsfp8e4m3 : ∀ (v2_0 : BitVec 32) (k0_t2 : Fin (k0_t2_loop v2_0).trips) (v138 : BitVec 32) (k0_hw6 : k0_chk6 v2_0 k0_t2 v138), ∀ (k0_h2 : k0_cond2 v2_0 k0_t2 = 1#1), (Rect.unit (s := S11x160x1728) (k0_off22 v138) S1x160x1728.size (k0_off22_inb v2_0 k0_t2 v138 k0_hw6 k0_h2)).WholeWords (EltTy.packing .fp8e4m3) := fun v2_0 k0_t2 v138 k0_hw6 k0_h2 => k0_hw6.2.2.2 k0_h2 (k0_off22_inb v2_0 k0_t2 v138 k0_hw6 k0_h2)

def k0_off23 (v2_0 : BitVec 32) (k0_t2 : Fin (k0_t2_loop v2_0).trips) : Fin 3 → Nat :=
  let c0_i32_19 : BitVec 32 := 0#32
  let c1_i32_22 : BitVec 32 := 1#32
  let arg18 : BitVec 32 := Scf.iv c0_i32_19 c1_i32_22 k0_t2
  let c2_i32 : BitVec 32 := 2#32
  let c0_i32_35 : BitVec 32 := 0#32
  let v42 : BitVec 1 := Scalar.cmpi .eq c2_i32 c0_i32_35
  let c1_i32_36 : BitVec 32 := 1#32
  let v43 : BitVec 32 := Scalar.select v42 c1_i32_36 c2_i32
  let v44 : BitVec 32 := Scalar.remsi arg18 v43
  let c0_i32_38 : BitVec 32 := 0#32
  let v46 : BitVec 1 := Scalar.cmpi .slt v44 c0_i32_38
  let c0_i32_39 : BitVec 32 := 0#32
  let v47 : BitVec 1 := Scalar.cmpi .slt v43 c0_i32_39
  let v48 : BitVec 1 := Scalar.xori v46 v47
  let c0_i32_37 : BitVec 32 := 0#32
  let v45 : BitVec 1 := Scalar.cmpi .ne v44 c0_i32_37
  let v49 : BitVec 1 := Scalar.andi v48 v45
  let v50 : BitVec 32 := Scalar.addi v44 v43
  let v51 : BitVec 32 := Scalar.select v49 v50 v44
  let v80 : Index := Scalar.indexCast v51
  let c0_59 : Index := 0#32
  let c0_60 : Index := 0#32
  ![v80.toNat, 0, 0]
@[reducible] def k0_t3_loop : Scf.Loop 32 :=
  let c0_i32_64 : BitVec 32 := 0#32
  let c27_i32 : BitVec 32 := 27#32
  let v91 : BitVec 32 := Scalar.addi c0_i32_64 c27_i32
  let c1_i32_65 : BitVec 32 := 1#32
  ⟨c0_i32_64, v91, c1_i32_65⟩
def k0_mult1 (k0_t3 : Fin k0_t3_loop.trips) : BitVec 32 :=
  let c64_i32 : BitVec 32 := 64#32
  let c0_i32_64 : BitVec 32 := 0#32
  let c1_i32_65 : BitVec 32 := 1#32
  let arg20 : BitVec 32 := Scf.iv c0_i32_64 c1_i32_65 k0_t3
  let v136 : BitVec 32 := Scalar.muli c64_i32 arg20
  v136
@[reducible] def k0_t4_loop : Scf.Loop 32 :=
  let c0_i32_88 : BitVec 32 := 0#32
  let c10_i32 : BitVec 32 := 10#32
  let v138 : BitVec 32 := Scalar.addi c0_i32_88 c10_i32
  let c1_i32_89 : BitVec 32 := 1#32
  ⟨c0_i32_88, v138, c1_i32_89⟩
def k0_mult2 (k0_t4 : Fin k0_t4_loop.trips) : BitVec 32 :=
  let c128_i32 : BitVec 32 := 128#32
  let c0_i32_88 : BitVec 32 := 0#32
  let c1_i32_89 : BitVec 32 := 1#32
  let arg22 : BitVec 32 := Scf.iv c0_i32_88 c1_i32_89 k0_t4
  let v140 : BitVec 32 := Scalar.muli c128_i32 arg22
  v140
def k0_off24 (v2_0 : BitVec 32) (k0_t2 : Fin (k0_t2_loop v2_0).trips) (k0_t3 : Fin k0_t3_loop.trips) (k0_t4 : Fin k0_t4_loop.trips) : Fin 3 → Nat :=
  let c0_i32_19 : BitVec 32 := 0#32
  let c1_i32_22 : BitVec 32 := 1#32
  let arg18 : BitVec 32 := Scf.iv c0_i32_19 c1_i32_22 k0_t2
  let c2_i32 : BitVec 32 := 2#32
  let c0_i32_35 : BitVec 32 := 0#32
  let v42 : BitVec 1 := Scalar.cmpi .eq c2_i32 c0_i32_35
  let c1_i32_36 : BitVec 32 := 1#32
  let v43 : BitVec 32 := Scalar.select v42 c1_i32_36 c2_i32
  let v44 : BitVec 32 := Scalar.remsi arg18 v43
  let c0_i32_38 : BitVec 32 := 0#32
  let v46 : BitVec 1 := Scalar.cmpi .slt v44 c0_i32_38
  let c0_i32_39 : BitVec 32 := 0#32
  let v47 : BitVec 1 := Scalar.cmpi .slt v43 c0_i32_39
  let v48 : BitVec 1 := Scalar.xori v46 v47
  let c0_i32_37 : BitVec 32 := 0#32
  let v45 : BitVec 1 := Scalar.cmpi .ne v44 c0_i32_37
  let v49 : BitVec 1 := Scalar.andi v48 v45
  let v50 : BitVec 32 := Scalar.addi v44 v43
  let v51 : BitVec 32 := Scalar.select v49 v50 v44
  let v142 : Index := Scalar.indexCast v51
  let c64_i32 : BitVec 32 := 64#32
  let c0_i32_64 : BitVec 32 := 0#32
  let c1_i32_65 : BitVec 32 := 1#32
  let arg20 : BitVec 32 := Scf.iv c0_i32_64 c1_i32_65 k0_t3
  let v136 : BitVec 32 := Scalar.muli c64_i32 arg20
  let v137 : BitVec 32 := v136
  let v143 : Index := Scalar.indexCast v137
  let c128_i32 : BitVec 32 := 128#32
  let c0_i32_88 : BitVec 32 := 0#32
  let c1_i32_89 : BitVec 32 := 1#32
  let arg22 : BitVec 32 := Scf.iv c0_i32_88 c1_i32_89 k0_t4
  let v140 : BitVec 32 := Scalar.muli c128_i32 arg22
  let v141 : BitVec 32 := v140
  let v144 : Index := Scalar.indexCast v141
  ![v142.toNat, v143.toNat, v144.toNat]
def k0_mult3 (k0_t4 : Fin k0_t4_loop.trips) : BitVec 32 :=
  let c128_i32_108 : BitVec 32 := 128#32
  let c0_i32_88 : BitVec 32 := 0#32
  let c1_i32_89 : BitVec 32 := 1#32
  let arg22 : BitVec 32 := Scf.iv c0_i32_88 c1_i32_89 k0_t4
  let c8_i32 : BitVec 32 := 8#32
  let v201 : BitVec 32 := Scalar.divsi arg22 c8_i32
  let v202 : BitVec 32 := Scalar.muli c128_i32_108 v201
  v202
def k0_off25 (k0_t3 : Fin k0_t3_loop.trips) (k0_t4 : Fin k0_t4_loop.trips) : Fin 2 → Nat :=
  let c64_i32 : BitVec 32 := 64#32
  let c0_i32_64 : BitVec 32 := 0#32
  let c1_i32_65 : BitVec 32 := 1#32
  let arg20 : BitVec 32 := Scf.iv c0_i32_64 c1_i32_65 k0_t3
  let v136 : BitVec 32 := Scalar.muli c64_i32 arg20
  let v137 : BitVec 32 := v136
  let v204 : Index := Scalar.indexCast v137
  let c128_i32_108 : BitVec 32 := 128#32
  let c0_i32_88 : BitVec 32 := 0#32
  let c1_i32_89 : BitVec 32 := 1#32
  let arg22 : BitVec 32 := Scf.iv c0_i32_88 c1_i32_89 k0_t4
  let c8_i32 : BitVec 32 := 8#32
  let v201 : BitVec 32 := Scalar.divsi arg22 c8_i32
  let v202 : BitVec 32 := Scalar.muli c128_i32_108 v201
  let v203 : BitVec 32 := v202
  let v205 : Index := Scalar.indexCast v203
  ![v204.toNat, v205.toNat]
def k0_mult4 (k0_t4 : Fin k0_t4_loop.trips) : BitVec 32 :=
  let c128_i32_119 : BitVec 32 := 128#32
  let c0_i32_88 : BitVec 32 := 0#32
  let c1_i32_89 : BitVec 32 := 1#32
  let arg22 : BitVec 32 := Scf.iv c0_i32_88 c1_i32_89 k0_t4
  let v247 : BitVec 32 := Scalar.muli c128_i32_119 arg22
  v247
def k0_off26 (k0_t3 : Fin k0_t3_loop.trips) (k0_t4 : Fin k0_t4_loop.trips) : Fin 2 → Nat :=
  let c64_i32 : BitVec 32 := 64#32
  let c0_i32_64 : BitVec 32 := 0#32
  let c1_i32_65 : BitVec 32 := 1#32
  let arg20 : BitVec 32 := Scf.iv c0_i32_64 c1_i32_65 k0_t3
  let v136 : BitVec 32 := Scalar.muli c64_i32 arg20
  let v137 : BitVec 32 := v136
  let v249 : Index := Scalar.indexCast v137
  let c128_i32_119 : BitVec 32 := 128#32
  let c0_i32_88 : BitVec 32 := 0#32
  let c1_i32_89 : BitVec 32 := 1#32
  let arg22 : BitVec 32 := Scf.iv c0_i32_88 c1_i32_89 k0_t4
  let v247 : BitVec 32 := Scalar.muli c128_i32_119 arg22
  let v248 : BitVec 32 := v247
  let v250 : Index := Scalar.indexCast v248
  ![v249.toNat, v250.toNat]
def k0_mult5 (k0_t4 : Fin k0_t4_loop.trips) : BitVec 32 :=
  let c128_i32_121 : BitVec 32 := 128#32
  let c10_i32_120 : BitVec 32 := 10#32
  let c0_i32_88 : BitVec 32 := 0#32
  let c1_i32_89 : BitVec 32 := 1#32
  let arg22 : BitVec 32 := Scf.iv c0_i32_88 c1_i32_89 k0_t4
  let v255 : BitVec 32 := Scalar.addi c10_i32_120 arg22
  let v256 : BitVec 32 := Scalar.muli c128_i32_121 v255
  v256
def k0_off27 (k0_t3 : Fin k0_t3_loop.trips) (k0_t4 : Fin k0_t4_loop.trips) : Fin 2 → Nat :=
  let c64_i32 : BitVec 32 := 64#32
  let c0_i32_64 : BitVec 32 := 0#32
  let c1_i32_65 : BitVec 32 := 1#32
  let arg20 : BitVec 32 := Scf.iv c0_i32_64 c1_i32_65 k0_t3
  let v136 : BitVec 32 := Scalar.muli c64_i32 arg20
  let v137 : BitVec 32 := v136
  let v258 : Index := Scalar.indexCast v137
  let c128_i32_121 : BitVec 32 := 128#32
  let c10_i32_120 : BitVec 32 := 10#32
  let c0_i32_88 : BitVec 32 := 0#32
  let c1_i32_89 : BitVec 32 := 1#32
  let arg22 : BitVec 32 := Scf.iv c0_i32_88 c1_i32_89 k0_t4
  let v255 : BitVec 32 := Scalar.addi c10_i32_120 arg22
  let v256 : BitVec 32 := Scalar.muli c128_i32_121 v255
  let v257 : BitVec 32 := v256
  let v259 : Index := Scalar.indexCast v257
  ![v258.toNat, v259.toNat]
@[reducible] def k0_t5_loop (v38 : BitVec 32) (v40 : BitVec 32) : Scf.Loop 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_84 : BitVec 32 := 1#32
  ⟨v109, v133, c1_i32_84⟩

def k0_off28 (v36 : BitVec 32) : Fin 1 → Nat :=
  let v136 : Index := Scalar.indexCast v36
  ![v136.toNat]
@[reducible] def k0_t6_loop : Scf.Loop 32 :=
  let c0_i32_88 : BitVec 32 := 0#32
  let c256_i32_89 : BitVec 32 := 256#32
  let v138 : BitVec 32 := Scalar.addi c0_i32_88 c256_i32_89
  let c1_i32_90 : BitVec 32 := 1#32
  ⟨c0_i32_88, v138, c1_i32_90⟩
def k0_off29 (v38 : BitVec 32) (v40 : BitVec 32) (k0_t5 : Fin (k0_t5_loop v38 v40).trips) (k0_t6 : Fin k0_t6_loop.trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c256_i32_114 : BitVec 32 := 256#32
  let v171 : BitVec 32 := Scalar.muli arg20 c256_i32_114
  let c0_i32_88 : BitVec 32 := 0#32
  let c1_i32_90 : BitVec 32 := 1#32
  let arg22 : BitVec 32 := Scf.iv c0_i32_88 c1_i32_90 k0_t6
  let v172 : BitVec 32 := Scalar.addi v171 arg22
  let v173 : Index := Scalar.indexCast v172
  ![v173.toNat]
def k0_off30 (v174 : BitVec 32) : Fin 2 → Nat :=
  let v175 : Index := Scalar.indexCast v174
  let c0_115 : Index := 0#32
  ![v175.toNat, 0]

def k0_chk8 (v174 : BitVec 32) : Prop :=
  (∀ a, (k0_off30 v174) a + S1x384.size a ≤ S9216x384.size a)
theorem k0_off30_inb : ∀ (v174 : BitVec 32) (k0_hw8 : k0_chk8 v174), ∀ a, (k0_off30 v174) a + S1x384.size a ≤ S9216x384.size a := fun v174 k0_hw8 => k0_hw8

def k0_off31 (k0_t6 : Fin k0_t6_loop.trips) : Fin 2 → Nat :=
  let c0_i32_88 : BitVec 32 := 0#32
  let c1_i32_90 : BitVec 32 := 1#32
  let arg22 : BitVec 32 := Scf.iv c0_i32_88 c1_i32_90 k0_t6
  let v177 : Index := Scalar.indexCast arg22
  let c0_116 : Index := 0#32
  ![v177.toNat, 0]
@[reducible] def k0_t7_loop : Scf.Loop 32 :=
  let c0_i32_93 : BitVec 32 := 0#32
  let c10_i32 : BitVec 32 := 10#32
  let v140 : BitVec 32 := Scalar.addi c0_i32_93 c10_i32
  let c1_i32_94 : BitVec 32 := 1#32
  ⟨c0_i32_93, v140, c1_i32_94⟩
def k0_mult6 (k0_t7 : Fin k0_t7_loop.trips) : BitVec 32 :=
  let c128_i32 : BitVec 32 := 128#32
  let c0_i32_93 : BitVec 32 := 0#32
  let c1_i32_94 : BitVec 32 := 1#32
  let arg22 : BitVec 32 := Scf.iv c0_i32_93 c1_i32_94 k0_t7
  let c4_i32 : BitVec 32 := 4#32
  let v182 : BitVec 32 := Scalar.divsi arg22 c4_i32
  let v183 : BitVec 32 := Scalar.muli c128_i32 v182
  v183
def k0_off32 (k0_t7 : Fin k0_t7_loop.trips) : Fin 2 → Nat :=
  let c0_116 : Index := 0#32
  let c128_i32 : BitVec 32 := 128#32
  let c0_i32_93 : BitVec 32 := 0#32
  let c1_i32_94 : BitVec 32 := 1#32
  let arg22 : BitVec 32 := Scf.iv c0_i32_93 c1_i32_94 k0_t7
  let c4_i32 : BitVec 32 := 4#32
  let v182 : BitVec 32 := Scalar.divsi arg22 c4_i32
  let v183 : BitVec 32 := Scalar.muli c128_i32 v182
  let v184 : BitVec 32 := v183
  let v185 : Index := Scalar.indexCast v184
  ![0, v185.toNat]
def k0_mult7 (k0_t7 : Fin k0_t7_loop.trips) : BitVec 32 :=
  let c128_i32_149 : BitVec 32 := 128#32
  let c0_i32_93 : BitVec 32 := 0#32
  let c1_i32_94 : BitVec 32 := 1#32
  let arg22 : BitVec 32 := Scf.iv c0_i32_93 c1_i32_94 k0_t7
  let v288 : BitVec 32 := Scalar.muli c128_i32_149 arg22
  v288
def k0_off33 (k0_t7 : Fin k0_t7_loop.trips) : Fin 2 → Nat :=
  let c0_150 : Index := 0#32
  let c128_i32_149 : BitVec 32 := 128#32
  let c0_i32_93 : BitVec 32 := 0#32
  let c1_i32_94 : BitVec 32 := 1#32
  let arg22 : BitVec 32 := Scf.iv c0_i32_93 c1_i32_94 k0_t7
  let v288 : BitVec 32 := Scalar.muli c128_i32_149 arg22
  let v289 : BitVec 32 := v288
  let v290 : Index := Scalar.indexCast v289
  ![0, v290.toNat]
def k0_mult8 (k0_t7 : Fin k0_t7_loop.trips) : BitVec 32 :=
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t7
  let v295 : BitVec 32 := Scalar.addi c10_i32_151 arg22
  let v296 : BitVec 32 := Scalar.muli c128_i32_152 v295
  v296
def k0_off34 (k0_t7 : Fin k0_t7_loop.trips) : Fin 2 → Nat :=
  let c0_153 : Index := 0#32
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t7
  let v295 : BitVec 32 := Scalar.addi c10_i32_151 arg22
  let v296 : BitVec 32 := Scalar.muli c128_i32_152 v295
  let v297 : BitVec 32 := v296
  let v298 : Index := Scalar.indexCast v297
  ![0, v298.toNat]
def k0_mult9 (v38 : BitVec 32) (v40 : BitVec 32) (k0_t5 : Fin (k0_t5_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_118 : BitVec 32 := 2#32
  let v178 : BitVec 32 := Scalar.subi arg20 c2_i32_118
  let c256_i32_125 : BitVec 32 := 256#32
  let v189 : BitVec 32 := Scalar.muli v178 c256_i32_125
  v189
def k0_cond3 (v38 : BitVec 32) (v40 : BitVec 32) (k0_t5 : Fin (k0_t5_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c256_i32_107 : BitVec 32 := 256#32
  let v159 : BitVec 32 := Scalar.muli arg20 c256_i32_107
  let v160 : BitVec 1 := Scalar.cmpi .sle v38 v159
  let v161 : BitVec 32 := Scalar.extui v160
  let c0_i32_108 : BitVec 32 := 0#32
  let v162 : BitVec 1 := Scalar.cmpi .ne v161 c0_i32_108
  v162

def k0_cond4 (v38 : BitVec 32) (v40 : BitVec 32) (k0_t5 : Fin (k0_t5_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_114 : BitVec 32 := 2#32
  let v171 : BitVec 1 := Scalar.cmpi .sge arg20 c2_i32_114
  let v172 : BitVec 32 := Scalar.extui v171
  let c0_i32_115 : BitVec 32 := 0#32
  let v173 : BitVec 1 := Scalar.cmpi .ne v172 c0_i32_115
  v173

def k0_off35 (v38 : BitVec 32) (v40 : BitVec 32) (k0_t5 : Fin (k0_t5_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  ![v188.toNat]
def k0_off36 (v38 : BitVec 32) (v40 : BitVec 32) (k0_t5 : Fin (k0_t5_loop v38 v40).trips) : Fin 2 → Nat :=
  let c0_i32_126 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_118 : BitVec 32 := 2#32
  let v178 : BitVec 32 := Scalar.subi arg20 c2_i32_118
  let c256_i32_125 : BitVec 32 := 256#32
  let v189 : BitVec 32 := Scalar.muli v178 c256_i32_125
  let v190 : BitVec 32 := v189
  ![0, v190.toNat]
def k0_off37 (v38 : BitVec 32) (v40 : BitVec 32) (k0_t5 : Fin (k0_t5_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  let c0_i32_127 : BitVec 32 := 0#32
  let c0_i32_128 : BitVec 32 := 0#32
  ![v188.toNat, 0, 0]
def k0_off38 (v38 : BitVec 32) (v40 : BitVec 32) (k0_t5 : Fin (k0_t5_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v174 : Index := Scalar.indexCast v158
  let c0_116 : Index := 0#32
  let c0_117 : Index := 0#32
  ![v174.toNat, 0, 0]
def k0_off39 (v38 : BitVec 32) (v40 : BitVec 32) (k0_t5 : Fin (k0_t5_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v177 : Index := Scalar.indexCast v158
  let c0_115 : Index := 0#32
  let c0_116 : Index := 0#32
  ![v177.toNat, 0, 0]
def k0_cond5 (v38 : BitVec 32) (v40 : BitVec 32) (k0_t5 : Fin (k0_t5_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c256_i32_107 : BitVec 32 := 256#32
  let v159 : BitVec 32 := Scalar.muli arg20 c256_i32_107
  let v160 : BitVec 1 := Scalar.cmpi .sle v38 v159
  let v_true : BitVec 1 := 1#1
  let v163 : BitVec 1 := Scalar.xori v160 v_true
  let v164 : BitVec 32 := Scalar.extui v163
  let c0_i32_109 : BitVec 32 := 0#32
  let v165 : BitVec 1 := Scalar.cmpi .ne v164 c0_i32_109
  v165

def k0_mult10 (v38 : BitVec 32) (v40 : BitVec 32) (k0_t5 : Fin (k0_t5_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c256_i32_120 : BitVec 32 := 256#32
  let v181 : BitVec 32 := Scalar.muli arg20 c256_i32_120
  v181
def k0_cond6 (v38 : BitVec 32) (v40 : BitVec 32) (k0_t5 : Fin (k0_t5_loop v38 v40).trips) : BitVec 1 :=
  let v41 : BitVec 32 := Scalar.addi v38 v40
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c1_i32_110 : BitVec 32 := 1#32
  let v166 : BitVec 32 := Scalar.addi arg20 c1_i32_110
  let c256_i32_111 : BitVec 32 := 256#32
  let v167 : BitVec 32 := Scalar.muli v166 c256_i32_111
  let v168 : BitVec 1 := Scalar.cmpi .sge v41 v167
  let v169 : BitVec 32 := Scalar.extui v168
  let c0_i32_112 : BitVec 32 := 0#32
  let v170 : BitVec 1 := Scalar.cmpi .ne v169 c0_i32_112
  v170

def k0_off40 (v38 : BitVec 32) (v40 : BitVec 32) (k0_t5 : Fin (k0_t5_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  ![v180.toNat]
def k0_off41 (v38 : BitVec 32) (v40 : BitVec 32) (k0_t5 : Fin (k0_t5_loop v38 v40).trips) : Fin 2 → Nat :=
  let c0_i32_121 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c256_i32_120 : BitVec 32 := 256#32
  let v181 : BitVec 32 := Scalar.muli arg20 c256_i32_120
  let v182 : BitVec 32 := v181
  ![0, v182.toNat]
def k0_off42 (v38 : BitVec 32) (v40 : BitVec 32) (k0_t5 : Fin (k0_t5_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t5
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  let c0_i32_122 : BitVec 32 := 0#32
  let c0_i32_123 : BitVec 32 := 0#32
  ![v180.toNat, 0, 0]
@[reducible] def k0_t8_loop (v38 : BitVec 32) (v40 : BitVec 32) : Scf.Loop 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let v130 : BitVec 32 := Scalar.addi v109 v129
  let c1_i32_85 : BitVec 32 := 1#32
  ⟨v133, v130, c1_i32_85⟩
def k0_off43 (v36 : BitVec 32) : Fin 1 → Nat :=
  let v136 : Index := Scalar.indexCast v36
  ![v136.toNat]
@[reducible] def k0_t9_loop : Scf.Loop 32 :=
  let c0_i32_88 : BitVec 32 := 0#32
  let c256_i32_89 : BitVec 32 := 256#32
  let v138 : BitVec 32 := Scalar.addi c0_i32_88 c256_i32_89
  let c1_i32_90 : BitVec 32 := 1#32
  ⟨c0_i32_88, v138, c1_i32_90⟩
def k0_off44 (v38 : BitVec 32) (v40 : BitVec 32) (k0_t8 : Fin (k0_t8_loop v38 v40).trips) (k0_t9 : Fin k0_t9_loop.trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c256_i32_114 : BitVec 32 := 256#32
  let v171 : BitVec 32 := Scalar.muli arg20 c256_i32_114
  let c0_i32_88 : BitVec 32 := 0#32
  let c1_i32_90 : BitVec 32 := 1#32
  let arg22 : BitVec 32 := Scf.iv c0_i32_88 c1_i32_90 k0_t9
  let v172 : BitVec 32 := Scalar.addi v171 arg22
  let v173 : Index := Scalar.indexCast v172
  ![v173.toNat]
def k0_off45 (v174 : BitVec 32) : Fin 2 → Nat :=
  let v175 : Index := Scalar.indexCast v174
  let c0_115 : Index := 0#32
  ![v175.toNat, 0]

def k0_chk9 (v174 : BitVec 32) : Prop :=
  (∀ a, (k0_off45 v174) a + S1x384.size a ≤ S9216x384.size a)
theorem k0_off45_inb : ∀ (v174 : BitVec 32) (k0_hw9 : k0_chk9 v174), ∀ a, (k0_off45 v174) a + S1x384.size a ≤ S9216x384.size a := fun v174 k0_hw9 => k0_hw9

def k0_off46 (k0_t9 : Fin k0_t9_loop.trips) : Fin 2 → Nat :=
  let c0_i32_88 : BitVec 32 := 0#32
  let c1_i32_90 : BitVec 32 := 1#32
  let arg22 : BitVec 32 := Scf.iv c0_i32_88 c1_i32_90 k0_t9
  let v177 : Index := Scalar.indexCast arg22
  let c0_116 : Index := 0#32
  ![v177.toNat, 0]
@[reducible] def k0_t10_loop : Scf.Loop 32 :=
  let c0_i32_93 : BitVec 32 := 0#32
  let c10_i32 : BitVec 32 := 10#32
  let v140 : BitVec 32 := Scalar.addi c0_i32_93 c10_i32
  let c1_i32_94 : BitVec 32 := 1#32
  ⟨c0_i32_93, v140, c1_i32_94⟩
def k0_mult11 (k0_t10 : Fin k0_t10_loop.trips) : BitVec 32 :=
  let c128_i32 : BitVec 32 := 128#32
  let c0_i32_93 : BitVec 32 := 0#32
  let c1_i32_94 : BitVec 32 := 1#32
  let arg22 : BitVec 32 := Scf.iv c0_i32_93 c1_i32_94 k0_t10
  let c4_i32 : BitVec 32 := 4#32
  let v182 : BitVec 32 := Scalar.divsi arg22 c4_i32
  let v183 : BitVec 32 := Scalar.muli c128_i32 v182
  v183
def k0_off47 (k0_t10 : Fin k0_t10_loop.trips) : Fin 2 → Nat :=
  let c0_116 : Index := 0#32
  let c128_i32 : BitVec 32 := 128#32
  let c0_i32_93 : BitVec 32 := 0#32
  let c1_i32_94 : BitVec 32 := 1#32
  let arg22 : BitVec 32 := Scf.iv c0_i32_93 c1_i32_94 k0_t10
  let c4_i32 : BitVec 32 := 4#32
  let v182 : BitVec 32 := Scalar.divsi arg22 c4_i32
  let v183 : BitVec 32 := Scalar.muli c128_i32 v182
  let v184 : BitVec 32 := v183
  let v185 : Index := Scalar.indexCast v184
  ![0, v185.toNat]
def k0_mult12 (k0_t10 : Fin k0_t10_loop.trips) : BitVec 32 :=
  let c128_i32_149 : BitVec 32 := 128#32
  let c0_i32_93 : BitVec 32 := 0#32
  let c1_i32_94 : BitVec 32 := 1#32
  let arg22 : BitVec 32 := Scf.iv c0_i32_93 c1_i32_94 k0_t10
  let v288 : BitVec 32 := Scalar.muli c128_i32_149 arg22
  v288
def k0_off48 (k0_t10 : Fin k0_t10_loop.trips) : Fin 2 → Nat :=
  let c0_150 : Index := 0#32
  let c128_i32_149 : BitVec 32 := 128#32
  let c0_i32_93 : BitVec 32 := 0#32
  let c1_i32_94 : BitVec 32 := 1#32
  let arg22 : BitVec 32 := Scf.iv c0_i32_93 c1_i32_94 k0_t10
  let v288 : BitVec 32 := Scalar.muli c128_i32_149 arg22
  let v289 : BitVec 32 := v288
  let v290 : Index := Scalar.indexCast v289
  ![0, v290.toNat]
def k0_mult13 (k0_t10 : Fin k0_t10_loop.trips) : BitVec 32 :=
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t10
  let v295 : BitVec 32 := Scalar.addi c10_i32_151 arg22
  let v296 : BitVec 32 := Scalar.muli c128_i32_152 v295
  v296
def k0_off49 (k0_t10 : Fin k0_t10_loop.trips) : Fin 2 → Nat :=
  let c0_153 : Index := 0#32
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t10
  let v295 : BitVec 32 := Scalar.addi c10_i32_151 arg22
  let v296 : BitVec 32 := Scalar.muli c128_i32_152 v295
  let v297 : BitVec 32 := v296
  let v298 : Index := Scalar.indexCast v297
  ![0, v298.toNat]
def k0_mult14 (v38 : BitVec 32) (v40 : BitVec 32) (k0_t8 : Fin (k0_t8_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_118 : BitVec 32 := 2#32
  let v178 : BitVec 32 := Scalar.subi arg20 c2_i32_118
  let c256_i32_125 : BitVec 32 := 256#32
  let v189 : BitVec 32 := Scalar.muli v178 c256_i32_125
  v189
def k0_cond7 (v38 : BitVec 32) (v40 : BitVec 32) (k0_t8 : Fin (k0_t8_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c256_i32_107 : BitVec 32 := 256#32
  let v159 : BitVec 32 := Scalar.muli arg20 c256_i32_107
  let v160 : BitVec 1 := Scalar.cmpi .sle v38 v159
  let v161 : BitVec 32 := Scalar.extui v160
  let c0_i32_108 : BitVec 32 := 0#32
  let v162 : BitVec 1 := Scalar.cmpi .ne v161 c0_i32_108
  v162

def k0_cond8 (v38 : BitVec 32) (v40 : BitVec 32) (k0_t8 : Fin (k0_t8_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_114 : BitVec 32 := 2#32
  let v171 : BitVec 1 := Scalar.cmpi .sge arg20 c2_i32_114
  let v172 : BitVec 32 := Scalar.extui v171
  let c0_i32_115 : BitVec 32 := 0#32
  let v173 : BitVec 1 := Scalar.cmpi .ne v172 c0_i32_115
  v173

def k0_off50 (v38 : BitVec 32) (v40 : BitVec 32) (k0_t8 : Fin (k0_t8_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  ![v188.toNat]
def k0_off51 (v38 : BitVec 32) (v40 : BitVec 32) (k0_t8 : Fin (k0_t8_loop v38 v40).trips) : Fin 2 → Nat :=
  let c0_i32_126 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_118 : BitVec 32 := 2#32
  let v178 : BitVec 32 := Scalar.subi arg20 c2_i32_118
  let c256_i32_125 : BitVec 32 := 256#32
  let v189 : BitVec 32 := Scalar.muli v178 c256_i32_125
  let v190 : BitVec 32 := v189
  ![0, v190.toNat]
def k0_off52 (v38 : BitVec 32) (v40 : BitVec 32) (k0_t8 : Fin (k0_t8_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  let c0_i32_127 : BitVec 32 := 0#32
  let c0_i32_128 : BitVec 32 := 0#32
  ![v188.toNat, 0, 0]
def k0_off53 (v38 : BitVec 32) (v40 : BitVec 32) (k0_t8 : Fin (k0_t8_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v174 : Index := Scalar.indexCast v158
  let c0_116 : Index := 0#32
  let c0_117 : Index := 0#32
  ![v174.toNat, 0, 0]
def k0_off54 (v38 : BitVec 32) (v40 : BitVec 32) (k0_t8 : Fin (k0_t8_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v177 : Index := Scalar.indexCast v158
  let c0_115 : Index := 0#32
  let c0_116 : Index := 0#32
  ![v177.toNat, 0, 0]
def k0_cond9 (v38 : BitVec 32) (v40 : BitVec 32) (k0_t8 : Fin (k0_t8_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c256_i32_107 : BitVec 32 := 256#32
  let v159 : BitVec 32 := Scalar.muli arg20 c256_i32_107
  let v160 : BitVec 1 := Scalar.cmpi .sle v38 v159
  let v_true : BitVec 1 := 1#1
  let v163 : BitVec 1 := Scalar.xori v160 v_true
  let v164 : BitVec 32 := Scalar.extui v163
  let c0_i32_109 : BitVec 32 := 0#32
  let v165 : BitVec 1 := Scalar.cmpi .ne v164 c0_i32_109
  v165

def k0_mult15 (v38 : BitVec 32) (v40 : BitVec 32) (k0_t8 : Fin (k0_t8_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c256_i32_120 : BitVec 32 := 256#32
  let v181 : BitVec 32 := Scalar.muli arg20 c256_i32_120
  v181
def k0_cond10 (v38 : BitVec 32) (v40 : BitVec 32) (k0_t8 : Fin (k0_t8_loop v38 v40).trips) : BitVec 1 :=
  let v41 : BitVec 32 := Scalar.addi v38 v40
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c1_i32_110 : BitVec 32 := 1#32
  let v166 : BitVec 32 := Scalar.addi arg20 c1_i32_110
  let c256_i32_111 : BitVec 32 := 256#32
  let v167 : BitVec 32 := Scalar.muli v166 c256_i32_111
  let v168 : BitVec 1 := Scalar.cmpi .sge v41 v167
  let v169 : BitVec 32 := Scalar.extui v168
  let c0_i32_112 : BitVec 32 := 0#32
  let v170 : BitVec 1 := Scalar.cmpi .ne v169 c0_i32_112
  v170

def k0_off55 (v38 : BitVec 32) (v40 : BitVec 32) (k0_t8 : Fin (k0_t8_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  ![v180.toNat]
def k0_off56 (v38 : BitVec 32) (v40 : BitVec 32) (k0_t8 : Fin (k0_t8_loop v38 v40).trips) : Fin 2 → Nat :=
  let c0_i32_121 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c256_i32_120 : BitVec 32 := 256#32
  let v181 : BitVec 32 := Scalar.muli arg20 c256_i32_120
  let v182 : BitVec 32 := v181
  ![0, v182.toNat]
def k0_off57 (v38 : BitVec 32) (v40 : BitVec 32) (k0_t8 : Fin (k0_t8_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t8
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  let c0_i32_122 : BitVec 32 := 0#32
  let c0_i32_123 : BitVec 32 := 0#32
  ![v180.toNat, 0, 0]

def k0_chk7_0 (v36 : BitVec 32) (v38 : BitVec 32) (v40 : BitVec 32) : Prop :=
  ((k0_t5_loop v38 v40).OK) ∧
  (∀ k0_t5 : Fin (k0_t5_loop v38 v40).trips, ∀ a, (k0_off28 v36) a + S1.size a ≤ S11.size a) ∧
  (∀ (k0_t5 : Fin (k0_t5_loop v38 v40).trips) (k0_t6 : Fin k0_t6_loop.trips), ∀ a, (k0_off29 v38 v40 k0_t5 k0_t6) a + S1.size a ≤ S18432.size a) ∧
  (∀ k0_t5 : Fin (k0_t5_loop v38 v40).trips, ∀ (k0_h3 : k0_cond3 v38 v40 k0_t5 = 1#1), ∀ (k0_h4 : k0_cond4 v38 v40 k0_t5 = 1#1), 256 ∣ (k0_mult9 v38 v40 k0_t5).toNat) ∧
  (∀ k0_t5 : Fin (k0_t5_loop v38 v40).trips, ∀ (k0_h3 : k0_cond3 v38 v40 k0_t5 = 1#1), ∀ (k0_h4 : k0_cond4 v38 v40 k0_t5 = 1#1), ∀ a, (k0_off35 v38 v40 k0_t5) a + S1.size a ≤ S2.size a) ∧
  (∀ k0_t5 : Fin (k0_t5_loop v38 v40).trips, ∀ (k0_h3 : k0_cond3 v38 v40 k0_t5 = 1#1), ∀ (k0_h4 : k0_cond4 v38 v40 k0_t5 = 1#1), ∀ a, (k0_off36 v38 v40 k0_t5) a + S1728x256.size a ≤ S1728x18432.size a) ∧
  (∀ k0_t5 : Fin (k0_t5_loop v38 v40).trips, ∀ (k0_h3 : k0_cond3 v38 v40 k0_t5 = 1#1), ∀ (k0_h4 : k0_cond4 v38 v40 k0_t5 = 1#1), ∀ a, (k0_off37 v38 v40 k0_t5) a + S1x1728x256.size a ≤ S2x1728x256.size a) ∧
  (∀ k0_t5 : Fin (k0_t5_loop v38 v40).trips, ∀ (k0_h3 : k0_cond3 v38 v40 k0_t5 = 1#1), ∀ (k0_h4 : k0_cond4 v38 v40 k0_t5 = 1#1), ∀ (hinb : ∀ a, (k0_off37 v38 v40 k0_t5) a + S1x1728x256.size a ≤ S2x1728x256.size a), (Rect.unit (s := S2x1728x256) (k0_off37 v38 v40 k0_t5) S1x1728x256.size hinb).WholeWords (EltTy.packing .bf16)) ∧
  (∀ k0_t5 : Fin (k0_t5_loop v38 v40).trips, ∀ (k0_h3 : k0_cond3 v38 v40 k0_t5 = 1#1), ∀ (k0_h4 : k0_cond4 v38 v40 k0_t5 = 1#1), ∀ (hinb : ∀ a, (k0_off36 v38 v40 k0_t5) a + S1728x256.size a ≤ S1728x18432.size a), (Rect.unit (s := S1728x18432) (k0_off36 v38 v40 k0_t5) S1728x256.size hinb).WholeWords (EltTy.packing .bf16)) ∧
  (∀ k0_t5 : Fin (k0_t5_loop v38 v40).trips, ∀ (k0_h3 : k0_cond3 v38 v40 k0_t5 = 1#1), ∀ a, (k0_off38 v38 v40 k0_t5) a + S1x1728x256.size a ≤ S2x1728x256.size a) ∧
  (∀ k0_t5 : Fin (k0_t5_loop v38 v40).trips, ∀ (k0_h3 : k0_cond3 v38 v40 k0_t5 = 1#1), ∀ (hinb : ∀ a, (k0_off38 v38 v40 k0_t5) a + S1x1728x256.size a ≤ S2x1728x256.size a), (Rect.unit (s := S2x1728x256) (k0_off38 v38 v40 k0_t5) S1x1728x256.size hinb).PackedRows (EltTy.packing .bf16)) ∧
  (∀ k0_t5 : Fin (k0_t5_loop v38 v40).trips, ∀ (k0_h5 : k0_cond5 v38 v40 k0_t5 = 1#1), ∀ a, (k0_off39 v38 v40 k0_t5) a + S1x1728x256.size a ≤ S2x1728x256.size a) ∧
  (∀ k0_t5 : Fin (k0_t5_loop v38 v40).trips, ∀ (k0_h5 : k0_cond5 v38 v40 k0_t5 = 1#1), ∀ (hinb : ∀ a, (k0_off39 v38 v40 k0_t5) a + S1x1728x256.size a ≤ S2x1728x256.size a), (Rect.unit (s := S2x1728x256) (k0_off39 v38 v40 k0_t5) S1x1728x256.size hinb).PackedRows (EltTy.packing .bf16)) ∧
  (∀ k0_t5 : Fin (k0_t5_loop v38 v40).trips, ∀ (k0_h6 : k0_cond6 v38 v40 k0_t5 = 1#1), 256 ∣ (k0_mult10 v38 v40 k0_t5).toNat) ∧
  (∀ k0_t5 : Fin (k0_t5_loop v38 v40).trips, ∀ (k0_h6 : k0_cond6 v38 v40 k0_t5 = 1#1), ∀ a, (k0_off40 v38 v40 k0_t5) a + S1.size a ≤ S2.size a) ∧
  (∀ k0_t5 : Fin (k0_t5_loop v38 v40).trips, ∀ (k0_h6 : k0_cond6 v38 v40 k0_t5 = 1#1), ∀ a, (k0_off41 v38 v40 k0_t5) a + S1728x256.size a ≤ S1728x18432.size a) ∧
  (∀ k0_t5 : Fin (k0_t5_loop v38 v40).trips, ∀ (k0_h6 : k0_cond6 v38 v40 k0_t5 = 1#1), ∀ a, (k0_off42 v38 v40 k0_t5) a + S1x1728x256.size a ≤ S2x1728x256.size a) ∧
  (∀ k0_t5 : Fin (k0_t5_loop v38 v40).trips, ∀ (k0_h6 : k0_cond6 v38 v40 k0_t5 = 1#1), ∀ (hinb : ∀ a, (k0_off42 v38 v40 k0_t5) a + S1x1728x256.size a ≤ S2x1728x256.size a), (Rect.unit (s := S2x1728x256) (k0_off42 v38 v40 k0_t5) S1x1728x256.size hinb).WholeWords (EltTy.packing .bf16)) ∧
  (∀ k0_t5 : Fin (k0_t5_loop v38 v40).trips, ∀ (k0_h6 : k0_cond6 v38 v40 k0_t5 = 1#1), ∀ (hinb : ∀ a, (k0_off41 v38 v40 k0_t5) a + S1728x256.size a ≤ S1728x18432.size a), (Rect.unit (s := S1728x18432) (k0_off41 v38 v40 k0_t5) S1728x256.size hinb).WholeWords (EltTy.packing .bf16)) ∧
  ((k0_t8_loop v38 v40).OK) ∧
  (∀ k0_t8 : Fin (k0_t8_loop v38 v40).trips, ∀ a, (k0_off43 v36) a + S1.size a ≤ S11.size a) ∧
  (∀ (k0_t8 : Fin (k0_t8_loop v38 v40).trips) (k0_t9 : Fin k0_t9_loop.trips), ∀ a, (k0_off44 v38 v40 k0_t8 k0_t9) a + S1.size a ≤ S18432.size a) ∧
  (∀ k0_t8 : Fin (k0_t8_loop v38 v40).trips, ∀ (k0_h7 : k0_cond7 v38 v40 k0_t8 = 1#1), ∀ (k0_h8 : k0_cond8 v38 v40 k0_t8 = 1#1), 256 ∣ (k0_mult14 v38 v40 k0_t8).toNat) ∧
  (∀ k0_t8 : Fin (k0_t8_loop v38 v40).trips, ∀ (k0_h7 : k0_cond7 v38 v40 k0_t8 = 1#1), ∀ (k0_h8 : k0_cond8 v38 v40 k0_t8 = 1#1), ∀ a, (k0_off50 v38 v40 k0_t8) a + S1.size a ≤ S2.size a) ∧
  (∀ k0_t8 : Fin (k0_t8_loop v38 v40).trips, ∀ (k0_h7 : k0_cond7 v38 v40 k0_t8 = 1#1), ∀ (k0_h8 : k0_cond8 v38 v40 k0_t8 = 1#1), ∀ a, (k0_off51 v38 v40 k0_t8) a + S1728x256.size a ≤ S1728x18432.size a) ∧
  (∀ k0_t8 : Fin (k0_t8_loop v38 v40).trips, ∀ (k0_h7 : k0_cond7 v38 v40 k0_t8 = 1#1), ∀ (k0_h8 : k0_cond8 v38 v40 k0_t8 = 1#1), ∀ a, (k0_off52 v38 v40 k0_t8) a + S1x1728x256.size a ≤ S2x1728x256.size a) ∧
  (∀ k0_t8 : Fin (k0_t8_loop v38 v40).trips, ∀ (k0_h7 : k0_cond7 v38 v40 k0_t8 = 1#1), ∀ (k0_h8 : k0_cond8 v38 v40 k0_t8 = 1#1), ∀ (hinb : ∀ a, (k0_off52 v38 v40 k0_t8) a + S1x1728x256.size a ≤ S2x1728x256.size a), (Rect.unit (s := S2x1728x256) (k0_off52 v38 v40 k0_t8) S1x1728x256.size hinb).WholeWords (EltTy.packing .bf16)) ∧
  (∀ k0_t8 : Fin (k0_t8_loop v38 v40).trips, ∀ (k0_h7 : k0_cond7 v38 v40 k0_t8 = 1#1), ∀ (k0_h8 : k0_cond8 v38 v40 k0_t8 = 1#1), ∀ (hinb : ∀ a, (k0_off51 v38 v40 k0_t8) a + S1728x256.size a ≤ S1728x18432.size a), (Rect.unit (s := S1728x18432) (k0_off51 v38 v40 k0_t8) S1728x256.size hinb).WholeWords (EltTy.packing .bf16)) ∧
  (∀ k0_t8 : Fin (k0_t8_loop v38 v40).trips, ∀ (k0_h7 : k0_cond7 v38 v40 k0_t8 = 1#1), ∀ a, (k0_off53 v38 v40 k0_t8) a + S1x1728x256.size a ≤ S2x1728x256.size a) ∧
  (∀ k0_t8 : Fin (k0_t8_loop v38 v40).trips, ∀ (k0_h7 : k0_cond7 v38 v40 k0_t8 = 1#1), ∀ (hinb : ∀ a, (k0_off53 v38 v40 k0_t8) a + S1x1728x256.size a ≤ S2x1728x256.size a), (Rect.unit (s := S2x1728x256) (k0_off53 v38 v40 k0_t8) S1x1728x256.size hinb).PackedRows (EltTy.packing .bf16)) ∧
  (∀ k0_t8 : Fin (k0_t8_loop v38 v40).trips, ∀ (k0_h9 : k0_cond9 v38 v40 k0_t8 = 1#1), ∀ a, (k0_off54 v38 v40 k0_t8) a + S1x1728x256.size a ≤ S2x1728x256.size a) ∧
  (∀ k0_t8 : Fin (k0_t8_loop v38 v40).trips, ∀ (k0_h9 : k0_cond9 v38 v40 k0_t8 = 1#1), ∀ (hinb : ∀ a, (k0_off54 v38 v40 k0_t8) a + S1x1728x256.size a ≤ S2x1728x256.size a), (Rect.unit (s := S2x1728x256) (k0_off54 v38 v40 k0_t8) S1x1728x256.size hinb).PackedRows (EltTy.packing .bf16))
def k0_chk7_1 (v36 : BitVec 32) (v38 : BitVec 32) (v40 : BitVec 32) : Prop :=
  (∀ k0_t8 : Fin (k0_t8_loop v38 v40).trips, ∀ (k0_h10 : k0_cond10 v38 v40 k0_t8 = 1#1), 256 ∣ (k0_mult15 v38 v40 k0_t8).toNat) ∧
  (∀ k0_t8 : Fin (k0_t8_loop v38 v40).trips, ∀ (k0_h10 : k0_cond10 v38 v40 k0_t8 = 1#1), ∀ a, (k0_off55 v38 v40 k0_t8) a + S1.size a ≤ S2.size a) ∧
  (∀ k0_t8 : Fin (k0_t8_loop v38 v40).trips, ∀ (k0_h10 : k0_cond10 v38 v40 k0_t8 = 1#1), ∀ a, (k0_off56 v38 v40 k0_t8) a + S1728x256.size a ≤ S1728x18432.size a) ∧
  (∀ k0_t8 : Fin (k0_t8_loop v38 v40).trips, ∀ (k0_h10 : k0_cond10 v38 v40 k0_t8 = 1#1), ∀ a, (k0_off57 v38 v40 k0_t8) a + S1x1728x256.size a ≤ S2x1728x256.size a) ∧
  (∀ k0_t8 : Fin (k0_t8_loop v38 v40).trips, ∀ (k0_h10 : k0_cond10 v38 v40 k0_t8 = 1#1), ∀ (hinb : ∀ a, (k0_off57 v38 v40 k0_t8) a + S1x1728x256.size a ≤ S2x1728x256.size a), (Rect.unit (s := S2x1728x256) (k0_off57 v38 v40 k0_t8) S1x1728x256.size hinb).WholeWords (EltTy.packing .bf16)) ∧
  (∀ k0_t8 : Fin (k0_t8_loop v38 v40).trips, ∀ (k0_h10 : k0_cond10 v38 v40 k0_t8 = 1#1), ∀ (hinb : ∀ a, (k0_off56 v38 v40 k0_t8) a + S1728x256.size a ≤ S1728x18432.size a), (Rect.unit (s := S1728x18432) (k0_off56 v38 v40 k0_t8) S1728x256.size hinb).WholeWords (EltTy.packing .bf16))
def k0_chk7 (v36 : BitVec 32) (v38 : BitVec 32) (v40 : BitVec 32) : Prop :=
  k0_chk7_0 v36 v38 v40 ∧
  k0_chk7_1 v36 v38 v40
theorem k0_t5_ok : ∀ (v36 : BitVec 32) (v38 : BitVec 32) (v40 : BitVec 32) (k0_hw7 : k0_chk7 v36 v38 v40), (k0_t5_loop v38 v40).OK := fun v36 v38 v40 k0_hw7 => k0_hw7.1.1
theorem k0_off28_inb : ∀ (v36 : BitVec 32) (v38 : BitVec 32) (v40 : BitVec 32) (k0_hw7 : k0_chk7 v36 v38 v40) (k0_t5 : Fin (k0_t5_loop v38 v40).trips), ∀ a, (k0_off28 v36) a + S1.size a ≤ S11.size a := fun v36 v38 v40 k0_hw7 k0_t5 => k0_hw7.1.2.1 k0_t5
theorem k0_off29_inb : ∀ (v36 : BitVec 32) (v38 : BitVec 32) (v40 : BitVec 32) (k0_hw7 : k0_chk7 v36 v38 v40) (k0_t5 : Fin (k0_t5_loop v38 v40).trips) (k0_t6 : Fin k0_t6_loop.trips), ∀ a, (k0_off29 v38 v40 k0_t5 k0_t6) a + S1.size a ≤ S18432.size a := fun v36 v38 v40 k0_hw7 k0_t5 k0_t6 => k0_hw7.1.2.2.1 k0_t5 k0_t6
theorem k0_mult9_dvd : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ (k0_h4 : k0_cond4 v38 v40 k0_t5 = 1#1), 256 ∣ (k0_mult9 v38 v40 k0_t5).toNat := fun v36 v38 v40 k0_hw7 k0_t5 k0_h3 k0_h4 => k0_hw7.1.2.2.2.1 k0_t5 k0_h3 k0_h4
theorem k0_off35_inb : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ (k0_h4 : k0_cond4 v38 v40 k0_t5 = 1#1), ∀ a, (k0_off35 v38 v40 k0_t5) a + S1.size a ≤ S2.size a := fun v36 v38 v40 k0_hw7 k0_t5 k0_h3 k0_h4 => k0_hw7.1.2.2.2.2.1 k0_t5 k0_h3 k0_h4
theorem k0_off36_inb : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ (k0_h4 : k0_cond4 v38 v40 k0_t5 = 1#1), ∀ a, (k0_off36 v38 v40 k0_t5) a + S1728x256.size a ≤ S1728x18432.size a := fun v36 v38 v40 k0_hw7 k0_t5 k0_h3 k0_h4 => k0_hw7.1.2.2.2.2.2.1 k0_t5 k0_h3 k0_h4
theorem k0_off37_inb : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ (k0_h4 : k0_cond4 v38 v40 k0_t5 = 1#1), ∀ a, (k0_off37 v38 v40 k0_t5) a + S1x1728x256.size a ≤ S2x1728x256.size a := fun v36 v38 v40 k0_hw7 k0_t5 k0_h3 k0_h4 => k0_hw7.1.2.2.2.2.2.2.1 k0_t5 k0_h3 k0_h4
theorem k0_off37_wordsbf16 : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ (k0_h4 : k0_cond4 v38 v40 k0_t5 = 1#1), (Rect.unit (s := S2x1728x256) (k0_off37 v38 v40 k0_t5) S1x1728x256.size (k0_off37_inb v36 v38 v40 k0_hw7 k0_t5 k0_h3 k0_h4)).WholeWords (EltTy.packing .bf16) := fun v36 v38 v40 k0_hw7 k0_t5 k0_h3 k0_h4 => k0_hw7.1.2.2.2.2.2.2.2.1 k0_t5 k0_h3 k0_h4 (k0_off37_inb v36 v38 v40 k0_hw7 k0_t5 k0_h3 k0_h4)
theorem k0_off36_wordsbf16 : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ (k0_h4 : k0_cond4 v38 v40 k0_t5 = 1#1), (Rect.unit (s := S1728x18432) (k0_off36 v38 v40 k0_t5) S1728x256.size (k0_off36_inb v36 v38 v40 k0_hw7 k0_t5 k0_h3 k0_h4)).WholeWords (EltTy.packing .bf16) := fun v36 v38 v40 k0_hw7 k0_t5 k0_h3 k0_h4 => k0_hw7.1.2.2.2.2.2.2.2.2.1 k0_t5 k0_h3 k0_h4 (k0_off36_inb v36 v38 v40 k0_hw7 k0_t5 k0_h3 k0_h4)
theorem k0_off38_inb : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), ∀ a, (k0_off38 v38 v40 k0_t5) a + S1x1728x256.size a ≤ S2x1728x256.size a := fun v36 v38 v40 k0_hw7 k0_t5 k0_h3 => k0_hw7.1.2.2.2.2.2.2.2.2.2.1 k0_t5 k0_h3
theorem k0_off38_packedbf16 : ∀ (v36 : BitVec 32) (v38 : BitVec 32) (v40 : BitVec 32) (k0_hw7 : k0_chk7 v36 v38 v40) (k0_t5 : Fin (k0_t5_loop v38 v40).trips), ∀ (k0_h3 : k0_cond3 v38 v40 k0_t5 = 1#1), (Rect.unit (s := S2x1728x256) (k0_off38 v38 v40 k0_t5) S1x1728x256.size (k0_off38_inb v36 v38 v40 k0_hw7 k0_t5 k0_h3)).PackedRows (EltTy.packing .bf16) := fun v36 v38 v40 k0_hw7 k0_t5 k0_h3 => k0_hw7.1.2.2.2.2.2.2.2.2.2.2.1 k0_t5 k0_h3 (k0_off38_inb v36 v38 v40 k0_hw7 k0_t5 k0_h3)
theorem k0_off39_inb : ∀ (v36 : BitVec 32) (v38 : BitVec 32) (v40 : BitVec 32) (k0_hw7 : k0_chk7 v36 v38 v40) (k0_t5 : Fin (k0_t5_loop v38 v40).trips), ∀ (k0_h5 : k0_cond5 v38 v40 k0_t5 = 1#1), ∀ a, (k0_off39 v38 v40 k0_t5) a + S1x1728x256.size a ≤ S2x1728x256.size a := fun v36 v38 v40 k0_hw7 k0_t5 k0_h5 => k0_hw7.1.2.2.2.2.2.2.2.2.2.2.2.1 k0_t5 k0_h5
theorem k0_off39_packedbf16 : ∀ (v36 : BitVec 32) (v38 : BitVec 32) (v40 : BitVec 32) (k0_hw7 : k0_chk7 v36 v38 v40) (k0_t5 : Fin (k0_t5_loop v38 v40).trips), ∀ (k0_h5 : k0_cond5 v38 v40 k0_t5 = 1#1), (Rect.unit (s := S2x1728x256) (k0_off39 v38 v40 k0_t5) S1x1728x256.size (k0_off39_inb v36 v38 v40 k0_hw7 k0_t5 k0_h5)).PackedRows (EltTy.packing .bf16) := fun v36 v38 v40 k0_hw7 k0_t5 k0_h5 => k0_hw7.1.2.2.2.2.2.2.2.2.2.2.2.2.1 k0_t5 k0_h5 (k0_off39_inb v36 v38 v40 k0_hw7 k0_t5 k0_h5)
theorem k0_mult10_dvd : ∀ (v36 : BitVec 32) (v38 : BitVec 32) (v40 : BitVec 32) (k0_hw7 : k0_chk7 v36 v38 v40) (k0_t5 : Fin (k0_t5_loop v38 v40).trips), ∀ (k0_h6 : k0_cond6 v38 v40 k0_t5 = 1#1), 256 ∣ (k0_mult10 v38 v40 k0_t5).toNat := fun v36 v38 v40 k0_hw7 k0_t5 k0_h6 => k0_hw7.1.2.2.2.2.2.2.2.2.2.2.2.2.2.1 k0_t5 k0_h6
theorem k0_off40_inb : ∀ (v36 : BitVec 32) (v38 : BitVec 32) (v40 : BitVec 32) (k0_hw7 : k0_chk7 v36 v38 v40) (k0_t5 : Fin (k0_t5_loop v38 v40).trips), ∀ (k0_h6 : k0_cond6 v38 v40 k0_t5 = 1#1), ∀ a, (k0_off40 v38 v40 k0_t5) a + S1.size a ≤ S2.size a := fun v36 v38 v40 k0_hw7 k0_t5 k0_h6 => k0_hw7.1.2.2.2.2.2.2.2.2.2.2.2.2.2.2.1 k0_t5 k0_h6
theorem k0_off41_inb : ∀ (v36 : BitVec 32) (v38 : BitVec 32) (v40 : BitVec 32) (k0_hw7 : k0_chk7 v36 v38 v40) (k0_t5 : Fin (k0_t5_loop v38 v40).trips), ∀ (k0_h6 : k0_cond6 v38 v40 k0_t5 = 1#1), ∀ a, (k0_off41 v38 v40 k0_t5) a + S1728x256.size a ≤ S1728x18432.size a := fun v36 v38 v40 k0_hw7 k0_t5 k0_h6 => k0_hw7.1.2.2.2.2.2.2.2.2.2.2.2.2.2.2.2.1 k0_t5 k0_h6
theorem k0_off42_inb : ∀ (v36 : BitVec 32) (v38 : BitVec 32) (v40 : BitVec 32) (k0_hw7 : k0_chk7 v36 v38 v40) (k0_t5 : Fin (k0_t5_loop v38 v40).trips), ∀ (k0_h6 : k0_cond6 v38 v40 k0_t5 = 1#1), ∀ a, (k0_off42 v38 v40 k0_t5) a + S1x1728x256.size a ≤ S2x1728x256.size a := fun v36 v38 v40 k0_hw7 k0_t5 k0_h6 => k0_hw7.1.2.2.2.2.2.2.2.2.2.2.2.2.2.2.2.2.1 k0_t5 k0_h6
theorem k0_off42_wordsbf16 : ∀ (v36 : BitVec 32) (v38 : BitVec 32) (v40 : BitVec 32) (k0_hw7 : k0_chk7 v36 v38 v40) (k0_t5 : Fin (k0_t5_loop v38 v40).trips), ∀ (k0_h6 : k0_cond6 v38 v40 k0_t5 = 1#1), (Rect.unit (s := S2x1728x256) (k0_off42 v38 v40 k0_t5) S1x1728x256.size (k0_off42_inb v36 v38 v40 k0_hw7 k0_t5 k0_h6)).WholeWords (EltTy.packing .bf16) := fun v36 v38 v40 k0_hw7 k0_t5 k0_h6 => k0_hw7.1.2.2.2.2.2.2.2.2.2.2.2.2.2.2.2.2.2.1 k0_t5 k0_h6 (k0_off42_inb v36 v38 v40 k0_hw7 k0_t5 k0_h6)
theorem k0_off41_wordsbf16 : ∀ (v36 : BitVec 32) (v38 : BitVec 32) (v40 : BitVec 32) (k0_hw7 : k0_chk7 v36 v38 v40) (k0_t5 : Fin (k0_t5_loop v38 v40).trips), ∀ (k0_h6 : k0_cond6 v38 v40 k0_t5 = 1#1), (Rect.unit (s := S1728x18432) (k0_off41 v38 v40 k0_t5) S1728x256.size (k0_off41_inb v36 v38 v40 k0_hw7 k0_t5 k0_h6)).WholeWords (EltTy.packing .bf16) := fun v36 v38 v40 k0_hw7 k0_t5 k0_h6 => k0_hw7.1.2.2.2.2.2.2.2.2.2.2.2.2.2.2.2.2.2.2.1 k0_t5 k0_h6 (k0_off41_inb v36 v38 v40 k0_hw7 k0_t5 k0_h6)
theorem k0_t8_ok : ∀ (v36 : BitVec 32) (v38 : BitVec 32) (v40 : BitVec 32) (k0_hw7 : k0_chk7 v36 v38 v40), (k0_t8_loop v38 v40).OK := fun v36 v38 v40 k0_hw7 => k0_hw7.1.2.2.2.2.2.2.2.2.2.2.2.2.2.2.2.2.2.2.2.1
theorem k0_off43_inb : ∀ (v36 : BitVec 32) (v38 : BitVec 32) (v40 : BitVec 32) (k0_hw7 : k0_chk7 v36 v38 v40) (k0_t8 : Fin (k0_t8_loop v38 v40).trips), ∀ a, (k0_off43 v36) a + S1.size a ≤ S11.size a := fun v36 v38 v40 k0_hw7 k0_t8 => k0_hw7.1.2.2.2.2.2.2.2.2.2.2.2.2.2.2.2.2.2.2.2.2.1 k0_t8
theorem k0_off44_inb : ∀ (v36 : BitVec 32) (v38 : BitVec 32) (v40 : BitVec 32) (k0_hw7 : k0_chk7 v36 v38 v40) (k0_t8 : Fin (k0_t8_loop v38 v40).trips) (k0_t9 : Fin k0_t9_loop.trips), ∀ a, (k0_off44 v38 v40 k0_t8 k0_t9) a + S1.size a ≤ S18432.size a := fun v36 v38 v40 k0_hw7 k0_t8 k0_t9 => k0_hw7.1.2.2.2.2.2.2.2.2.2.2.2.2.2.2.2.2.2.2.2.2.2.1 k0_t8 k0_t9
theorem k0_mult14_dvd : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ (k0_h8 : k0_cond8 v38 v40 k0_t8 = 1#1), 256 ∣ (k0_mult14 v38 v40 k0_t8).toNat := fun v36 v38 v40 k0_hw7 k0_t8 k0_h7 k0_h8 => k0_hw7.1.2.2.2.2.2.2.2.2.2.2.2.2.2.2.2.2.2.2.2.2.2.2.1 k0_t8 k0_h7 k0_h8
theorem k0_off50_inb : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ (k0_h8 : k0_cond8 v38 v40 k0_t8 = 1#1), ∀ a, (k0_off50 v38 v40 k0_t8) a + S1.size a ≤ S2.size a := fun v36 v38 v40 k0_hw7 k0_t8 k0_h7 k0_h8 => k0_hw7.1.2.2.2.2.2.2.2.2.2.2.2.2.2.2.2.2.2.2.2.2.2.2.2.1 k0_t8 k0_h7 k0_h8
theorem k0_off51_inb : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ (k0_h8 : k0_cond8 v38 v40 k0_t8 = 1#1), ∀ a, (k0_off51 v38 v40 k0_t8) a + S1728x256.size a ≤ S1728x18432.size a := fun v36 v38 v40 k0_hw7 k0_t8 k0_h7 k0_h8 => k0_hw7.1.2.2.2.2.2.2.2.2.2.2.2.2.2.2.2.2.2.2.2.2.2.2.2.2.1 k0_t8 k0_h7 k0_h8
theorem k0_off52_inb : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ (k0_h8 : k0_cond8 v38 v40 k0_t8 = 1#1), ∀ a, (k0_off52 v38 v40 k0_t8) a + S1x1728x256.size a ≤ S2x1728x256.size a := fun v36 v38 v40 k0_hw7 k0_t8 k0_h7 k0_h8 => k0_hw7.1.2.2.2.2.2.2.2.2.2.2.2.2.2.2.2.2.2.2.2.2.2.2.2.2.2.1 k0_t8 k0_h7 k0_h8
theorem k0_off52_wordsbf16 : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ (k0_h8 : k0_cond8 v38 v40 k0_t8 = 1#1), (Rect.unit (s := S2x1728x256) (k0_off52 v38 v40 k0_t8) S1x1728x256.size (k0_off52_inb v36 v38 v40 k0_hw7 k0_t8 k0_h7 k0_h8)).WholeWords (EltTy.packing .bf16) := fun v36 v38 v40 k0_hw7 k0_t8 k0_h7 k0_h8 => k0_hw7.1.2.2.2.2.2.2.2.2.2.2.2.2.2.2.2.2.2.2.2.2.2.2.2.2.2.2.1 k0_t8 k0_h7 k0_h8 (k0_off52_inb v36 v38 v40 k0_hw7 k0_t8 k0_h7 k0_h8)
theorem k0_off51_wordsbf16 : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ (k0_h8 : k0_cond8 v38 v40 k0_t8 = 1#1), (Rect.unit (s := S1728x18432) (k0_off51 v38 v40 k0_t8) S1728x256.size (k0_off51_inb v36 v38 v40 k0_hw7 k0_t8 k0_h7 k0_h8)).WholeWords (EltTy.packing .bf16) := fun v36 v38 v40 k0_hw7 k0_t8 k0_h7 k0_h8 => k0_hw7.1.2.2.2.2.2.2.2.2.2.2.2.2.2.2.2.2.2.2.2.2.2.2.2.2.2.2.2.1 k0_t8 k0_h7 k0_h8 (k0_off51_inb v36 v38 v40 k0_hw7 k0_t8 k0_h7 k0_h8)
theorem k0_off53_inb : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), ∀ a, (k0_off53 v38 v40 k0_t8) a + S1x1728x256.size a ≤ S2x1728x256.size a := fun v36 v38 v40 k0_hw7 k0_t8 k0_h7 => k0_hw7.1.2.2.2.2.2.2.2.2.2.2.2.2.2.2.2.2.2.2.2.2.2.2.2.2.2.2.2.2.1 k0_t8 k0_h7
theorem k0_off53_packedbf16 : ∀ (v36 : BitVec 32) (v38 : BitVec 32) (v40 : BitVec 32) (k0_hw7 : k0_chk7 v36 v38 v40) (k0_t8 : Fin (k0_t8_loop v38 v40).trips), ∀ (k0_h7 : k0_cond7 v38 v40 k0_t8 = 1#1), (Rect.unit (s := S2x1728x256) (k0_off53 v38 v40 k0_t8) S1x1728x256.size (k0_off53_inb v36 v38 v40 k0_hw7 k0_t8 k0_h7)).PackedRows (EltTy.packing .bf16) := fun v36 v38 v40 k0_hw7 k0_t8 k0_h7 => k0_hw7.1.2.2.2.2.2.2.2.2.2.2.2.2.2.2.2.2.2.2.2.2.2.2.2.2.2.2.2.2.2.1 k0_t8 k0_h7 (k0_off53_inb v36 v38 v40 k0_hw7 k0_t8 k0_h7)
theorem k0_off54_inb : ∀ (v36 : BitVec 32) (v38 : BitVec 32) (v40 : BitVec 32) (k0_hw7 : k0_chk7 v36 v38 v40) (k0_t8 : Fin (k0_t8_loop v38 v40).trips), ∀ (k0_h9 : k0_cond9 v38 v40 k0_t8 = 1#1), ∀ a, (k0_off54 v38 v40 k0_t8) a + S1x1728x256.size a ≤ S2x1728x256.size a := fun v36 v38 v40 k0_hw7 k0_t8 k0_h9 => k0_hw7.1.2.2.2.2.2.2.2.2.2.2.2.2.2.2.2.2.2.2.2.2.2.2.2.2.2.2.2.2.2.2.1 k0_t8 k0_h9
theorem k0_off54_packedbf16 : ∀ (v36 : BitVec 32) (v38 : BitVec 32) (v40 : BitVec 32) (k0_hw7 : k0_chk7 v36 v38 v40) (k0_t8 : Fin (k0_t8_loop v38 v40).trips), ∀ (k0_h9 : k0_cond9 v38 v40 k0_t8 = 1#1), (Rect.unit (s := S2x1728x256) (k0_off54 v38 v40 k0_t8) S1x1728x256.size (k0_off54_inb v36 v38 v40 k0_hw7 k0_t8 k0_h9)).PackedRows (EltTy.packing .bf16) := fun v36 v38 v40 k0_hw7 k0_t8 k0_h9 => k0_hw7.1.2.2.2.2.2.2.2.2.2.2.2.2.2.2.2.2.2.2.2.2.2.2.2.2.2.2.2.2.2.2.2 k0_t8 k0_h9 (k0_off54_inb v36 v38 v40 k0_hw7 k0_t8 k0_h9)
theorem k0_mult15_dvd : ∀ (v36 : BitVec 32) (v38 : BitVec 32) (v40 : BitVec 32) (k0_hw7 : k0_chk7 v36 v38 v40) (k0_t8 : Fin (k0_t8_loop v38 v40).trips), ∀ (k0_h10 : k0_cond10 v38 v40 k0_t8 = 1#1), 256 ∣ (k0_mult15 v38 v40 k0_t8).toNat := fun v36 v38 v40 k0_hw7 k0_t8 k0_h10 => k0_hw7.2.1 k0_t8 k0_h10
theorem k0_off55_inb : ∀ (v36 : BitVec 32) (v38 : BitVec 32) (v40 : BitVec 32) (k0_hw7 : k0_chk7 v36 v38 v40) (k0_t8 : Fin (k0_t8_loop v38 v40).trips), ∀ (k0_h10 : k0_cond10 v38 v40 k0_t8 = 1#1), ∀ a, (k0_off55 v38 v40 k0_t8) a + S1.size a ≤ S2.size a := fun v36 v38 v40 k0_hw7 k0_t8 k0_h10 => k0_hw7.2.2.1 k0_t8 k0_h10
theorem k0_off56_inb : ∀ (v36 : BitVec 32) (v38 : BitVec 32) (v40 : BitVec 32) (k0_hw7 : k0_chk7 v36 v38 v40) (k0_t8 : Fin (k0_t8_loop v38 v40).trips), ∀ (k0_h10 : k0_cond10 v38 v40 k0_t8 = 1#1), ∀ a, (k0_off56 v38 v40 k0_t8) a + S1728x256.size a ≤ S1728x18432.size a := fun v36 v38 v40 k0_hw7 k0_t8 k0_h10 => k0_hw7.2.2.2.1 k0_t8 k0_h10
theorem k0_off57_inb : ∀ (v36 : BitVec 32) (v38 : BitVec 32) (v40 : BitVec 32) (k0_hw7 : k0_chk7 v36 v38 v40) (k0_t8 : Fin (k0_t8_loop v38 v40).trips), ∀ (k0_h10 : k0_cond10 v38 v40 k0_t8 = 1#1), ∀ a, (k0_off57 v38 v40 k0_t8) a + S1x1728x256.size a ≤ S2x1728x256.size a := fun v36 v38 v40 k0_hw7 k0_t8 k0_h10 => k0_hw7.2.2.2.2.1 k0_t8 k0_h10
theorem k0_off57_wordsbf16 : ∀ (v36 : BitVec 32) (v38 : BitVec 32) (v40 : BitVec 32) (k0_hw7 : k0_chk7 v36 v38 v40) (k0_t8 : Fin (k0_t8_loop v38 v40).trips), ∀ (k0_h10 : k0_cond10 v38 v40 k0_t8 = 1#1), (Rect.unit (s := S2x1728x256) (k0_off57 v38 v40 k0_t8) S1x1728x256.size (k0_off57_inb v36 v38 v40 k0_hw7 k0_t8 k0_h10)).WholeWords (EltTy.packing .bf16) := fun v36 v38 v40 k0_hw7 k0_t8 k0_h10 => k0_hw7.2.2.2.2.2.1 k0_t8 k0_h10 (k0_off57_inb v36 v38 v40 k0_hw7 k0_t8 k0_h10)
theorem k0_off56_wordsbf16 : ∀ (v36 : BitVec 32) (v38 : BitVec 32) (v40 : BitVec 32) (k0_hw7 : k0_chk7 v36 v38 v40) (k0_t8 : Fin (k0_t8_loop v38 v40).trips), ∀ (k0_h10 : k0_cond10 v38 v40 k0_t8 = 1#1), (Rect.unit (s := S1728x18432) (k0_off56 v38 v40 k0_t8) S1728x256.size (k0_off56_inb v36 v38 v40 k0_hw7 k0_t8 k0_h10)).WholeWords (EltTy.packing .bf16) := fun v36 v38 v40 k0_hw7 k0_t8 k0_h10 => k0_hw7.2.2.2.2.2.2 k0_t8 k0_h10 (k0_off56_inb v36 v38 v40 k0_hw7 k0_t8 k0_h10)

@[reducible] def k0_t11_loop (v2_0 : BitVec 32) : Scf.Loop 32 :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let v17 : BitVec 32 := Scalar.addi c0_i32_19 v16
  let c1_i32_23 : BitVec 32 := 1#32
  ⟨v20, v17, c1_i32_23⟩
def k0_off58 (v2_0 : BitVec 32) (k0_t11 : Fin (k0_t11_loop v2_0).trips) : Fin 2 → Nat :=
  let c0_34 : Index := 0#32
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let v35 : Index := Scalar.indexCast arg18
  ![0, v35.toNat]
def k0_off59 (v2_0 : BitVec 32) (k0_t11 : Fin (k0_t11_loop v2_0).trips) : Fin 2 → Nat :=
  let c1 : Index := 1#32
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let v37 : Index := Scalar.indexCast arg18
  ![1, v37.toNat]
def k0_off60 (v36 : BitVec 32) : Fin 1 → Nat :=
  let v39 : Index := Scalar.indexCast v36
  ![v39.toNat]

def k0_chk10 (v36 : BitVec 32) : Prop :=
  (∀ a, (k0_off60 v36) a + S1.size a ≤ S11.size a)
theorem k0_off60_inb : ∀ (v36 : BitVec 32) (k0_hw10 : k0_chk10 v36), ∀ a, (k0_off60 v36) a + S1.size a ≤ S11.size a := fun v36 k0_hw10 => k0_hw10

def k0_off61 (v2_0 : BitVec 32) (k0_t11 : Fin (k0_t11_loop v2_0).trips) : Fin 2 → Nat :=
  let c0_40 : Index := 0#32
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let v52 : Index := Scalar.indexCast arg18
  ![0, v52.toNat]
def k0_off62 (v2_0 : BitVec 32) (k0_t11 : Fin (k0_t11_loop v2_0).trips) : Fin 2 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c0_i32_47 : BitVec 32 := 0#32
  ![v63.toNat, 0]
def k0_off63 (v2_0 : BitVec 32) (k0_t11 : Fin (k0_t11_loop v2_0).trips) : Fin 3 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c0_i32_48 : BitVec 32 := 0#32
  let c0_i32_49 : BitVec 32 := 0#32
  ![v63.toNat, 0, 0]
def k0_off64 (v53 : BitVec 32) : Fin 3 → Nat :=
  let c0_i32_50 : BitVec 32 := 0#32
  let c0_i32_51 : BitVec 32 := 0#32
  ![v53.toNat, 0, 0]

def k0_off65 (v2_0 : BitVec 32) (k0_t11 : Fin (k0_t11_loop v2_0).trips) : Fin 2 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c1_i32_52 : BitVec 32 := 1#32
  ![v63.toNat, 1]
def k0_off66 (v2_0 : BitVec 32) (k0_t11 : Fin (k0_t11_loop v2_0).trips) : Fin 3 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c2_i32_41 : BitVec 32 := 2#32
  let c0_i32_42 : BitVec 32 := 0#32
  let v54 : BitVec 1 := Scalar.cmpi .eq c2_i32_41 c0_i32_42
  let c1_i32_43 : BitVec 32 := 1#32
  let v55 : BitVec 32 := Scalar.select v54 c1_i32_43 c2_i32_41
  let v56 : BitVec 32 := Scalar.remsi arg18 v55
  let c0_i32_45 : BitVec 32 := 0#32
  let v58 : BitVec 1 := Scalar.cmpi .slt v56 c0_i32_45
  let c0_i32_46 : BitVec 32 := 0#32
  let v59 : BitVec 1 := Scalar.cmpi .slt v55 c0_i32_46
  let v60 : BitVec 1 := Scalar.xori v58 v59
  let c0_i32_44 : BitVec 32 := 0#32
  let v57 : BitVec 1 := Scalar.cmpi .ne v56 c0_i32_44
  let v61 : BitVec 1 := Scalar.andi v60 v57
  let v62 : BitVec 32 := Scalar.addi v56 v55
  let v63 : BitVec 32 := Scalar.select v61 v62 v56
  let c0_i32_53 : BitVec 32 := 0#32
  let c0_i32_54 : BitVec 32 := 0#32
  ![v63.toNat, 0, 0]
def k0_off67 (v53 : BitVec 32) : Fin 3 → Nat :=
  let c0_i32_55 : BitVec 32 := 0#32
  let c0_i32_56 : BitVec 32 := 0#32
  ![v53.toNat, 0, 0]

def k0_chk11 (v53 : BitVec 32) : Prop :=
  (∀ a, (k0_off64 v53) a + S1x1728x1280.size a ≤ S11x1728x1280.size a) ∧
  (∀ (hinb : ∀ a, (k0_off64 v53) a + S1x1728x1280.size a ≤ S11x1728x1280.size a), (Rect.unit (s := S11x1728x1280) (k0_off64 v53) S1x1728x1280.size hinb).WholeWords (EltTy.packing .i8)) ∧
  (∀ a, (k0_off67 v53) a + S1x160x1728.size a ≤ S11x160x1728.size a) ∧
  (∀ (hinb : ∀ a, (k0_off67 v53) a + S1x160x1728.size a ≤ S11x160x1728.size a), (Rect.unit (s := S11x160x1728) (k0_off67 v53) S1x160x1728.size hinb).WholeWords (EltTy.packing .fp8e4m3))
theorem k0_off64_inb : ∀ (v53 : BitVec 32) (k0_hw11 : k0_chk11 v53), ∀ a, (k0_off64 v53) a + S1x1728x1280.size a ≤ S11x1728x1280.size a := fun v53 k0_hw11 => k0_hw11.1
theorem k0_off64_wordsi8 : ∀ (v53 : BitVec 32) (k0_hw11 : k0_chk11 v53), (Rect.unit (s := S11x1728x1280) (k0_off64 v53) S1x1728x1280.size (k0_off64_inb v53 k0_hw11)).WholeWords (EltTy.packing .i8) := fun v53 k0_hw11 => k0_hw11.2.1 (k0_off64_inb v53 k0_hw11)
theorem k0_off67_inb : ∀ (v53 : BitVec 32) (k0_hw11 : k0_chk11 v53), ∀ a, (k0_off67 v53) a + S1x160x1728.size a ≤ S11x160x1728.size a := fun v53 k0_hw11 => k0_hw11.2.2.1
theorem k0_off67_wordsfp8e4m3 : ∀ (v53 : BitVec 32) (k0_hw11 : k0_chk11 v53), (Rect.unit (s := S11x160x1728) (k0_off67 v53) S1x160x1728.size (k0_off67_inb v53 k0_hw11)).WholeWords (EltTy.packing .fp8e4m3) := fun v53 k0_hw11 => k0_hw11.2.2.2 (k0_off67_inb v53 k0_hw11)

def k0_off68 (v2_0 : BitVec 32) (k0_t11 : Fin (k0_t11_loop v2_0).trips) : Fin 2 → Nat :=
  let c0_88 : Index := 0#32
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c1_i32_87 : BitVec 32 := 1#32
  let v136 : BitVec 32 := Scalar.addi arg18 c1_i32_87
  let v137 : Index := Scalar.indexCast v136
  ![0, v137.toNat]
def k0_cond11 (v2_0 : BitVec 32) (k0_t11 : Fin (k0_t11_loop v2_0).trips) : BitVec 1 :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c1_i32_57 : BitVec 32 := 1#32
  let v76 : BitVec 32 := Scalar.addi arg18 c1_i32_57
  let v77 : BitVec 1 := Scalar.cmpi .slt v76 v2_0
  let v78 : BitVec 32 := Scalar.extui v77
  let c0_i32_58 : BitVec 32 := 0#32
  let v79 : BitVec 1 := Scalar.cmpi .ne v78 c0_i32_58
  v79

def k0_off69 (v2_0 : BitVec 32) (k0_t11 : Fin (k0_t11_loop v2_0).trips) : Fin 2 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c0_i32_95 : BitVec 32 := 0#32
  ![v148.toNat, 0]
def k0_off70 (v2_0 : BitVec 32) (k0_t11 : Fin (k0_t11_loop v2_0).trips) : Fin 3 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c0_i32_96 : BitVec 32 := 0#32
  let c0_i32_97 : BitVec 32 := 0#32
  ![v148.toNat, 0, 0]
def k0_off71 (v138 : BitVec 32) : Fin 3 → Nat :=
  let c0_i32_98 : BitVec 32 := 0#32
  let c0_i32_99 : BitVec 32 := 0#32
  ![v138.toNat, 0, 0]

def k0_off72 (v2_0 : BitVec 32) (k0_t11 : Fin (k0_t11_loop v2_0).trips) : Fin 2 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c1_i32_100 : BitVec 32 := 1#32
  ![v148.toNat, 1]
def k0_off73 (v2_0 : BitVec 32) (k0_t11 : Fin (k0_t11_loop v2_0).trips) : Fin 3 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c1_i32_87 : BitVec 32 := 1#32
  let v136 : BitVec 32 := Scalar.addi arg18 c1_i32_87
  let c2_i32_89 : BitVec 32 := 2#32
  let c0_i32_90 : BitVec 32 := 0#32
  let v139 : BitVec 1 := Scalar.cmpi .eq c2_i32_89 c0_i32_90
  let c1_i32_91 : BitVec 32 := 1#32
  let v140 : BitVec 32 := Scalar.select v139 c1_i32_91 c2_i32_89
  let v141 : BitVec 32 := Scalar.remsi v136 v140
  let c0_i32_93 : BitVec 32 := 0#32
  let v143 : BitVec 1 := Scalar.cmpi .slt v141 c0_i32_93
  let c0_i32_94 : BitVec 32 := 0#32
  let v144 : BitVec 1 := Scalar.cmpi .slt v140 c0_i32_94
  let v145 : BitVec 1 := Scalar.xori v143 v144
  let c0_i32_92 : BitVec 32 := 0#32
  let v142 : BitVec 1 := Scalar.cmpi .ne v141 c0_i32_92
  let v146 : BitVec 1 := Scalar.andi v145 v142
  let v147 : BitVec 32 := Scalar.addi v141 v140
  let v148 : BitVec 32 := Scalar.select v146 v147 v141
  let c0_i32_101 : BitVec 32 := 0#32
  let c0_i32_102 : BitVec 32 := 0#32
  ![v148.toNat, 0, 0]
def k0_off74 (v138 : BitVec 32) : Fin 3 → Nat :=
  let c0_i32_103 : BitVec 32 := 0#32
  let c0_i32_104 : BitVec 32 := 0#32
  ![v138.toNat, 0, 0]

def k0_chk12 (v2_0 : BitVec 32) (k0_t11 : Fin (k0_t11_loop v2_0).trips) (v138 : BitVec 32) : Prop :=
  (∀ (k0_h11 : k0_cond11 v2_0 k0_t11 = 1#1), ∀ a, (k0_off71 v138) a + S1x1728x1280.size a ≤ S11x1728x1280.size a) ∧
  (∀ (k0_h11 : k0_cond11 v2_0 k0_t11 = 1#1), ∀ (hinb : ∀ a, (k0_off71 v138) a + S1x1728x1280.size a ≤ S11x1728x1280.size a), (Rect.unit (s := S11x1728x1280) (k0_off71 v138) S1x1728x1280.size hinb).WholeWords (EltTy.packing .i8)) ∧
  (∀ (k0_h11 : k0_cond11 v2_0 k0_t11 = 1#1), ∀ a, (k0_off74 v138) a + S1x160x1728.size a ≤ S11x160x1728.size a) ∧
  (∀ (k0_h11 : k0_cond11 v2_0 k0_t11 = 1#1), ∀ (hinb : ∀ a, (k0_off74 v138) a + S1x160x1728.size a ≤ S11x160x1728.size a), (Rect.unit (s := S11x160x1728) (k0_off74 v138) S1x160x1728.size hinb).WholeWords (EltTy.packing .fp8e4m3))
theorem k0_off71_inb : ∀ (v2_0 : BitVec 32) (k0_t11 : Fin (k0_t11_loop v2_0).trips) (v138 : BitVec 32) (k0_hw12 : k0_chk12 v2_0 k0_t11 v138), ∀ (k0_h11 : k0_cond11 v2_0 k0_t11 = 1#1), ∀ a, (k0_off71 v138) a + S1x1728x1280.size a ≤ S11x1728x1280.size a := fun v2_0 k0_t11 v138 k0_hw12 k0_h11 => k0_hw12.1 k0_h11
theorem k0_off71_wordsi8 : ∀ (v2_0 : BitVec 32) (k0_t11 : Fin (k0_t11_loop v2_0).trips) (v138 : BitVec 32) (k0_hw12 : k0_chk12 v2_0 k0_t11 v138), ∀ (k0_h11 : k0_cond11 v2_0 k0_t11 = 1#1), (Rect.unit (s := S11x1728x1280) (k0_off71 v138) S1x1728x1280.size (k0_off71_inb v2_0 k0_t11 v138 k0_hw12 k0_h11)).WholeWords (EltTy.packing .i8) := fun v2_0 k0_t11 v138 k0_hw12 k0_h11 => k0_hw12.2.1 k0_h11 (k0_off71_inb v2_0 k0_t11 v138 k0_hw12 k0_h11)
theorem k0_off74_inb : ∀ (v2_0 : BitVec 32) (k0_t11 : Fin (k0_t11_loop v2_0).trips) (v138 : BitVec 32) (k0_hw12 : k0_chk12 v2_0 k0_t11 v138), ∀ (k0_h11 : k0_cond11 v2_0 k0_t11 = 1#1), ∀ a, (k0_off74 v138) a + S1x160x1728.size a ≤ S11x160x1728.size a := fun v2_0 k0_t11 v138 k0_hw12 k0_h11 => k0_hw12.2.2.1 k0_h11
theorem k0_off74_wordsfp8e4m3 : ∀ (v2_0 : BitVec 32) (k0_t11 : Fin (k0_t11_loop v2_0).trips) (v138 : BitVec 32) (k0_hw12 : k0_chk12 v2_0 k0_t11 v138), ∀ (k0_h11 : k0_cond11 v2_0 k0_t11 = 1#1), (Rect.unit (s := S11x160x1728) (k0_off74 v138) S1x160x1728.size (k0_off74_inb v2_0 k0_t11 v138 k0_hw12 k0_h11)).WholeWords (EltTy.packing .fp8e4m3) := fun v2_0 k0_t11 v138 k0_hw12 k0_h11 => k0_hw12.2.2.2 k0_h11 (k0_off74_inb v2_0 k0_t11 v138 k0_hw12 k0_h11)

def k0_off75 (v2_0 : BitVec 32) (k0_t11 : Fin (k0_t11_loop v2_0).trips) : Fin 3 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c2_i32 : BitVec 32 := 2#32
  let c0_i32_35 : BitVec 32 := 0#32
  let v42 : BitVec 1 := Scalar.cmpi .eq c2_i32 c0_i32_35
  let c1_i32_36 : BitVec 32 := 1#32
  let v43 : BitVec 32 := Scalar.select v42 c1_i32_36 c2_i32
  let v44 : BitVec 32 := Scalar.remsi arg18 v43
  let c0_i32_38 : BitVec 32 := 0#32
  let v46 : BitVec 1 := Scalar.cmpi .slt v44 c0_i32_38
  let c0_i32_39 : BitVec 32 := 0#32
  let v47 : BitVec 1 := Scalar.cmpi .slt v43 c0_i32_39
  let v48 : BitVec 1 := Scalar.xori v46 v47
  let c0_i32_37 : BitVec 32 := 0#32
  let v45 : BitVec 1 := Scalar.cmpi .ne v44 c0_i32_37
  let v49 : BitVec 1 := Scalar.andi v48 v45
  let v50 : BitVec 32 := Scalar.addi v44 v43
  let v51 : BitVec 32 := Scalar.select v49 v50 v44
  let v80 : Index := Scalar.indexCast v51
  let c0_59 : Index := 0#32
  let c0_60 : Index := 0#32
  ![v80.toNat, 0, 0]
@[reducible] def k0_t12_loop : Scf.Loop 32 :=
  let c0_i32_64 : BitVec 32 := 0#32
  let c27_i32 : BitVec 32 := 27#32
  let v91 : BitVec 32 := Scalar.addi c0_i32_64 c27_i32
  let c1_i32_65 : BitVec 32 := 1#32
  ⟨c0_i32_64, v91, c1_i32_65⟩
def k0_mult16 (k0_t12 : Fin k0_t12_loop.trips) : BitVec 32 :=
  let c64_i32 : BitVec 32 := 64#32
  let c0_i32_64 : BitVec 32 := 0#32
  let c1_i32_65 : BitVec 32 := 1#32
  let arg20 : BitVec 32 := Scf.iv c0_i32_64 c1_i32_65 k0_t12
  let v136 : BitVec 32 := Scalar.muli c64_i32 arg20
  v136
@[reducible] def k0_t13_loop : Scf.Loop 32 :=
  let c0_i32_88 : BitVec 32 := 0#32
  let c10_i32 : BitVec 32 := 10#32
  let v138 : BitVec 32 := Scalar.addi c0_i32_88 c10_i32
  let c1_i32_89 : BitVec 32 := 1#32
  ⟨c0_i32_88, v138, c1_i32_89⟩
def k0_mult17 (k0_t13 : Fin k0_t13_loop.trips) : BitVec 32 :=
  let c128_i32 : BitVec 32 := 128#32
  let c0_i32_88 : BitVec 32 := 0#32
  let c1_i32_89 : BitVec 32 := 1#32
  let arg22 : BitVec 32 := Scf.iv c0_i32_88 c1_i32_89 k0_t13
  let v140 : BitVec 32 := Scalar.muli c128_i32 arg22
  v140
def k0_off76 (v2_0 : BitVec 32) (k0_t11 : Fin (k0_t11_loop v2_0).trips) (k0_t12 : Fin k0_t12_loop.trips) (k0_t13 : Fin k0_t13_loop.trips) : Fin 3 → Nat :=
  let c0_i32_19 : BitVec 32 := 0#32
  let v16 : BitVec 32 := Scalar.subi v2_0 c0_i32_19
  let c1_i32_21 : BitVec 32 := 1#32
  let v18 : BitVec 32 := Scalar.divsi v16 c1_i32_21
  let v19 : BitVec 32 := Scalar.muli v18 c1_i32_21
  let v20 : BitVec 32 := Scalar.addi c0_i32_19 v19
  let c1_i32_23 : BitVec 32 := 1#32
  let arg18 : BitVec 32 := Scf.iv v20 c1_i32_23 k0_t11
  let c2_i32 : BitVec 32 := 2#32
  let c0_i32_35 : BitVec 32 := 0#32
  let v42 : BitVec 1 := Scalar.cmpi .eq c2_i32 c0_i32_35
  let c1_i32_36 : BitVec 32 := 1#32
  let v43 : BitVec 32 := Scalar.select v42 c1_i32_36 c2_i32
  let v44 : BitVec 32 := Scalar.remsi arg18 v43
  let c0_i32_38 : BitVec 32 := 0#32
  let v46 : BitVec 1 := Scalar.cmpi .slt v44 c0_i32_38
  let c0_i32_39 : BitVec 32 := 0#32
  let v47 : BitVec 1 := Scalar.cmpi .slt v43 c0_i32_39
  let v48 : BitVec 1 := Scalar.xori v46 v47
  let c0_i32_37 : BitVec 32 := 0#32
  let v45 : BitVec 1 := Scalar.cmpi .ne v44 c0_i32_37
  let v49 : BitVec 1 := Scalar.andi v48 v45
  let v50 : BitVec 32 := Scalar.addi v44 v43
  let v51 : BitVec 32 := Scalar.select v49 v50 v44
  let v142 : Index := Scalar.indexCast v51
  let c64_i32 : BitVec 32 := 64#32
  let c0_i32_64 : BitVec 32 := 0#32
  let c1_i32_65 : BitVec 32 := 1#32
  let arg20 : BitVec 32 := Scf.iv c0_i32_64 c1_i32_65 k0_t12
  let v136 : BitVec 32 := Scalar.muli c64_i32 arg20
  let v137 : BitVec 32 := v136
  let v143 : Index := Scalar.indexCast v137
  let c128_i32 : BitVec 32 := 128#32
  let c0_i32_88 : BitVec 32 := 0#32
  let c1_i32_89 : BitVec 32 := 1#32
  let arg22 : BitVec 32 := Scf.iv c0_i32_88 c1_i32_89 k0_t13
  let v140 : BitVec 32 := Scalar.muli c128_i32 arg22
  let v141 : BitVec 32 := v140
  let v144 : Index := Scalar.indexCast v141
  ![v142.toNat, v143.toNat, v144.toNat]

def k0_chk3_0 (v2_0 : BitVec 32) : Prop :=
  ((k0_t2_loop v2_0).OK) ∧
  (∀ k0_t2 : Fin (k0_t2_loop v2_0).trips, ∀ a, (k0_off6 v2_0 k0_t2) a + S1x1.size a ≤ S2x11.size a) ∧
  (∀ k0_t2 : Fin (k0_t2_loop v2_0).trips, ∀ a, (k0_off7 v2_0 k0_t2) a + S1x1.size a ≤ S2x11.size a) ∧
  (∀ k0_t2 : Fin (k0_t2_loop v2_0).trips, ∀ a, (k0_off9 v2_0 k0_t2) a + S1x1.size a ≤ S2x11.size a) ∧
  (∀ k0_t2 : Fin (k0_t2_loop v2_0).trips, ∀ a, (k0_off10 v2_0 k0_t2) a + S1x1.size a ≤ S2x2.size a) ∧
  (∀ k0_t2 : Fin (k0_t2_loop v2_0).trips, ∀ a, (k0_off11 v2_0 k0_t2) a + S1x1728x1280.size a ≤ S2x1728x1280.size a) ∧
  (∀ k0_t2 : Fin (k0_t2_loop v2_0).trips, ∀ (hinb : ∀ a, (k0_off11 v2_0 k0_t2) a + S1x1728x1280.size a ≤ S2x1728x1280.size a), (Rect.unit (s := S2x1728x1280) (k0_off11 v2_0 k0_t2) S1x1728x1280.size hinb).WholeWords (EltTy.packing .i8)) ∧
  (∀ k0_t2 : Fin (k0_t2_loop v2_0).trips, ∀ a, (k0_off13 v2_0 k0_t2) a + S1x1.size a ≤ S2x2.size a) ∧
  (∀ k0_t2 : Fin (k0_t2_loop v2_0).trips, ∀ a, (k0_off14 v2_0 k0_t2) a + S1x160x1728.size a ≤ S2x160x1728.size a) ∧
  (∀ k0_t2 : Fin (k0_t2_loop v2_0).trips, ∀ (hinb : ∀ a, (k0_off14 v2_0 k0_t2) a + S1x160x1728.size a ≤ S2x160x1728.size a), (Rect.unit (s := S2x160x1728) (k0_off14 v2_0 k0_t2) S1x160x1728.size hinb).WholeWords (EltTy.packing .fp8e4m3)) ∧
  (∀ k0_t2 : Fin (k0_t2_loop v2_0).trips, ∀ (k0_h2 : k0_cond2 v2_0 k0_t2 = 1#1), ∀ a, (k0_off16 v2_0 k0_t2) a + S1x1.size a ≤ S2x11.size a) ∧
  (∀ k0_t2 : Fin (k0_t2_loop v2_0).trips, ∀ (k0_h2 : k0_cond2 v2_0 k0_t2 = 1#1), ∀ a, (k0_off17 v2_0 k0_t2) a + S1x1.size a ≤ S2x2.size a) ∧
  (∀ k0_t2 : Fin (k0_t2_loop v2_0).trips, ∀ (k0_h2 : k0_cond2 v2_0 k0_t2 = 1#1), ∀ a, (k0_off18 v2_0 k0_t2) a + S1x1728x1280.size a ≤ S2x1728x1280.size a) ∧
  (∀ k0_t2 : Fin (k0_t2_loop v2_0).trips, ∀ (k0_h2 : k0_cond2 v2_0 k0_t2 = 1#1), ∀ (hinb : ∀ a, (k0_off18 v2_0 k0_t2) a + S1x1728x1280.size a ≤ S2x1728x1280.size a), (Rect.unit (s := S2x1728x1280) (k0_off18 v2_0 k0_t2) S1x1728x1280.size hinb).WholeWords (EltTy.packing .i8)) ∧
  (∀ k0_t2 : Fin (k0_t2_loop v2_0).trips, ∀ (k0_h2 : k0_cond2 v2_0 k0_t2 = 1#1), ∀ a, (k0_off20 v2_0 k0_t2) a + S1x1.size a ≤ S2x2.size a) ∧
  (∀ k0_t2 : Fin (k0_t2_loop v2_0).trips, ∀ (k0_h2 : k0_cond2 v2_0 k0_t2 = 1#1), ∀ a, (k0_off21 v2_0 k0_t2) a + S1x160x1728.size a ≤ S2x160x1728.size a) ∧
  (∀ k0_t2 : Fin (k0_t2_loop v2_0).trips, ∀ (k0_h2 : k0_cond2 v2_0 k0_t2 = 1#1), ∀ (hinb : ∀ a, (k0_off21 v2_0 k0_t2) a + S1x160x1728.size a ≤ S2x160x1728.size a), (Rect.unit (s := S2x160x1728) (k0_off21 v2_0 k0_t2) S1x160x1728.size hinb).WholeWords (EltTy.packing .fp8e4m3)) ∧
  (∀ k0_t2 : Fin (k0_t2_loop v2_0).trips, ∀ a, (k0_off23 v2_0 k0_t2) a + S1x160x1728.size a ≤ S2x160x1728.size a) ∧
  (∀ (k0_t2 : Fin (k0_t2_loop v2_0).trips) (k0_t3 : Fin k0_t3_loop.trips) (k0_t4 : Fin k0_t4_loop.trips), ∀ a, (k0_off24 v2_0 k0_t2 k0_t3 k0_t4) a + S1x64x128.size a ≤ S2x1728x1280.size a) ∧
  ((k0_t11_loop v2_0).OK) ∧
  (∀ k0_t11 : Fin (k0_t11_loop v2_0).trips, ∀ a, (k0_off58 v2_0 k0_t11) a + S1x1.size a ≤ S2x11.size a) ∧
  (∀ k0_t11 : Fin (k0_t11_loop v2_0).trips, ∀ a, (k0_off59 v2_0 k0_t11) a + S1x1.size a ≤ S2x11.size a) ∧
  (∀ k0_t11 : Fin (k0_t11_loop v2_0).trips, ∀ a, (k0_off61 v2_0 k0_t11) a + S1x1.size a ≤ S2x11.size a) ∧
  (∀ k0_t11 : Fin (k0_t11_loop v2_0).trips, ∀ a, (k0_off62 v2_0 k0_t11) a + S1x1.size a ≤ S2x2.size a) ∧
  (∀ k0_t11 : Fin (k0_t11_loop v2_0).trips, ∀ a, (k0_off63 v2_0 k0_t11) a + S1x1728x1280.size a ≤ S2x1728x1280.size a) ∧
  (∀ k0_t11 : Fin (k0_t11_loop v2_0).trips, ∀ (hinb : ∀ a, (k0_off63 v2_0 k0_t11) a + S1x1728x1280.size a ≤ S2x1728x1280.size a), (Rect.unit (s := S2x1728x1280) (k0_off63 v2_0 k0_t11) S1x1728x1280.size hinb).WholeWords (EltTy.packing .i8)) ∧
  (∀ k0_t11 : Fin (k0_t11_loop v2_0).trips, ∀ a, (k0_off65 v2_0 k0_t11) a + S1x1.size a ≤ S2x2.size a) ∧
  (∀ k0_t11 : Fin (k0_t11_loop v2_0).trips, ∀ a, (k0_off66 v2_0 k0_t11) a + S1x160x1728.size a ≤ S2x160x1728.size a) ∧
  (∀ k0_t11 : Fin (k0_t11_loop v2_0).trips, ∀ (hinb : ∀ a, (k0_off66 v2_0 k0_t11) a + S1x160x1728.size a ≤ S2x160x1728.size a), (Rect.unit (s := S2x160x1728) (k0_off66 v2_0 k0_t11) S1x160x1728.size hinb).WholeWords (EltTy.packing .fp8e4m3)) ∧
  (∀ k0_t11 : Fin (k0_t11_loop v2_0).trips, ∀ (k0_h11 : k0_cond11 v2_0 k0_t11 = 1#1), ∀ a, (k0_off68 v2_0 k0_t11) a + S1x1.size a ≤ S2x11.size a) ∧
  (∀ k0_t11 : Fin (k0_t11_loop v2_0).trips, ∀ (k0_h11 : k0_cond11 v2_0 k0_t11 = 1#1), ∀ a, (k0_off69 v2_0 k0_t11) a + S1x1.size a ≤ S2x2.size a) ∧
  (∀ k0_t11 : Fin (k0_t11_loop v2_0).trips, ∀ (k0_h11 : k0_cond11 v2_0 k0_t11 = 1#1), ∀ a, (k0_off70 v2_0 k0_t11) a + S1x1728x1280.size a ≤ S2x1728x1280.size a)
def k0_chk3_1 (v2_0 : BitVec 32) : Prop :=
  (∀ k0_t11 : Fin (k0_t11_loop v2_0).trips, ∀ (k0_h11 : k0_cond11 v2_0 k0_t11 = 1#1), ∀ (hinb : ∀ a, (k0_off70 v2_0 k0_t11) a + S1x1728x1280.size a ≤ S2x1728x1280.size a), (Rect.unit (s := S2x1728x1280) (k0_off70 v2_0 k0_t11) S1x1728x1280.size hinb).WholeWords (EltTy.packing .i8)) ∧
  (∀ k0_t11 : Fin (k0_t11_loop v2_0).trips, ∀ (k0_h11 : k0_cond11 v2_0 k0_t11 = 1#1), ∀ a, (k0_off72 v2_0 k0_t11) a + S1x1.size a ≤ S2x2.size a) ∧
  (∀ k0_t11 : Fin (k0_t11_loop v2_0).trips, ∀ (k0_h11 : k0_cond11 v2_0 k0_t11 = 1#1), ∀ a, (k0_off73 v2_0 k0_t11) a + S1x160x1728.size a ≤ S2x160x1728.size a) ∧
  (∀ k0_t11 : Fin (k0_t11_loop v2_0).trips, ∀ (k0_h11 : k0_cond11 v2_0 k0_t11 = 1#1), ∀ (hinb : ∀ a, (k0_off73 v2_0 k0_t11) a + S1x160x1728.size a ≤ S2x160x1728.size a), (Rect.unit (s := S2x160x1728) (k0_off73 v2_0 k0_t11) S1x160x1728.size hinb).WholeWords (EltTy.packing .fp8e4m3)) ∧
  (∀ k0_t11 : Fin (k0_t11_loop v2_0).trips, ∀ a, (k0_off75 v2_0 k0_t11) a + S1x160x1728.size a ≤ S2x160x1728.size a) ∧
  (∀ (k0_t11 : Fin (k0_t11_loop v2_0).trips) (k0_t12 : Fin k0_t12_loop.trips) (k0_t13 : Fin k0_t13_loop.trips), ∀ a, (k0_off76 v2_0 k0_t11 k0_t12 k0_t13) a + S1x64x128.size a ≤ S2x1728x1280.size a)
def k0_chk3 (v2_0 : BitVec 32) : Prop :=
  k0_chk3_0 v2_0 ∧
  k0_chk3_1 v2_0
theorem k0_t2_ok : ∀ (v2_0 : BitVec 32) (k0_hw3 : k0_chk3 v2_0), (k0_t2_loop v2_0).OK := fun v2_0 k0_hw3 => k0_hw3.1.1
theorem k0_off6_inb : ∀ (v2_0 : BitVec 32) (k0_hw3 : k0_chk3 v2_0) (k0_t2 : Fin (k0_t2_loop v2_0).trips), ∀ a, (k0_off6 v2_0 k0_t2) a + S1x1.size a ≤ S2x11.size a := fun v2_0 k0_hw3 k0_t2 => k0_hw3.1.2.1 k0_t2
theorem k0_off7_inb : ∀ (v2_0 : BitVec 32) (k0_hw3 : k0_chk3 v2_0) (k0_t2 : Fin (k0_t2_loop v2_0).trips), ∀ a, (k0_off7 v2_0 k0_t2) a + S1x1.size a ≤ S2x11.size a := fun v2_0 k0_hw3 k0_t2 => k0_hw3.1.2.2.1 k0_t2
theorem k0_off9_inb : ∀ (v2_0 : BitVec 32) (k0_hw3 : k0_chk3 v2_0) (k0_t2 : Fin (k0_t2_loop v2_0).trips), ∀ a, (k0_off9 v2_0 k0_t2) a + S1x1.size a ≤ S2x11.size a := fun v2_0 k0_hw3 k0_t2 => k0_hw3.1.2.2.2.1 k0_t2
theorem k0_off10_inb : ∀ (v2_0 : BitVec 32) (k0_hw3 : k0_chk3 v2_0) (k0_t2 : Fin (k0_t2_loop v2_0).trips), ∀ a, (k0_off10 v2_0 k0_t2) a + S1x1.size a ≤ S2x2.size a := fun v2_0 k0_hw3 k0_t2 => k0_hw3.1.2.2.2.2.1 k0_t2
theorem k0_off11_inb : ∀ (v2_0 : BitVec 32) (k0_hw3 : k0_chk3 v2_0) (k0_t2 : Fin (k0_t2_loop v2_0).trips), ∀ a, (k0_off11 v2_0 k0_t2) a + S1x1728x1280.size a ≤ S2x1728x1280.size a := fun v2_0 k0_hw3 k0_t2 => k0_hw3.1.2.2.2.2.2.1 k0_t2
theorem k0_off11_wordsi8 : ∀ (v2_0 : BitVec 32) (k0_hw3 : k0_chk3 v2_0) (k0_t2 : Fin (k0_t2_loop v2_0).trips), (Rect.unit (s := S2x1728x1280) (k0_off11 v2_0 k0_t2) S1x1728x1280.size (k0_off11_inb v2_0 k0_hw3 k0_t2)).WholeWords (EltTy.packing .i8) := fun v2_0 k0_hw3 k0_t2 => k0_hw3.1.2.2.2.2.2.2.1 k0_t2 (k0_off11_inb v2_0 k0_hw3 k0_t2)
theorem k0_off13_inb : ∀ (v2_0 : BitVec 32) (k0_hw3 : k0_chk3 v2_0) (k0_t2 : Fin (k0_t2_loop v2_0).trips), ∀ a, (k0_off13 v2_0 k0_t2) a + S1x1.size a ≤ S2x2.size a := fun v2_0 k0_hw3 k0_t2 => k0_hw3.1.2.2.2.2.2.2.2.1 k0_t2
theorem k0_off14_inb : ∀ (v2_0 : BitVec 32) (k0_hw3 : k0_chk3 v2_0) (k0_t2 : Fin (k0_t2_loop v2_0).trips), ∀ a, (k0_off14 v2_0 k0_t2) a + S1x160x1728.size a ≤ S2x160x1728.size a := fun v2_0 k0_hw3 k0_t2 => k0_hw3.1.2.2.2.2.2.2.2.2.1 k0_t2
theorem k0_off14_wordsfp8e4m3 : ∀ (v2_0 : BitVec 32) (k0_hw3 : k0_chk3 v2_0) (k0_t2 : Fin (k0_t2_loop v2_0).trips), (Rect.unit (s := S2x160x1728) (k0_off14 v2_0 k0_t2) S1x160x1728.size (k0_off14_inb v2_0 k0_hw3 k0_t2)).WholeWords (EltTy.packing .fp8e4m3) := fun v2_0 k0_hw3 k0_t2 => k0_hw3.1.2.2.2.2.2.2.2.2.2.1 k0_t2 (k0_off14_inb v2_0 k0_hw3 k0_t2)
theorem k0_off16_inb : ∀ (v2_0 : BitVec 32) (k0_hw3 : k0_chk3 v2_0) (k0_t2 : Fin (k0_t2_loop v2_0).trips), ∀ (k0_h2 : k0_cond2 v2_0 k0_t2 = 1#1), ∀ a, (k0_off16 v2_0 k0_t2) a + S1x1.size a ≤ S2x11.size a := fun v2_0 k0_hw3 k0_t2 k0_h2 => k0_hw3.1.2.2.2.2.2.2.2.2.2.2.1 k0_t2 k0_h2
theorem k0_off17_inb : ∀ (v2_0 : BitVec 32) (k0_hw3 : k0_chk3 v2_0) (k0_t2 : Fin (k0_t2_loop v2_0).trips), ∀ (k0_h2 : k0_cond2 v2_0 k0_t2 = 1#1), ∀ a, (k0_off17 v2_0 k0_t2) a + S1x1.size a ≤ S2x2.size a := fun v2_0 k0_hw3 k0_t2 k0_h2 => k0_hw3.1.2.2.2.2.2.2.2.2.2.2.2.1 k0_t2 k0_h2
theorem k0_off18_inb : ∀ (v2_0 : BitVec 32) (k0_hw3 : k0_chk3 v2_0) (k0_t2 : Fin (k0_t2_loop v2_0).trips), ∀ (k0_h2 : k0_cond2 v2_0 k0_t2 = 1#1), ∀ a, (k0_off18 v2_0 k0_t2) a + S1x1728x1280.size a ≤ S2x1728x1280.size a := fun v2_0 k0_hw3 k0_t2 k0_h2 => k0_hw3.1.2.2.2.2.2.2.2.2.2.2.2.2.1 k0_t2 k0_h2
theorem k0_off18_wordsi8 : ∀ (v2_0 : BitVec 32) (k0_hw3 : k0_chk3 v2_0) (k0_t2 : Fin (k0_t2_loop v2_0).trips), ∀ (k0_h2 : k0_cond2 v2_0 k0_t2 = 1#1), (Rect.unit (s := S2x1728x1280) (k0_off18 v2_0 k0_t2) S1x1728x1280.size (k0_off18_inb v2_0 k0_hw3 k0_t2 k0_h2)).WholeWords (EltTy.packing .i8) := fun v2_0 k0_hw3 k0_t2 k0_h2 => k0_hw3.1.2.2.2.2.2.2.2.2.2.2.2.2.2.1 k0_t2 k0_h2 (k0_off18_inb v2_0 k0_hw3 k0_t2 k0_h2)
theorem k0_off20_inb : ∀ (v2_0 : BitVec 32) (k0_hw3 : k0_chk3 v2_0) (k0_t2 : Fin (k0_t2_loop v2_0).trips), ∀ (k0_h2 : k0_cond2 v2_0 k0_t2 = 1#1), ∀ a, (k0_off20 v2_0 k0_t2) a + S1x1.size a ≤ S2x2.size a := fun v2_0 k0_hw3 k0_t2 k0_h2 => k0_hw3.1.2.2.2.2.2.2.2.2.2.2.2.2.2.2.1 k0_t2 k0_h2
theorem k0_off21_inb : ∀ (v2_0 : BitVec 32) (k0_hw3 : k0_chk3 v2_0) (k0_t2 : Fin (k0_t2_loop v2_0).trips), ∀ (k0_h2 : k0_cond2 v2_0 k0_t2 = 1#1), ∀ a, (k0_off21 v2_0 k0_t2) a + S1x160x1728.size a ≤ S2x160x1728.size a := fun v2_0 k0_hw3 k0_t2 k0_h2 => k0_hw3.1.2.2.2.2.2.2.2.2.2.2.2.2.2.2.2.1 k0_t2 k0_h2
theorem k0_off21_wordsfp8e4m3 : ∀ (v2_0 : BitVec 32) (k0_hw3 : k0_chk3 v2_0) (k0_t2 : Fin (k0_t2_loop v2_0).trips), ∀ (k0_h2 : k0_cond2 v2_0 k0_t2 = 1#1), (Rect.unit (s := S2x160x1728) (k0_off21 v2_0 k0_t2) S1x160x1728.size (k0_off21_inb v2_0 k0_hw3 k0_t2 k0_h2)).WholeWords (EltTy.packing .fp8e4m3) := fun v2_0 k0_hw3 k0_t2 k0_h2 => k0_hw3.1.2.2.2.2.2.2.2.2.2.2.2.2.2.2.2.2.1 k0_t2 k0_h2 (k0_off21_inb v2_0 k0_hw3 k0_t2 k0_h2)
theorem k0_off23_inb : ∀ (v2_0 : BitVec 32) (k0_hw3 : k0_chk3 v2_0) (k0_t2 : Fin (k0_t2_loop v2_0).trips), ∀ a, (k0_off23 v2_0 k0_t2) a + S1x160x1728.size a ≤ S2x160x1728.size a := fun v2_0 k0_hw3 k0_t2 => k0_hw3.1.2.2.2.2.2.2.2.2.2.2.2.2.2.2.2.2.2.1 k0_t2
theorem k0_off24_inb : ∀ (v2_0 : BitVec 32) (k0_hw3 : k0_chk3 v2_0) (k0_t2 : Fin (k0_t2_loop v2_0).trips) (k0_t3 : Fin k0_t3_loop.trips) (k0_t4 : Fin k0_t4_loop.trips), ∀ a, (k0_off24 v2_0 k0_t2 k0_t3 k0_t4) a + S1x64x128.size a ≤ S2x1728x1280.size a := fun v2_0 k0_hw3 k0_t2 k0_t3 k0_t4 => k0_hw3.1.2.2.2.2.2.2.2.2.2.2.2.2.2.2.2.2.2.2.1 k0_t2 k0_t3 k0_t4
theorem k0_t11_ok : ∀ (v2_0 : BitVec 32) (k0_hw3 : k0_chk3 v2_0), (k0_t11_loop v2_0).OK := fun v2_0 k0_hw3 => k0_hw3.1.2.2.2.2.2.2.2.2.2.2.2.2.2.2.2.2.2.2.2.1
theorem k0_off58_inb : ∀ (v2_0 : BitVec 32) (k0_hw3 : k0_chk3 v2_0) (k0_t11 : Fin (k0_t11_loop v2_0).trips), ∀ a, (k0_off58 v2_0 k0_t11) a + S1x1.size a ≤ S2x11.size a := fun v2_0 k0_hw3 k0_t11 => k0_hw3.1.2.2.2.2.2.2.2.2.2.2.2.2.2.2.2.2.2.2.2.2.1 k0_t11
theorem k0_off59_inb : ∀ (v2_0 : BitVec 32) (k0_hw3 : k0_chk3 v2_0) (k0_t11 : Fin (k0_t11_loop v2_0).trips), ∀ a, (k0_off59 v2_0 k0_t11) a + S1x1.size a ≤ S2x11.size a := fun v2_0 k0_hw3 k0_t11 => k0_hw3.1.2.2.2.2.2.2.2.2.2.2.2.2.2.2.2.2.2.2.2.2.2.1 k0_t11
theorem k0_off61_inb : ∀ (v2_0 : BitVec 32) (k0_hw3 : k0_chk3 v2_0) (k0_t11 : Fin (k0_t11_loop v2_0).trips), ∀ a, (k0_off61 v2_0 k0_t11) a + S1x1.size a ≤ S2x11.size a := fun v2_0 k0_hw3 k0_t11 => k0_hw3.1.2.2.2.2.2.2.2.2.2.2.2.2.2.2.2.2.2.2.2.2.2.2.1 k0_t11
theorem k0_off62_inb : ∀ (v2_0 : BitVec 32) (k0_hw3 : k0_chk3 v2_0) (k0_t11 : Fin (k0_t11_loop v2_0).trips), ∀ a, (k0_off62 v2_0 k0_t11) a + S1x1.size a ≤ S2x2.size a := fun v2_0 k0_hw3 k0_t11 => k0_hw3.1.2.2.2.2.2.2.2.2.2.2.2.2.2.2.2.2.2.2.2.2.2.2.2.1 k0_t11
theorem k0_off63_inb : ∀ (v2_0 : BitVec 32) (k0_hw3 : k0_chk3 v2_0) (k0_t11 : Fin (k0_t11_loop v2_0).trips), ∀ a, (k0_off63 v2_0 k0_t11) a + S1x1728x1280.size a ≤ S2x1728x1280.size a := fun v2_0 k0_hw3 k0_t11 => k0_hw3.1.2.2.2.2.2.2.2.2.2.2.2.2.2.2.2.2.2.2.2.2.2.2.2.2.1 k0_t11
theorem k0_off63_wordsi8 : ∀ (v2_0 : BitVec 32) (k0_hw3 : k0_chk3 v2_0) (k0_t11 : Fin (k0_t11_loop v2_0).trips), (Rect.unit (s := S2x1728x1280) (k0_off63 v2_0 k0_t11) S1x1728x1280.size (k0_off63_inb v2_0 k0_hw3 k0_t11)).WholeWords (EltTy.packing .i8) := fun v2_0 k0_hw3 k0_t11 => k0_hw3.1.2.2.2.2.2.2.2.2.2.2.2.2.2.2.2.2.2.2.2.2.2.2.2.2.2.1 k0_t11 (k0_off63_inb v2_0 k0_hw3 k0_t11)
theorem k0_off65_inb : ∀ (v2_0 : BitVec 32) (k0_hw3 : k0_chk3 v2_0) (k0_t11 : Fin (k0_t11_loop v2_0).trips), ∀ a, (k0_off65 v2_0 k0_t11) a + S1x1.size a ≤ S2x2.size a := fun v2_0 k0_hw3 k0_t11 => k0_hw3.1.2.2.2.2.2.2.2.2.2.2.2.2.2.2.2.2.2.2.2.2.2.2.2.2.2.2.1 k0_t11
theorem k0_off66_inb : ∀ (v2_0 : BitVec 32) (k0_hw3 : k0_chk3 v2_0) (k0_t11 : Fin (k0_t11_loop v2_0).trips), ∀ a, (k0_off66 v2_0 k0_t11) a + S1x160x1728.size a ≤ S2x160x1728.size a := fun v2_0 k0_hw3 k0_t11 => k0_hw3.1.2.2.2.2.2.2.2.2.2.2.2.2.2.2.2.2.2.2.2.2.2.2.2.2.2.2.2.1 k0_t11
theorem k0_off66_wordsfp8e4m3 : ∀ (v2_0 : BitVec 32) (k0_hw3 : k0_chk3 v2_0) (k0_t11 : Fin (k0_t11_loop v2_0).trips), (Rect.unit (s := S2x160x1728) (k0_off66 v2_0 k0_t11) S1x160x1728.size (k0_off66_inb v2_0 k0_hw3 k0_t11)).WholeWords (EltTy.packing .fp8e4m3) := fun v2_0 k0_hw3 k0_t11 => k0_hw3.1.2.2.2.2.2.2.2.2.2.2.2.2.2.2.2.2.2.2.2.2.2.2.2.2.2.2.2.2.1 k0_t11 (k0_off66_inb v2_0 k0_hw3 k0_t11)
theorem k0_off68_inb : ∀ (v2_0 : BitVec 32) (k0_hw3 : k0_chk3 v2_0) (k0_t11 : Fin (k0_t11_loop v2_0).trips), ∀ (k0_h11 : k0_cond11 v2_0 k0_t11 = 1#1), ∀ a, (k0_off68 v2_0 k0_t11) a + S1x1.size a ≤ S2x11.size a := fun v2_0 k0_hw3 k0_t11 k0_h11 => k0_hw3.1.2.2.2.2.2.2.2.2.2.2.2.2.2.2.2.2.2.2.2.2.2.2.2.2.2.2.2.2.2.1 k0_t11 k0_h11
theorem k0_off69_inb : ∀ (v2_0 : BitVec 32) (k0_hw3 : k0_chk3 v2_0) (k0_t11 : Fin (k0_t11_loop v2_0).trips), ∀ (k0_h11 : k0_cond11 v2_0 k0_t11 = 1#1), ∀ a, (k0_off69 v2_0 k0_t11) a + S1x1.size a ≤ S2x2.size a := fun v2_0 k0_hw3 k0_t11 k0_h11 => k0_hw3.1.2.2.2.2.2.2.2.2.2.2.2.2.2.2.2.2.2.2.2.2.2.2.2.2.2.2.2.2.2.2.1 k0_t11 k0_h11
theorem k0_off70_inb : ∀ (v2_0 : BitVec 32) (k0_hw3 : k0_chk3 v2_0) (k0_t11 : Fin (k0_t11_loop v2_0).trips), ∀ (k0_h11 : k0_cond11 v2_0 k0_t11 = 1#1), ∀ a, (k0_off70 v2_0 k0_t11) a + S1x1728x1280.size a ≤ S2x1728x1280.size a := fun v2_0 k0_hw3 k0_t11 k0_h11 => k0_hw3.1.2.2.2.2.2.2.2.2.2.2.2.2.2.2.2.2.2.2.2.2.2.2.2.2.2.2.2.2.2.2.2 k0_t11 k0_h11
theorem k0_off70_wordsi8 : ∀ (v2_0 : BitVec 32) (k0_hw3 : k0_chk3 v2_0) (k0_t11 : Fin (k0_t11_loop v2_0).trips), ∀ (k0_h11 : k0_cond11 v2_0 k0_t11 = 1#1), (Rect.unit (s := S2x1728x1280) (k0_off70 v2_0 k0_t11) S1x1728x1280.size (k0_off70_inb v2_0 k0_hw3 k0_t11 k0_h11)).WholeWords (EltTy.packing .i8) := fun v2_0 k0_hw3 k0_t11 k0_h11 => k0_hw3.2.1 k0_t11 k0_h11 (k0_off70_inb v2_0 k0_hw3 k0_t11 k0_h11)
theorem k0_off72_inb : ∀ (v2_0 : BitVec 32) (k0_hw3 : k0_chk3 v2_0) (k0_t11 : Fin (k0_t11_loop v2_0).trips), ∀ (k0_h11 : k0_cond11 v2_0 k0_t11 = 1#1), ∀ a, (k0_off72 v2_0 k0_t11) a + S1x1.size a ≤ S2x2.size a := fun v2_0 k0_hw3 k0_t11 k0_h11 => k0_hw3.2.2.1 k0_t11 k0_h11
theorem k0_off73_inb : ∀ (v2_0 : BitVec 32) (k0_hw3 : k0_chk3 v2_0) (k0_t11 : Fin (k0_t11_loop v2_0).trips), ∀ (k0_h11 : k0_cond11 v2_0 k0_t11 = 1#1), ∀ a, (k0_off73 v2_0 k0_t11) a + S1x160x1728.size a ≤ S2x160x1728.size a := fun v2_0 k0_hw3 k0_t11 k0_h11 => k0_hw3.2.2.2.1 k0_t11 k0_h11
theorem k0_off73_wordsfp8e4m3 : ∀ (v2_0 : BitVec 32) (k0_hw3 : k0_chk3 v2_0) (k0_t11 : Fin (k0_t11_loop v2_0).trips), ∀ (k0_h11 : k0_cond11 v2_0 k0_t11 = 1#1), (Rect.unit (s := S2x160x1728) (k0_off73 v2_0 k0_t11) S1x160x1728.size (k0_off73_inb v2_0 k0_hw3 k0_t11 k0_h11)).WholeWords (EltTy.packing .fp8e4m3) := fun v2_0 k0_hw3 k0_t11 k0_h11 => k0_hw3.2.2.2.2.1 k0_t11 k0_h11 (k0_off73_inb v2_0 k0_hw3 k0_t11 k0_h11)
theorem k0_off75_inb : ∀ (v2_0 : BitVec 32) (k0_hw3 : k0_chk3 v2_0) (k0_t11 : Fin (k0_t11_loop v2_0).trips), ∀ a, (k0_off75 v2_0 k0_t11) a + S1x160x1728.size a ≤ S2x160x1728.size a := fun v2_0 k0_hw3 k0_t11 => k0_hw3.2.2.2.2.2.1 k0_t11
theorem k0_off76_inb : ∀ (v2_0 : BitVec 32) (k0_hw3 : k0_chk3 v2_0) (k0_t11 : Fin (k0_t11_loop v2_0).trips) (k0_t12 : Fin k0_t12_loop.trips) (k0_t13 : Fin k0_t13_loop.trips), ∀ a, (k0_off76 v2_0 k0_t11 k0_t12 k0_t13) a + S1x64x128.size a ≤ S2x1728x1280.size a := fun v2_0 k0_hw3 k0_t11 k0_t12 k0_t13 => k0_hw3.2.2.2.2.2.2 k0_t11 k0_t12 k0_t13

def k0_mult18 (k0_t13 : Fin k0_t13_loop.trips) : BitVec 32 :=
  let c128_i32_108 : BitVec 32 := 128#32
  let c0_i32_88 : BitVec 32 := 0#32
  let c1_i32_89 : BitVec 32 := 1#32
  let arg22 : BitVec 32 := Scf.iv c0_i32_88 c1_i32_89 k0_t13
  let c8_i32 : BitVec 32 := 8#32
  let v201 : BitVec 32 := Scalar.divsi arg22 c8_i32
  let v202 : BitVec 32 := Scalar.muli c128_i32_108 v201
  v202
def k0_off77 (k0_t12 : Fin k0_t12_loop.trips) (k0_t13 : Fin k0_t13_loop.trips) : Fin 2 → Nat :=
  let c64_i32 : BitVec 32 := 64#32
  let c0_i32_64 : BitVec 32 := 0#32
  let c1_i32_65 : BitVec 32 := 1#32
  let arg20 : BitVec 32 := Scf.iv c0_i32_64 c1_i32_65 k0_t12
  let v136 : BitVec 32 := Scalar.muli c64_i32 arg20
  let v137 : BitVec 32 := v136
  let v204 : Index := Scalar.indexCast v137
  let c128_i32_108 : BitVec 32 := 128#32
  let c0_i32_88 : BitVec 32 := 0#32
  let c1_i32_89 : BitVec 32 := 1#32
  let arg22 : BitVec 32 := Scf.iv c0_i32_88 c1_i32_89 k0_t13
  let c8_i32 : BitVec 32 := 8#32
  let v201 : BitVec 32 := Scalar.divsi arg22 c8_i32
  let v202 : BitVec 32 := Scalar.muli c128_i32_108 v201
  let v203 : BitVec 32 := v202
  let v205 : Index := Scalar.indexCast v203
  ![v204.toNat, v205.toNat]
def k0_mult19 (k0_t13 : Fin k0_t13_loop.trips) : BitVec 32 :=
  let c128_i32_119 : BitVec 32 := 128#32
  let c0_i32_88 : BitVec 32 := 0#32
  let c1_i32_89 : BitVec 32 := 1#32
  let arg22 : BitVec 32 := Scf.iv c0_i32_88 c1_i32_89 k0_t13
  let v247 : BitVec 32 := Scalar.muli c128_i32_119 arg22
  v247
def k0_off78 (k0_t12 : Fin k0_t12_loop.trips) (k0_t13 : Fin k0_t13_loop.trips) : Fin 2 → Nat :=
  let c64_i32 : BitVec 32 := 64#32
  let c0_i32_64 : BitVec 32 := 0#32
  let c1_i32_65 : BitVec 32 := 1#32
  let arg20 : BitVec 32 := Scf.iv c0_i32_64 c1_i32_65 k0_t12
  let v136 : BitVec 32 := Scalar.muli c64_i32 arg20
  let v137 : BitVec 32 := v136
  let v249 : Index := Scalar.indexCast v137
  let c128_i32_119 : BitVec 32 := 128#32
  let c0_i32_88 : BitVec 32 := 0#32
  let c1_i32_89 : BitVec 32 := 1#32
  let arg22 : BitVec 32 := Scf.iv c0_i32_88 c1_i32_89 k0_t13
  let v247 : BitVec 32 := Scalar.muli c128_i32_119 arg22
  let v248 : BitVec 32 := v247
  let v250 : Index := Scalar.indexCast v248
  ![v249.toNat, v250.toNat]
def k0_mult20 (k0_t13 : Fin k0_t13_loop.trips) : BitVec 32 :=
  let c128_i32_121 : BitVec 32 := 128#32
  let c10_i32_120 : BitVec 32 := 10#32
  let c0_i32_88 : BitVec 32 := 0#32
  let c1_i32_89 : BitVec 32 := 1#32
  let arg22 : BitVec 32 := Scf.iv c0_i32_88 c1_i32_89 k0_t13
  let v255 : BitVec 32 := Scalar.addi c10_i32_120 arg22
  let v256 : BitVec 32 := Scalar.muli c128_i32_121 v255
  v256
def k0_off79 (k0_t12 : Fin k0_t12_loop.trips) (k0_t13 : Fin k0_t13_loop.trips) : Fin 2 → Nat :=
  let c64_i32 : BitVec 32 := 64#32
  let c0_i32_64 : BitVec 32 := 0#32
  let c1_i32_65 : BitVec 32 := 1#32
  let arg20 : BitVec 32 := Scf.iv c0_i32_64 c1_i32_65 k0_t12
  let v136 : BitVec 32 := Scalar.muli c64_i32 arg20
  let v137 : BitVec 32 := v136
  let v258 : Index := Scalar.indexCast v137
  let c128_i32_121 : BitVec 32 := 128#32
  let c10_i32_120 : BitVec 32 := 10#32
  let c0_i32_88 : BitVec 32 := 0#32
  let c1_i32_89 : BitVec 32 := 1#32
  let arg22 : BitVec 32 := Scf.iv c0_i32_88 c1_i32_89 k0_t13
  let v255 : BitVec 32 := Scalar.addi c10_i32_120 arg22
  let v256 : BitVec 32 := Scalar.muli c128_i32_121 v255
  let v257 : BitVec 32 := v256
  let v259 : Index := Scalar.indexCast v257
  ![v258.toNat, v259.toNat]
@[reducible] def k0_t14_loop (v38 : BitVec 32) (v40 : BitVec 32) : Scf.Loop 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_84 : BitVec 32 := 1#32
  ⟨v109, v133, c1_i32_84⟩

def k0_off80 (v36 : BitVec 32) : Fin 1 → Nat :=
  let v136 : Index := Scalar.indexCast v36
  ![v136.toNat]
@[reducible] def k0_t15_loop : Scf.Loop 32 :=
  let c0_i32_88 : BitVec 32 := 0#32
  let c256_i32_89 : BitVec 32 := 256#32
  let v138 : BitVec 32 := Scalar.addi c0_i32_88 c256_i32_89
  let c1_i32_90 : BitVec 32 := 1#32
  ⟨c0_i32_88, v138, c1_i32_90⟩
def k0_off81 (v38 : BitVec 32) (v40 : BitVec 32) (k0_t14 : Fin (k0_t14_loop v38 v40).trips) (k0_t15 : Fin k0_t15_loop.trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c256_i32_114 : BitVec 32 := 256#32
  let v171 : BitVec 32 := Scalar.muli arg20 c256_i32_114
  let c0_i32_88 : BitVec 32 := 0#32
  let c1_i32_90 : BitVec 32 := 1#32
  let arg22 : BitVec 32 := Scf.iv c0_i32_88 c1_i32_90 k0_t15
  let v172 : BitVec 32 := Scalar.addi v171 arg22
  let v173 : Index := Scalar.indexCast v172
  ![v173.toNat]
def k0_off82 (v174 : BitVec 32) : Fin 2 → Nat :=
  let v175 : Index := Scalar.indexCast v174
  let c0_115 : Index := 0#32
  ![v175.toNat, 0]

def k0_chk14 (v174 : BitVec 32) : Prop :=
  (∀ a, (k0_off82 v174) a + S1x384.size a ≤ S9216x384.size a)
theorem k0_off82_inb : ∀ (v174 : BitVec 32) (k0_hw14 : k0_chk14 v174), ∀ a, (k0_off82 v174) a + S1x384.size a ≤ S9216x384.size a := fun v174 k0_hw14 => k0_hw14

def k0_off83 (k0_t15 : Fin k0_t15_loop.trips) : Fin 2 → Nat :=
  let c0_i32_88 : BitVec 32 := 0#32
  let c1_i32_90 : BitVec 32 := 1#32
  let arg22 : BitVec 32 := Scf.iv c0_i32_88 c1_i32_90 k0_t15
  let v177 : Index := Scalar.indexCast arg22
  let c0_116 : Index := 0#32
  ![v177.toNat, 0]
@[reducible] def k0_t16_loop : Scf.Loop 32 :=
  let c0_i32_93 : BitVec 32 := 0#32
  let c10_i32 : BitVec 32 := 10#32
  let v140 : BitVec 32 := Scalar.addi c0_i32_93 c10_i32
  let c1_i32_94 : BitVec 32 := 1#32
  ⟨c0_i32_93, v140, c1_i32_94⟩
def k0_mult21 (k0_t16 : Fin k0_t16_loop.trips) : BitVec 32 :=
  let c128_i32 : BitVec 32 := 128#32
  let c0_i32_93 : BitVec 32 := 0#32
  let c1_i32_94 : BitVec 32 := 1#32
  let arg22 : BitVec 32 := Scf.iv c0_i32_93 c1_i32_94 k0_t16
  let c4_i32 : BitVec 32 := 4#32
  let v182 : BitVec 32 := Scalar.divsi arg22 c4_i32
  let v183 : BitVec 32 := Scalar.muli c128_i32 v182
  v183
def k0_off84 (k0_t16 : Fin k0_t16_loop.trips) : Fin 2 → Nat :=
  let c0_116 : Index := 0#32
  let c128_i32 : BitVec 32 := 128#32
  let c0_i32_93 : BitVec 32 := 0#32
  let c1_i32_94 : BitVec 32 := 1#32
  let arg22 : BitVec 32 := Scf.iv c0_i32_93 c1_i32_94 k0_t16
  let c4_i32 : BitVec 32 := 4#32
  let v182 : BitVec 32 := Scalar.divsi arg22 c4_i32
  let v183 : BitVec 32 := Scalar.muli c128_i32 v182
  let v184 : BitVec 32 := v183
  let v185 : Index := Scalar.indexCast v184
  ![0, v185.toNat]
def k0_mult22 (k0_t16 : Fin k0_t16_loop.trips) : BitVec 32 :=
  let c128_i32_149 : BitVec 32 := 128#32
  let c0_i32_93 : BitVec 32 := 0#32
  let c1_i32_94 : BitVec 32 := 1#32
  let arg22 : BitVec 32 := Scf.iv c0_i32_93 c1_i32_94 k0_t16
  let v288 : BitVec 32 := Scalar.muli c128_i32_149 arg22
  v288
def k0_off85 (k0_t16 : Fin k0_t16_loop.trips) : Fin 2 → Nat :=
  let c0_150 : Index := 0#32
  let c128_i32_149 : BitVec 32 := 128#32
  let c0_i32_93 : BitVec 32 := 0#32
  let c1_i32_94 : BitVec 32 := 1#32
  let arg22 : BitVec 32 := Scf.iv c0_i32_93 c1_i32_94 k0_t16
  let v288 : BitVec 32 := Scalar.muli c128_i32_149 arg22
  let v289 : BitVec 32 := v288
  let v290 : Index := Scalar.indexCast v289
  ![0, v290.toNat]
def k0_mult23 (k0_t16 : Fin k0_t16_loop.trips) : BitVec 32 :=
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t16
  let v295 : BitVec 32 := Scalar.addi c10_i32_151 arg22
  let v296 : BitVec 32 := Scalar.muli c128_i32_152 v295
  v296
def k0_off86 (k0_t16 : Fin k0_t16_loop.trips) : Fin 2 → Nat :=
  let c0_153 : Index := 0#32
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t16
  let v295 : BitVec 32 := Scalar.addi c10_i32_151 arg22
  let v296 : BitVec 32 := Scalar.muli c128_i32_152 v295
  let v297 : BitVec 32 := v296
  let v298 : Index := Scalar.indexCast v297
  ![0, v298.toNat]
def k0_mult24 (v38 : BitVec 32) (v40 : BitVec 32) (k0_t14 : Fin (k0_t14_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_118 : BitVec 32 := 2#32
  let v178 : BitVec 32 := Scalar.subi arg20 c2_i32_118
  let c256_i32_125 : BitVec 32 := 256#32
  let v189 : BitVec 32 := Scalar.muli v178 c256_i32_125
  v189
def k0_cond12 (v38 : BitVec 32) (v40 : BitVec 32) (k0_t14 : Fin (k0_t14_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c256_i32_107 : BitVec 32 := 256#32
  let v159 : BitVec 32 := Scalar.muli arg20 c256_i32_107
  let v160 : BitVec 1 := Scalar.cmpi .sle v38 v159
  let v161 : BitVec 32 := Scalar.extui v160
  let c0_i32_108 : BitVec 32 := 0#32
  let v162 : BitVec 1 := Scalar.cmpi .ne v161 c0_i32_108
  v162

def k0_cond13 (v38 : BitVec 32) (v40 : BitVec 32) (k0_t14 : Fin (k0_t14_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_114 : BitVec 32 := 2#32
  let v171 : BitVec 1 := Scalar.cmpi .sge arg20 c2_i32_114
  let v172 : BitVec 32 := Scalar.extui v171
  let c0_i32_115 : BitVec 32 := 0#32
  let v173 : BitVec 1 := Scalar.cmpi .ne v172 c0_i32_115
  v173

def k0_off87 (v38 : BitVec 32) (v40 : BitVec 32) (k0_t14 : Fin (k0_t14_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  ![v188.toNat]
def k0_off88 (v38 : BitVec 32) (v40 : BitVec 32) (k0_t14 : Fin (k0_t14_loop v38 v40).trips) : Fin 2 → Nat :=
  let c0_i32_126 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_118 : BitVec 32 := 2#32
  let v178 : BitVec 32 := Scalar.subi arg20 c2_i32_118
  let c256_i32_125 : BitVec 32 := 256#32
  let v189 : BitVec 32 := Scalar.muli v178 c256_i32_125
  let v190 : BitVec 32 := v189
  ![0, v190.toNat]
def k0_off89 (v38 : BitVec 32) (v40 : BitVec 32) (k0_t14 : Fin (k0_t14_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  let c0_i32_127 : BitVec 32 := 0#32
  let c0_i32_128 : BitVec 32 := 0#32
  ![v188.toNat, 0, 0]
def k0_off90 (v38 : BitVec 32) (v40 : BitVec 32) (k0_t14 : Fin (k0_t14_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v174 : Index := Scalar.indexCast v158
  let c0_116 : Index := 0#32
  let c0_117 : Index := 0#32
  ![v174.toNat, 0, 0]
def k0_off91 (v38 : BitVec 32) (v40 : BitVec 32) (k0_t14 : Fin (k0_t14_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v177 : Index := Scalar.indexCast v158
  let c0_115 : Index := 0#32
  let c0_116 : Index := 0#32
  ![v177.toNat, 0, 0]
def k0_cond14 (v38 : BitVec 32) (v40 : BitVec 32) (k0_t14 : Fin (k0_t14_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c256_i32_107 : BitVec 32 := 256#32
  let v159 : BitVec 32 := Scalar.muli arg20 c256_i32_107
  let v160 : BitVec 1 := Scalar.cmpi .sle v38 v159
  let v_true : BitVec 1 := 1#1
  let v163 : BitVec 1 := Scalar.xori v160 v_true
  let v164 : BitVec 32 := Scalar.extui v163
  let c0_i32_109 : BitVec 32 := 0#32
  let v165 : BitVec 1 := Scalar.cmpi .ne v164 c0_i32_109
  v165

def k0_mult25 (v38 : BitVec 32) (v40 : BitVec 32) (k0_t14 : Fin (k0_t14_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c256_i32_120 : BitVec 32 := 256#32
  let v181 : BitVec 32 := Scalar.muli arg20 c256_i32_120
  v181
def k0_cond15 (v38 : BitVec 32) (v40 : BitVec 32) (k0_t14 : Fin (k0_t14_loop v38 v40).trips) : BitVec 1 :=
  let v41 : BitVec 32 := Scalar.addi v38 v40
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c1_i32_110 : BitVec 32 := 1#32
  let v166 : BitVec 32 := Scalar.addi arg20 c1_i32_110
  let c256_i32_111 : BitVec 32 := 256#32
  let v167 : BitVec 32 := Scalar.muli v166 c256_i32_111
  let v168 : BitVec 1 := Scalar.cmpi .sge v41 v167
  let v169 : BitVec 32 := Scalar.extui v168
  let c0_i32_112 : BitVec 32 := 0#32
  let v170 : BitVec 1 := Scalar.cmpi .ne v169 c0_i32_112
  v170

def k0_off92 (v38 : BitVec 32) (v40 : BitVec 32) (k0_t14 : Fin (k0_t14_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  ![v180.toNat]
def k0_off93 (v38 : BitVec 32) (v40 : BitVec 32) (k0_t14 : Fin (k0_t14_loop v38 v40).trips) : Fin 2 → Nat :=
  let c0_i32_121 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c256_i32_120 : BitVec 32 := 256#32
  let v181 : BitVec 32 := Scalar.muli arg20 c256_i32_120
  let v182 : BitVec 32 := v181
  ![0, v182.toNat]
def k0_off94 (v38 : BitVec 32) (v40 : BitVec 32) (k0_t14 : Fin (k0_t14_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c1_i32_84 : BitVec 32 := 1#32
  let arg20 : BitVec 32 := Scf.iv v109 c1_i32_84 k0_t14
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  let c0_i32_122 : BitVec 32 := 0#32
  let c0_i32_123 : BitVec 32 := 0#32
  ![v180.toNat, 0, 0]
@[reducible] def k0_t17_loop (v38 : BitVec 32) (v40 : BitVec 32) : Scf.Loop 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let v130 : BitVec 32 := Scalar.addi v109 v129
  let c1_i32_85 : BitVec 32 := 1#32
  ⟨v133, v130, c1_i32_85⟩
def k0_off95 (v36 : BitVec 32) : Fin 1 → Nat :=
  let v136 : Index := Scalar.indexCast v36
  ![v136.toNat]
@[reducible] def k0_t18_loop : Scf.Loop 32 :=
  let c0_i32_88 : BitVec 32 := 0#32
  let c256_i32_89 : BitVec 32 := 256#32
  let v138 : BitVec 32 := Scalar.addi c0_i32_88 c256_i32_89
  let c1_i32_90 : BitVec 32 := 1#32
  ⟨c0_i32_88, v138, c1_i32_90⟩
def k0_off96 (v38 : BitVec 32) (v40 : BitVec 32) (k0_t17 : Fin (k0_t17_loop v38 v40).trips) (k0_t18 : Fin k0_t18_loop.trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c256_i32_114 : BitVec 32 := 256#32
  let v171 : BitVec 32 := Scalar.muli arg20 c256_i32_114
  let c0_i32_88 : BitVec 32 := 0#32
  let c1_i32_90 : BitVec 32 := 1#32
  let arg22 : BitVec 32 := Scf.iv c0_i32_88 c1_i32_90 k0_t18
  let v172 : BitVec 32 := Scalar.addi v171 arg22
  let v173 : Index := Scalar.indexCast v172
  ![v173.toNat]
def k0_off97 (v174 : BitVec 32) : Fin 2 → Nat :=
  let v175 : Index := Scalar.indexCast v174
  let c0_115 : Index := 0#32
  ![v175.toNat, 0]

def k0_chk15 (v174 : BitVec 32) : Prop :=
  (∀ a, (k0_off97 v174) a + S1x384.size a ≤ S9216x384.size a)
theorem k0_off97_inb : ∀ (v174 : BitVec 32) (k0_hw15 : k0_chk15 v174), ∀ a, (k0_off97 v174) a + S1x384.size a ≤ S9216x384.size a := fun v174 k0_hw15 => k0_hw15

def k0_off98 (k0_t18 : Fin k0_t18_loop.trips) : Fin 2 → Nat :=
  let c0_i32_88 : BitVec 32 := 0#32
  let c1_i32_90 : BitVec 32 := 1#32
  let arg22 : BitVec 32 := Scf.iv c0_i32_88 c1_i32_90 k0_t18
  let v177 : Index := Scalar.indexCast arg22
  let c0_116 : Index := 0#32
  ![v177.toNat, 0]
@[reducible] def k0_t19_loop : Scf.Loop 32 :=
  let c0_i32_93 : BitVec 32 := 0#32
  let c10_i32 : BitVec 32 := 10#32
  let v140 : BitVec 32 := Scalar.addi c0_i32_93 c10_i32
  let c1_i32_94 : BitVec 32 := 1#32
  ⟨c0_i32_93, v140, c1_i32_94⟩
def k0_mult26 (k0_t19 : Fin k0_t19_loop.trips) : BitVec 32 :=
  let c128_i32 : BitVec 32 := 128#32
  let c0_i32_93 : BitVec 32 := 0#32
  let c1_i32_94 : BitVec 32 := 1#32
  let arg22 : BitVec 32 := Scf.iv c0_i32_93 c1_i32_94 k0_t19
  let c4_i32 : BitVec 32 := 4#32
  let v182 : BitVec 32 := Scalar.divsi arg22 c4_i32
  let v183 : BitVec 32 := Scalar.muli c128_i32 v182
  v183
def k0_off99 (k0_t19 : Fin k0_t19_loop.trips) : Fin 2 → Nat :=
  let c0_116 : Index := 0#32
  let c128_i32 : BitVec 32 := 128#32
  let c0_i32_93 : BitVec 32 := 0#32
  let c1_i32_94 : BitVec 32 := 1#32
  let arg22 : BitVec 32 := Scf.iv c0_i32_93 c1_i32_94 k0_t19
  let c4_i32 : BitVec 32 := 4#32
  let v182 : BitVec 32 := Scalar.divsi arg22 c4_i32
  let v183 : BitVec 32 := Scalar.muli c128_i32 v182
  let v184 : BitVec 32 := v183
  let v185 : Index := Scalar.indexCast v184
  ![0, v185.toNat]
def k0_mult27 (k0_t19 : Fin k0_t19_loop.trips) : BitVec 32 :=
  let c128_i32_149 : BitVec 32 := 128#32
  let c0_i32_93 : BitVec 32 := 0#32
  let c1_i32_94 : BitVec 32 := 1#32
  let arg22 : BitVec 32 := Scf.iv c0_i32_93 c1_i32_94 k0_t19
  let v288 : BitVec 32 := Scalar.muli c128_i32_149 arg22
  v288
def k0_off100 (k0_t19 : Fin k0_t19_loop.trips) : Fin 2 → Nat :=
  let c0_150 : Index := 0#32
  let c128_i32_149 : BitVec 32 := 128#32
  let c0_i32_93 : BitVec 32 := 0#32
  let c1_i32_94 : BitVec 32 := 1#32
  let arg22 : BitVec 32 := Scf.iv c0_i32_93 c1_i32_94 k0_t19
  let v288 : BitVec 32 := Scalar.muli c128_i32_149 arg22
  let v289 : BitVec 32 := v288
  let v290 : Index := Scalar.indexCast v289
  ![0, v290.toNat]
def k0_mult28 (k0_t19 : Fin k0_t19_loop.trips) : BitVec 32 :=
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t19
  let v295 : BitVec 32 := Scalar.addi c10_i32_151 arg22
  let v296 : BitVec 32 := Scalar.muli c128_i32_152 v295
  v296
def k0_off101 (k0_t19 : Fin k0_t19_loop.trips) : Fin 2 → Nat :=
  let c0_153 : Index := 0#32
  let c128_i32_152 : BitVec 32 := 128#32
  let c10_i32_151 : BitVec 32 := 10#32
  let c0_i32_93 : BitVec 32 := 0#32
  let c1_i32_94 : BitVec 32 := 1#32
  let arg22 : BitVec 32 := Scf.iv c0_i32_93 c1_i32_94 k0_t19
  let v295 : BitVec 32 := Scalar.addi c10_i32_151 arg22
  let v296 : BitVec 32 := Scalar.muli c128_i32_152 v295
  let v297 : BitVec 32 := v296
  let v298 : Index := Scalar.indexCast v297
  ![0, v298.toNat]
def k0_mult29 (v38 : BitVec 32) (v40 : BitVec 32) (k0_t17 : Fin (k0_t17_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_118 : BitVec 32 := 2#32
  let v178 : BitVec 32 := Scalar.subi arg20 c2_i32_118
  let c256_i32_125 : BitVec 32 := 256#32
  let v189 : BitVec 32 := Scalar.muli v178 c256_i32_125
  v189
def k0_cond16 (v38 : BitVec 32) (v40 : BitVec 32) (k0_t17 : Fin (k0_t17_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c256_i32_107 : BitVec 32 := 256#32
  let v159 : BitVec 32 := Scalar.muli arg20 c256_i32_107
  let v160 : BitVec 1 := Scalar.cmpi .sle v38 v159
  let v161 : BitVec 32 := Scalar.extui v160
  let c0_i32_108 : BitVec 32 := 0#32
  let v162 : BitVec 1 := Scalar.cmpi .ne v161 c0_i32_108
  v162

def k0_cond17 (v38 : BitVec 32) (v40 : BitVec 32) (k0_t17 : Fin (k0_t17_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_114 : BitVec 32 := 2#32
  let v171 : BitVec 1 := Scalar.cmpi .sge arg20 c2_i32_114
  let v172 : BitVec 32 := Scalar.extui v171
  let c0_i32_115 : BitVec 32 := 0#32
  let v173 : BitVec 1 := Scalar.cmpi .ne v172 c0_i32_115
  v173

def k0_off102 (v38 : BitVec 32) (v40 : BitVec 32) (k0_t17 : Fin (k0_t17_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  ![v188.toNat]
def k0_off103 (v38 : BitVec 32) (v40 : BitVec 32) (k0_t17 : Fin (k0_t17_loop v38 v40).trips) : Fin 2 → Nat :=
  let c0_i32_126 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_118 : BitVec 32 := 2#32
  let v178 : BitVec 32 := Scalar.subi arg20 c2_i32_118
  let c256_i32_125 : BitVec 32 := 256#32
  let v189 : BitVec 32 := Scalar.muli v178 c256_i32_125
  let v190 : BitVec 32 := v189
  ![0, v190.toNat]
def k0_off104 (v38 : BitVec 32) (v40 : BitVec 32) (k0_t17 : Fin (k0_t17_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_118 : BitVec 32 := 2#32
  let v178 : BitVec 32 := Scalar.subi arg20 c2_i32_118
  let c2_i32_119 : BitVec 32 := 2#32
  let c0_i32_120 : BitVec 32 := 0#32
  let v179 : BitVec 1 := Scalar.cmpi .eq c2_i32_119 c0_i32_120
  let c1_i32_121 : BitVec 32 := 1#32
  let v180 : BitVec 32 := Scalar.select v179 c1_i32_121 c2_i32_119
  let v181 : BitVec 32 := Scalar.remsi v178 v180
  let c0_i32_123 : BitVec 32 := 0#32
  let v183 : BitVec 1 := Scalar.cmpi .slt v181 c0_i32_123
  let c0_i32_124 : BitVec 32 := 0#32
  let v184 : BitVec 1 := Scalar.cmpi .slt v180 c0_i32_124
  let v185 : BitVec 1 := Scalar.xori v183 v184
  let c0_i32_122 : BitVec 32 := 0#32
  let v182 : BitVec 1 := Scalar.cmpi .ne v181 c0_i32_122
  let v186 : BitVec 1 := Scalar.andi v185 v182
  let v187 : BitVec 32 := Scalar.addi v181 v180
  let v188 : BitVec 32 := Scalar.select v186 v187 v181
  let c0_i32_127 : BitVec 32 := 0#32
  let c0_i32_128 : BitVec 32 := 0#32
  ![v188.toNat, 0, 0]
def k0_off105 (v38 : BitVec 32) (v40 : BitVec 32) (k0_t17 : Fin (k0_t17_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v174 : Index := Scalar.indexCast v158
  let c0_116 : Index := 0#32
  let c0_117 : Index := 0#32
  ![v174.toNat, 0, 0]
def k0_off106 (v38 : BitVec 32) (v40 : BitVec 32) (k0_t17 : Fin (k0_t17_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_101 : BitVec 32 := 2#32
  let c0_i32_102 : BitVec 32 := 0#32
  let v149 : BitVec 1 := Scalar.cmpi .eq c2_i32_101 c0_i32_102
  let c1_i32_103 : BitVec 32 := 1#32
  let v150 : BitVec 32 := Scalar.select v149 c1_i32_103 c2_i32_101
  let v151 : BitVec 32 := Scalar.remsi arg20 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let v177 : Index := Scalar.indexCast v158
  let c0_115 : Index := 0#32
  let c0_116 : Index := 0#32
  ![v177.toNat, 0, 0]
def k0_cond18 (v38 : BitVec 32) (v40 : BitVec 32) (k0_t17 : Fin (k0_t17_loop v38 v40).trips) : BitVec 1 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c256_i32_107 : BitVec 32 := 256#32
  let v159 : BitVec 32 := Scalar.muli arg20 c256_i32_107
  let v160 : BitVec 1 := Scalar.cmpi .sle v38 v159
  let v_true : BitVec 1 := 1#1
  let v163 : BitVec 1 := Scalar.xori v160 v_true
  let v164 : BitVec 32 := Scalar.extui v163
  let c0_i32_109 : BitVec 32 := 0#32
  let v165 : BitVec 1 := Scalar.cmpi .ne v164 c0_i32_109
  v165

def k0_mult30 (v38 : BitVec 32) (v40 : BitVec 32) (k0_t17 : Fin (k0_t17_loop v38 v40).trips) : BitVec 32 :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c256_i32_120 : BitVec 32 := 256#32
  let v181 : BitVec 32 := Scalar.muli arg20 c256_i32_120
  v181
def k0_cond19 (v38 : BitVec 32) (v40 : BitVec 32) (k0_t17 : Fin (k0_t17_loop v38 v40).trips) : BitVec 1 :=
  let v41 : BitVec 32 := Scalar.addi v38 v40
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c1_i32_110 : BitVec 32 := 1#32
  let v166 : BitVec 32 := Scalar.addi arg20 c1_i32_110
  let c256_i32_111 : BitVec 32 := 256#32
  let v167 : BitVec 32 := Scalar.muli v166 c256_i32_111
  let v168 : BitVec 1 := Scalar.cmpi .sge v41 v167
  let v169 : BitVec 32 := Scalar.extui v168
  let c0_i32_112 : BitVec 32 := 0#32
  let v170 : BitVec 1 := Scalar.cmpi .ne v169 c0_i32_112
  v170

def k0_off107 (v38 : BitVec 32) (v40 : BitVec 32) (k0_t17 : Fin (k0_t17_loop v38 v40).trips) : Fin 1 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  ![v180.toNat]
def k0_off108 (v38 : BitVec 32) (v40 : BitVec 32) (k0_t17 : Fin (k0_t17_loop v38 v40).trips) : Fin 2 → Nat :=
  let c0_i32_121 : BitVec 32 := 0#32
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c256_i32_120 : BitVec 32 := 256#32
  let v181 : BitVec 32 := Scalar.muli arg20 c256_i32_120
  let v182 : BitVec 32 := v181
  ![0, v182.toNat]
def k0_off109 (v38 : BitVec 32) (v40 : BitVec 32) (k0_t17 : Fin (k0_t17_loop v38 v40).trips) : Fin 3 → Nat :=
  let c0_i32_67 : BitVec 32 := 0#32
  let v94 : BitVec 1 := Scalar.cmpi .sgt v38 c0_i32_67
  let v95 : BitVec 32 := Scalar.extui v94
  let c0_i32_68 : BitVec 32 := 0#32
  let v96 : BitVec 1 := Scalar.cmpi .slt v38 c0_i32_68
  let v97 : BitVec 32 := Scalar.extui v96
  let v98 : BitVec 32 := Scalar.subi v95 v97
  let c256_i32 : BitVec 32 := 256#32
  let c0_i32_69 : BitVec 32 := 0#32
  let v99 : BitVec 1 := Scalar.cmpi .sgt c256_i32 c0_i32_69
  let v100 : BitVec 32 := Scalar.extui v99
  let c0_i32_70 : BitVec 32 := 0#32
  let v101 : BitVec 1 := Scalar.cmpi .slt c256_i32 c0_i32_70
  let v102 : BitVec 32 := Scalar.extui v101
  let v103 : BitVec 32 := Scalar.subi v100 v102
  let v104 : BitVec 1 := Scalar.cmpi .ne v98 v103
  let v105 : BitVec 32 := Scalar.remsi v38 c256_i32
  let c0_i32_71 : BitVec 32 := 0#32
  let v106 : BitVec 1 := Scalar.cmpi .ne v105 c0_i32_71
  let v107 : BitVec 1 := Scalar.andi v104 v106
  let v93 : BitVec 32 := Scalar.divsi v38 c256_i32
  let c1_i32_72 : BitVec 32 := 1#32
  let v108 : BitVec 32 := Scalar.subi v93 c1_i32_72
  let v109 : BitVec 32 := Scalar.select v107 v108 v93
  let v41 : BitVec 32 := Scalar.addi v38 v40
  let c256_i32_73 : BitVec 32 := 256#32
  let v110 : BitVec 32 := Scalar.addi v41 c256_i32_73
  let c1_i32_74 : BitVec 32 := 1#32
  let v111 : BitVec 32 := Scalar.subi v110 c1_i32_74
  let c0_i32_76 : BitVec 32 := 0#32
  let v113 : BitVec 1 := Scalar.cmpi .sgt v111 c0_i32_76
  let v114 : BitVec 32 := Scalar.extui v113
  let c0_i32_77 : BitVec 32 := 0#32
  let v115 : BitVec 1 := Scalar.cmpi .slt v111 c0_i32_77
  let v116 : BitVec 32 := Scalar.extui v115
  let v117 : BitVec 32 := Scalar.subi v114 v116
  let c256_i32_75 : BitVec 32 := 256#32
  let c0_i32_78 : BitVec 32 := 0#32
  let v118 : BitVec 1 := Scalar.cmpi .sgt c256_i32_75 c0_i32_78
  let v119 : BitVec 32 := Scalar.extui v118
  let c0_i32_79 : BitVec 32 := 0#32
  let v120 : BitVec 1 := Scalar.cmpi .slt c256_i32_75 c0_i32_79
  let v121 : BitVec 32 := Scalar.extui v120
  let v122 : BitVec 32 := Scalar.subi v119 v121
  let v123 : BitVec 1 := Scalar.cmpi .ne v117 v122
  let v124 : BitVec 32 := Scalar.remsi v111 c256_i32_75
  let c0_i32_80 : BitVec 32 := 0#32
  let v125 : BitVec 1 := Scalar.cmpi .ne v124 c0_i32_80
  let v126 : BitVec 1 := Scalar.andi v123 v125
  let v112 : BitVec 32 := Scalar.divsi v111 c256_i32_75
  let c1_i32_81 : BitVec 32 := 1#32
  let v127 : BitVec 32 := Scalar.subi v112 c1_i32_81
  let v128 : BitVec 32 := Scalar.select v126 v127 v112
  let v129 : BitVec 32 := Scalar.subi v128 v109
  let c1_i32_83 : BitVec 32 := 1#32
  let v131 : BitVec 32 := Scalar.divsi v129 c1_i32_83
  let v132 : BitVec 32 := Scalar.muli v131 c1_i32_83
  let v133 : BitVec 32 := Scalar.addi v109 v132
  let c1_i32_85 : BitVec 32 := 1#32
  let arg20 : BitVec 32 := Scf.iv v133 c1_i32_85 k0_t17
  let c2_i32_114 : BitVec 32 := 2#32
  let c0_i32_115 : BitVec 32 := 0#32
  let v171 : BitVec 1 := Scalar.cmpi .eq c2_i32_114 c0_i32_115
  let c1_i32_116 : BitVec 32 := 1#32
  let v172 : BitVec 32 := Scalar.select v171 c1_i32_116 c2_i32_114
  let v173 : BitVec 32 := Scalar.remsi arg20 v172
  let c0_i32_118 : BitVec 32 := 0#32
  let v175 : BitVec 1 := Scalar.cmpi .slt v173 c0_i32_118
  let c0_i32_119 : BitVec 32 := 0#32
  let v176 : BitVec 1 := Scalar.cmpi .slt v172 c0_i32_119
  let v177 : BitVec 1 := Scalar.xori v175 v176
  let c0_i32_117 : BitVec 32 := 0#32
  let v174 : BitVec 1 := Scalar.cmpi .ne v173 c0_i32_117
  let v178 : BitVec 1 := Scalar.andi v177 v174
  let v179 : BitVec 32 := Scalar.addi v173 v172
  let v180 : BitVec 32 := Scalar.select v178 v179 v173
  let c0_i32_122 : BitVec 32 := 0#32
  let c0_i32_123 : BitVec 32 := 0#32
  ![v180.toNat, 0, 0]

def k0_chk13_0 (v36 : BitVec 32) (v38 : BitVec 32) (v40 : BitVec 32) : Prop :=
  ((k0_t14_loop v38 v40).OK) ∧
  (∀ k0_t14 : Fin (k0_t14_loop v38 v40).trips, ∀ a, (k0_off80 v36) a + S1.size a ≤ S11.size a) ∧
  (∀ (k0_t14 : Fin (k0_t14_loop v38 v40).trips) (k0_t15 : Fin k0_t15_loop.trips), ∀ a, (k0_off81 v38 v40 k0_t14 k0_t15) a + S1.size a ≤ S18432.size a) ∧
  (∀ k0_t14 : Fin (k0_t14_loop v38 v40).trips, ∀ (k0_h12 : k0_cond12 v38 v40 k0_t14 = 1#1), ∀ (k0_h13 : k0_cond13 v38 v40 k0_t14 = 1#1), 256 ∣ (k0_mult24 v38 v40 k0_t14).toNat) ∧
  (∀ k0_t14 : Fin (k0_t14_loop v38 v40).trips, ∀ (k0_h12 : k0_cond12 v38 v40 k0_t14 = 1#1), ∀ (k0_h13 : k0_cond13 v38 v40 k0_t14 = 1#1), ∀ a, (k0_off87 v38 v40 k0_t14) a + S1.size a ≤ S2.size a) ∧
  (∀ k0_t14 : Fin (k0_t14_loop v38 v40).trips, ∀ (k0_h12 : k0_cond12 v38 v40 k0_t14 = 1#1), ∀ (k0_h13 : k0_cond13 v38 v40 k0_t14 = 1#1), ∀ a, (k0_off88 v38 v40 k0_t14) a + S1728x256.size a ≤ S1728x18432.size a) ∧
  (∀ k0_t14 : Fin (k0_t14_loop v38 v40).trips, ∀ (k0_h12 : k0_cond12 v38 v40 k0_t14 = 1#1), ∀ (k0_h13 : k0_cond13 v38 v40 k0_t14 = 1#1), ∀ a, (k0_off89 v38 v40 k0_t14) a + S1x1728x256.size a ≤ S2x1728x256.size a) ∧
  (∀ k0_t14 : Fin (k0_t14_loop v38 v40).trips, ∀ (k0_h12 : k0_cond12 v38 v40 k0_t14 = 1#1), ∀ (k0_h13 : k0_cond13 v38 v40 k0_t14 = 1#1), ∀ (hinb : ∀ a, (k0_off89 v38 v40 k0_t14) a + S1x1728x256.size a ≤ S2x1728x256.size a), (Rect.unit (s := S2x1728x256) (k0_off89 v38 v40 k0_t14) S1x1728x256.size hinb).WholeWords (EltTy.packing .bf16)) ∧
  (∀ k0_t14 : Fin (k0_t14_loop v38 v40).trips, ∀ (k0_h12 : k0_cond12 v38 v40 k0_t14 = 1#1), ∀ (k0_h13 : k0_cond13 v38 v40 k0_t14 = 1#1), ∀ (hinb : ∀ a, (k0_off88 v38 v40 k0_t14) a + S1728x256.size a ≤ S1728x18432.size a), (Rect.unit (s := S1728x18432) (k0_off88 v38 v40 k0_t14) S1728x256.size hinb).WholeWords (EltTy.packing .bf16)) ∧
  (∀ k0_t14 : Fin (k0_t14_loop v38 v40).trips, ∀ (k0_h12 : k0_cond12 v38 v40 k0_t14 = 1#1), ∀ a, (k0_off90 v38 v40 k0_t14) a + S1x1728x256.size a ≤ S2x1728x256.size a) ∧
  (∀ k0_t14 : Fin (k0_t14_loop v38 v40).trips, ∀ (k0_h12 : k0_cond12 v38 v40 k0_t14 = 1#1), ∀ (hinb : ∀ a, (k0_off90 v38 v40 k0_t14) a + S1x1728x256.size a ≤ S2x1728x256.size a), (Rect.unit (s := S2x1728x256) (k0_off90 v38 v40 k0_t14) S1x1728x256.size hinb).PackedRows (EltTy.packing .bf16)) ∧
  (∀ k0_t14 : Fin (k0_t14_loop v38 v40).trips, ∀ (k0_h14 : k0_cond14 v38 v40 k0_t14 = 1#1), ∀ a, (k0_off91 v38 v40 k0_t14) a + S1x1728x256.size a ≤ S2x1728x256.size a) ∧
  (∀ k0_t14 : Fin (k0_t14_loop v38 v40).trips, ∀ (k0_h14 : k0_cond14 v38 v40 k0_t14 = 1#1), ∀ (hinb : ∀ a, (k0_off91 v38 v40 k0_t14) a + S1x1728x256.size a ≤ S2x1728x256.size a), (Rect.unit (s := S2x1728x256) (k0_off91 v38 v40 k0_t14) S1x1728x256.size hinb).PackedRows (EltTy.packing .bf16)) ∧
  (∀ k0_t14 : Fin (k0_t14_loop v38 v40).trips, ∀ (k0_h15 : k0_cond15 v38 v40 k0_t14 = 1#1), 256 ∣ (k0_mult25 v38 v40 k0_t14).toNat) ∧
  (∀ k0_t14 : Fin (k0_t14_loop v38 v40).trips, ∀ (k0_h15 : k0_cond15 v38 v40 k0_t14 = 1#1), ∀ a, (k0_off92 v38 v40 k0_t14) a + S1.size a ≤ S2.size a) ∧
  (∀ k0_t14 : Fin (k0_t14_loop v38 v40).trips, ∀ (k0_h15 : k0_cond15 v38 v40 k0_t14 = 1#1), ∀ a, (k0_off93 v38 v40 k0_t14) a + S1728x256.size a ≤ S1728x18432.size a) ∧
  (∀ k0_t14 : Fin (k0_t14_loop v38 v40).trips, ∀ (k0_h15 : k0_cond15 v38 v40 k0_t14 = 1#1), ∀ a, (k0_off94 v38 v40 k0_t14) a + S1x1728x256.size a ≤ S2x1728x256.size a) ∧
  (∀ k0_t14 : Fin (k0_t14_loop v38 v40).trips, ∀ (k0_h15 : k0_cond15 v38 v40 k0_t14 = 1#1), ∀ (hinb : ∀ a, (k0_off94 v38 v40 k0_t14) a + S1x1728x256.size a ≤ S2x1728x256.size a), (Rect.unit (s := S2x1728x256) (k0_off94 v38 v40 k0_t14) S1x1728x256.size hinb).WholeWords (EltTy.packing .bf16)) ∧
  (∀ k0_t14 : Fin (k0_t14_loop v38 v40).trips, ∀ (k0_h15 : k0_cond15 v38 v40 k0_t14 = 1#1), ∀ (hinb : ∀ a, (k0_off93 v38 v40 k0_t14) a + S1728x256.size a ≤ S1728x18432.size a), (Rect.unit (s := S1728x18432) (k0_off93 v38 v40 k0_t14) S1728x256.size hinb).WholeWords (EltTy.packing .bf16)) ∧
  ((k0_t17_loop v38 v40).OK) ∧
  (∀ k0_t17 : Fin (k0_t17_loop v38 v40).trips, ∀ a, (k0_off95 v36) a + S1.size a ≤ S11.size a) ∧
  (∀ (k0_t17 : Fin (k0_t17_loop v38 v40).trips) (k0_t18 : Fin k0_t18_loop.trips), ∀ a, (k0_off96 v38 v40 k0_t17 k0_t18) a + S1.size a ≤ S18432.size a) ∧
  (∀ k0_t17 : Fin (k0_t17_loop v38 v40).trips, ∀ (k0_h16 : k0_cond16 v38 v40 k0_t17 = 1#1), ∀ (k0_h17 : k0_cond17 v38 v40 k0_t17 = 1#1), 256 ∣ (k0_mult29 v38 v40 k0_t17).toNat) ∧
  (∀ k0_t17 : Fin (k0_t17_loop v38 v40).trips, ∀ (k0_h16 : k0_cond16 v38 v40 k0_t17 = 1#1), ∀ (k0_h17 : k0_cond17 v38 v40 k0_t17 = 1#1), ∀ a, (k0_off102 v38 v40 k0_t17) a + S1.size a ≤ S2.size a) ∧
  (∀ k0_t17 : Fin (k0_t17_loop v38 v40).trips, ∀ (k0_h16 : k0_cond16 v38 v40 k0_t17 = 1#1), ∀ (k0_h17 : k0_cond17 v38 v40 k0_t17 = 1#1), ∀ a, (k0_off103 v38 v40 k0_t17) a + S1728x256.size a ≤ S1728x18432.size a) ∧
  (∀ k0_t17 : Fin (k0_t17_loop v38 v40).trips, ∀ (k0_h16 : k0_cond16 v38 v40 k0_t17 = 1#1), ∀ (k0_h17 : k0_cond17 v38 v40 k0_t17 = 1#1), ∀ a, (k0_off104 v38 v40 k0_t17) a + S1x1728x256.size a ≤ S2x1728x256.size a) ∧
  (∀ k0_t17 : Fin (k0_t17_loop v38 v40).trips, ∀ (k0_h16 : k0_cond16 v38 v40 k0_t17 = 1#1), ∀ (k0_h17 : k0_cond17 v38 v40 k0_t17 = 1#1), ∀ (hinb : ∀ a, (k0_off104 v38 v40 k0_t17) a + S1x1728x256.size a ≤ S2x1728x256.size a), (Rect.unit (s := S2x1728x256) (k0_off104 v38 v40 k0_t17) S1x1728x256.size hinb).WholeWords (EltTy.packing .bf16)) ∧
  (∀ k0_t17 : Fin (k0_t17_loop v38 v40).trips, ∀ (k0_h16 : k0_cond16 v38 v40 k0_t17 = 1#1), ∀ (k0_h17 : k0_cond17 v38 v40 k0_t17 = 1#1), ∀ (hinb : ∀ a, (k0_off103 v38 v40 k0_t17) a + S1728x256.size a ≤ S1728x18432.size a), (Rect.unit (s := S1728x18432) (k0_off103 v38 v40 k0_t17) S1728x256.size hinb).WholeWords (EltTy.packing .bf16)) ∧
  (∀ k0_t17 : Fin (k0_t17_loop v38 v40).trips, ∀ (k0_h16 : k0_cond16 v38 v40 k0_t17 = 1#1), ∀ a, (k0_off105 v38 v40 k0_t17) a + S1x1728x256.size a ≤ S2x1728x256.size a) ∧
  (∀ k0_t17 : Fin (k0_t17_loop v38 v40).trips, ∀ (k0_h16 : k0_cond16 v38 v40 k0_t17 = 1#1), ∀ (hinb : ∀ a, (k0_off105 v38 v40 k0_t17) a + S1x1728x256.size a ≤ S2x1728x256.size a), (Rect.unit (s := S2x1728x256) (k0_off105 v38 v40 k0_t17) S1x1728x256.size hinb).PackedRows (EltTy.packing .bf16)) ∧
  (∀ k0_t17 : Fin (k0_t17_loop v38 v40).trips, ∀ (k0_h18 : k0_cond18 v38 v40 k0_t17 = 1#1), ∀ a, (k0_off106 v38 v40 k0_t17) a + S1x1728x256.size a ≤ S2x1728x256.size a) ∧
  (∀ k0_t17 : Fin (k0_t17_loop v38 v40).trips, ∀ (k0_h18 : k0_cond18 v38 v40 k0_t17 = 1#1), ∀ (hinb : ∀ a, (k0_off106 v38 v40 k0_t17) a + S1x1728x256.size a ≤ S2x1728x256.size a), (Rect.unit (s := S2x1728x256) (k0_off106 v38 v40 k0_t17) S1x1728x256.size hinb).PackedRows (EltTy.packing .bf16))
def k0_chk13_1 (v36 : BitVec 32) (v38 : BitVec 32) (v40 : BitVec 32) : Prop :=
  (∀ k0_t17 : Fin (k0_t17_loop v38 v40).trips, ∀ (k0_h19 : k0_cond19 v38 v40 k0_t17 = 1#1), 256 ∣ (k0_mult30 v38 v40 k0_t17).toNat) ∧
  (∀ k0_t17 : Fin (k0_t17_loop v38 v40).trips, ∀ (k0_h19 : k0_cond19 v38 v40 k0_t17 = 1#1), ∀ a, (k0_off107 v38 v40 k0_t17) a + S1.size a ≤ S2.size a) ∧
  (∀ k0_t17 : Fin (k0_t17_loop v38 v40).trips, ∀ (k0_h19 : k0_cond19 v38 v40 k0_t17 = 1#1), ∀ a, (k0_off108 v38 v40 k0_t17) a + S1728x256.size a ≤ S1728x18432.size a) ∧
  (∀ k0_t17 : Fin (k0_t17_loop v38 v40).trips, ∀ (k0_h19 : k0_cond19 v38 v40 k0_t17 = 1#1), ∀ a, (k0_off109 v38 v40 k0_t17) a + S1x1728x256.size a ≤ S2x1728x256.size a) ∧
  (∀ k0_t17 : Fin (k0_t17_loop v38 v40).trips, ∀ (k0_h19 : k0_cond19 v38 v40 k0_t17 = 1#1), ∀ (hinb : ∀ a, (k0_off109 v38 v40 k0_t17) a + S1x1728x256.size a ≤ S2x1728x256.size a), (Rect.unit (s := S2x1728x256) (k0_off109 v38 v40 k0_t17) S1x1728x256.size hinb).WholeWords (EltTy.packing .bf16)) ∧
  (∀ k0_t17 : Fin (k0_t17_loop v38 v40).trips, ∀ (k0_h19 : k0_cond19 v38 v40 k0_t17 = 1#1), ∀ (hinb : ∀ a, (k0_off108 v38 v40 k0_t17) a + S1728x256.size a ≤ S1728x18432.size a), (Rect.unit (s := S1728x18432) (k0_off108 v38 v40 k0_t17) S1728x256.size hinb).WholeWords (EltTy.packing .bf16))
def k0_chk13 (v36 : BitVec 32) (v38 : BitVec 32) (v40 : BitVec 32) : Prop :=
  k0_chk13_0 v36 v38 v40 ∧
  k0_chk13_1 v36 v38 v40
theorem k0_t14_ok : ∀ (v36 : BitVec 32) (v38 : BitVec 32) (v40 : BitVec 32) (k0_hw13 : k0_chk13 v36 v38 v40), (k0_t14_loop v38 v40).OK := fun v36 v38 v40 k0_hw13 => k0_hw13.1.1
theorem k0_off80_inb : ∀ (v36 : BitVec 32) (v38 : BitVec 32) (v40 : BitVec 32) (k0_hw13 : k0_chk13 v36 v38 v40) (k0_t14 : Fin (k0_t14_loop v38 v40).trips), ∀ a, (k0_off80 v36) a + S1.size a ≤ S11.size a := fun v36 v38 v40 k0_hw13 k0_t14 => k0_hw13.1.2.1 k0_t14
theorem k0_off81_inb : ∀ (v36 : BitVec 32) (v38 : BitVec 32) (v40 : BitVec 32) (k0_hw13 : k0_chk13 v36 v38 v40) (k0_t14 : Fin (k0_t14_loop v38 v40).trips) (k0_t15 : Fin k0_t15_loop.trips), ∀ a, (k0_off81 v38 v40 k0_t14 k0_t15) a + S1.size a ≤ S18432.size a := fun v36 v38 v40 k0_hw13 k0_t14 k0_t15 => k0_hw13.1.2.2.1 k0_t14 k0_t15
theorem k0_mult24_dvd : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ (k0_h13 : k0_cond13 v38 v40 k0_t14 = 1#1), 256 ∣ (k0_mult24 v38 v40 k0_t14).toNat := fun v36 v38 v40 k0_hw13 k0_t14 k0_h12 k0_h13 => k0_hw13.1.2.2.2.1 k0_t14 k0_h12 k0_h13
theorem k0_off87_inb : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ (k0_h13 : k0_cond13 v38 v40 k0_t14 = 1#1), ∀ a, (k0_off87 v38 v40 k0_t14) a + S1.size a ≤ S2.size a := fun v36 v38 v40 k0_hw13 k0_t14 k0_h12 k0_h13 => k0_hw13.1.2.2.2.2.1 k0_t14 k0_h12 k0_h13
theorem k0_off88_inb : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ (k0_h13 : k0_cond13 v38 v40 k0_t14 = 1#1), ∀ a, (k0_off88 v38 v40 k0_t14) a + S1728x256.size a ≤ S1728x18432.size a := fun v36 v38 v40 k0_hw13 k0_t14 k0_h12 k0_h13 => k0_hw13.1.2.2.2.2.2.1 k0_t14 k0_h12 k0_h13
theorem k0_off89_inb : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ (k0_h13 : k0_cond13 v38 v40 k0_t14 = 1#1), ∀ a, (k0_off89 v38 v40 k0_t14) a + S1x1728x256.size a ≤ S2x1728x256.size a := fun v36 v38 v40 k0_hw13 k0_t14 k0_h12 k0_h13 => k0_hw13.1.2.2.2.2.2.2.1 k0_t14 k0_h12 k0_h13
theorem k0_off89_wordsbf16 : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ (k0_h13 : k0_cond13 v38 v40 k0_t14 = 1#1), (Rect.unit (s := S2x1728x256) (k0_off89 v38 v40 k0_t14) S1x1728x256.size (k0_off89_inb v36 v38 v40 k0_hw13 k0_t14 k0_h12 k0_h13)).WholeWords (EltTy.packing .bf16) := fun v36 v38 v40 k0_hw13 k0_t14 k0_h12 k0_h13 => k0_hw13.1.2.2.2.2.2.2.2.1 k0_t14 k0_h12 k0_h13 (k0_off89_inb v36 v38 v40 k0_hw13 k0_t14 k0_h12 k0_h13)
theorem k0_off88_wordsbf16 : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ (k0_h13 : k0_cond13 v38 v40 k0_t14 = 1#1), (Rect.unit (s := S1728x18432) (k0_off88 v38 v40 k0_t14) S1728x256.size (k0_off88_inb v36 v38 v40 k0_hw13 k0_t14 k0_h12 k0_h13)).WholeWords (EltTy.packing .bf16) := fun v36 v38 v40 k0_hw13 k0_t14 k0_h12 k0_h13 => k0_hw13.1.2.2.2.2.2.2.2.2.1 k0_t14 k0_h12 k0_h13 (k0_off88_inb v36 v38 v40 k0_hw13 k0_t14 k0_h12 k0_h13)
theorem k0_off90_inb : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), ∀ a, (k0_off90 v38 v40 k0_t14) a + S1x1728x256.size a ≤ S2x1728x256.size a := fun v36 v38 v40 k0_hw13 k0_t14 k0_h12 => k0_hw13.1.2.2.2.2.2.2.2.2.2.1 k0_t14 k0_h12
theorem k0_off90_packedbf16 : ∀ (v36 : BitVec 32) (v38 : BitVec 32) (v40 : BitVec 32) (k0_hw13 : k0_chk13 v36 v38 v40) (k0_t14 : Fin (k0_t14_loop v38 v40).trips), ∀ (k0_h12 : k0_cond12 v38 v40 k0_t14 = 1#1), (Rect.unit (s := S2x1728x256) (k0_off90 v38 v40 k0_t14) S1x1728x256.size (k0_off90_inb v36 v38 v40 k0_hw13 k0_t14 k0_h12)).PackedRows (EltTy.packing .bf16) := fun v36 v38 v40 k0_hw13 k0_t14 k0_h12 => k0_hw13.1.2.2.2.2.2.2.2.2.2.2.1 k0_t14 k0_h12 (k0_off90_inb v36 v38 v40 k0_hw13 k0_t14 k0_h12)
theorem k0_off91_inb : ∀ (v36 : BitVec 32) (v38 : BitVec 32) (v40 : BitVec 32) (k0_hw13 : k0_chk13 v36 v38 v40) (k0_t14 : Fin (k0_t14_loop v38 v40).trips), ∀ (k0_h14 : k0_cond14 v38 v40 k0_t14 = 1#1), ∀ a, (k0_off91 v38 v40 k0_t14) a + S1x1728x256.size a ≤ S2x1728x256.size a := fun v36 v38 v40 k0_hw13 k0_t14 k0_h14 => k0_hw13.1.2.2.2.2.2.2.2.2.2.2.2.1 k0_t14 k0_h14
theorem k0_off91_packedbf16 : ∀ (v36 : BitVec 32) (v38 : BitVec 32) (v40 : BitVec 32) (k0_hw13 : k0_chk13 v36 v38 v40) (k0_t14 : Fin (k0_t14_loop v38 v40).trips), ∀ (k0_h14 : k0_cond14 v38 v40 k0_t14 = 1#1), (Rect.unit (s := S2x1728x256) (k0_off91 v38 v40 k0_t14) S1x1728x256.size (k0_off91_inb v36 v38 v40 k0_hw13 k0_t14 k0_h14)).PackedRows (EltTy.packing .bf16) := fun v36 v38 v40 k0_hw13 k0_t14 k0_h14 => k0_hw13.1.2.2.2.2.2.2.2.2.2.2.2.2.1 k0_t14 k0_h14 (k0_off91_inb v36 v38 v40 k0_hw13 k0_t14 k0_h14)
theorem k0_mult25_dvd : ∀ (v36 : BitVec 32) (v38 : BitVec 32) (v40 : BitVec 32) (k0_hw13 : k0_chk13 v36 v38 v40) (k0_t14 : Fin (k0_t14_loop v38 v40).trips), ∀ (k0_h15 : k0_cond15 v38 v40 k0_t14 = 1#1), 256 ∣ (k0_mult25 v38 v40 k0_t14).toNat := fun v36 v38 v40 k0_hw13 k0_t14 k0_h15 => k0_hw13.1.2.2.2.2.2.2.2.2.2.2.2.2.2.1 k0_t14 k0_h15
theorem k0_off92_inb : ∀ (v36 : BitVec 32) (v38 : BitVec 32) (v40 : BitVec 32) (k0_hw13 : k0_chk13 v36 v38 v40) (k0_t14 : Fin (k0_t14_loop v38 v40).trips), ∀ (k0_h15 : k0_cond15 v38 v40 k0_t14 = 1#1), ∀ a, (k0_off92 v38 v40 k0_t14) a + S1.size a ≤ S2.size a := fun v36 v38 v40 k0_hw13 k0_t14 k0_h15 => k0_hw13.1.2.2.2.2.2.2.2.2.2.2.2.2.2.2.1 k0_t14 k0_h15
theorem k0_off93_inb : ∀ (v36 : BitVec 32) (v38 : BitVec 32) (v40 : BitVec 32) (k0_hw13 : k0_chk13 v36 v38 v40) (k0_t14 : Fin (k0_t14_loop v38 v40).trips), ∀ (k0_h15 : k0_cond15 v38 v40 k0_t14 = 1#1), ∀ a, (k0_off93 v38 v40 k0_t14) a + S1728x256.size a ≤ S1728x18432.size a := fun v36 v38 v40 k0_hw13 k0_t14 k0_h15 => k0_hw13.1.2.2.2.2.2.2.2.2.2.2.2.2.2.2.2.1 k0_t14 k0_h15
theorem k0_off94_inb : ∀ (v36 : BitVec 32) (v38 : BitVec 32) (v40 : BitVec 32) (k0_hw13 : k0_chk13 v36 v38 v40) (k0_t14 : Fin (k0_t14_loop v38 v40).trips), ∀ (k0_h15 : k0_cond15 v38 v40 k0_t14 = 1#1), ∀ a, (k0_off94 v38 v40 k0_t14) a + S1x1728x256.size a ≤ S2x1728x256.size a := fun v36 v38 v40 k0_hw13 k0_t14 k0_h15 => k0_hw13.1.2.2.2.2.2.2.2.2.2.2.2.2.2.2.2.2.1 k0_t14 k0_h15
theorem k0_off94_wordsbf16 : ∀ (v36 : BitVec 32) (v38 : BitVec 32) (v40 : BitVec 32) (k0_hw13 : k0_chk13 v36 v38 v40) (k0_t14 : Fin (k0_t14_loop v38 v40).trips), ∀ (k0_h15 : k0_cond15 v38 v40 k0_t14 = 1#1), (Rect.unit (s := S2x1728x256) (k0_off94 v38 v40 k0_t14) S1x1728x256.size (k0_off94_inb v36 v38 v40 k0_hw13 k0_t14 k0_h15)).WholeWords (EltTy.packing .bf16) := fun v36 v38 v40 k0_hw13 k0_t14 k0_h15 => k0_hw13.1.2.2.2.2.2.2.2.2.2.2.2.2.2.2.2.2.2.1 k0_t14 k0_h15 (k0_off94_inb v36 v38 v40 k0_hw13 k0_t14 k0_h15)
theorem k0_off93_wordsbf16 : ∀ (v36 : BitVec 32) (v38 : BitVec 32) (v40 : BitVec 32) (k0_hw13 : k0_chk13 v36 v38 v40) (k0_t14 : Fin (k0_t14_loop v38 v40).trips), ∀ (k0_h15 : k0_cond15 v38 v40 k0_t14 = 1#1), (Rect.unit (s := S1728x18432) (k0_off93 v38 v40 k0_t14) S1728x256.size (k0_off93_inb v36 v38 v40 k0_hw13 k0_t14 k0_h15)).WholeWords (EltTy.packing .bf16) := fun v36 v38 v40 k0_hw13 k0_t14 k0_h15 => k0_hw13.1.2.2.2.2.2.2.2.2.2.2.2.2.2.2.2.2.2.2.1 k0_t14 k0_h15 (k0_off93_inb v36 v38 v40 k0_hw13 k0_t14 k0_h15)
theorem k0_t17_ok : ∀ (v36 : BitVec 32) (v38 : BitVec 32) (v40 : BitVec 32) (k0_hw13 : k0_chk13 v36 v38 v40), (k0_t17_loop v38 v40).OK := fun v36 v38 v40 k0_hw13 => k0_hw13.1.2.2.2.2.2.2.2.2.2.2.2.2.2.2.2.2.2.2.2.1
theorem k0_off95_inb : ∀ (v36 : BitVec 32) (v38 : BitVec 32) (v40 : BitVec 32) (k0_hw13 : k0_chk13 v36 v38 v40) (k0_t17 : Fin (k0_t17_loop v38 v40).trips), ∀ a, (k0_off95 v36) a + S1.size a ≤ S11.size a := fun v36 v38 v40 k0_hw13 k0_t17 => k0_hw13.1.2.2.2.2.2.2.2.2.2.2.2.2.2.2.2.2.2.2.2.2.1 k0_t17
theorem k0_off96_inb : ∀ (v36 : BitVec 32) (v38 : BitVec 32) (v40 : BitVec 32) (k0_hw13 : k0_chk13 v36 v38 v40) (k0_t17 : Fin (k0_t17_loop v38 v40).trips) (k0_t18 : Fin k0_t18_loop.trips), ∀ a, (k0_off96 v38 v40 k0_t17 k0_t18) a + S1.size a ≤ S18432.size a := fun v36 v38 v40 k0_hw13 k0_t17 k0_t18 => k0_hw13.1.2.2.2.2.2.2.2.2.2.2.2.2.2.2.2.2.2.2.2.2.2.1 k0_t17 k0_t18
theorem k0_mult29_dvd : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ (k0_h17 : k0_cond17 v38 v40 k0_t17 = 1#1), 256 ∣ (k0_mult29 v38 v40 k0_t17).toNat := fun v36 v38 v40 k0_hw13 k0_t17 k0_h16 k0_h17 => k0_hw13.1.2.2.2.2.2.2.2.2.2.2.2.2.2.2.2.2.2.2.2.2.2.2.1 k0_t17 k0_h16 k0_h17
theorem k0_off102_inb : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ (k0_h17 : k0_cond17 v38 v40 k0_t17 = 1#1), ∀ a, (k0_off102 v38 v40 k0_t17) a + S1.size a ≤ S2.size a := fun v36 v38 v40 k0_hw13 k0_t17 k0_h16 k0_h17 => k0_hw13.1.2.2.2.2.2.2.2.2.2.2.2.2.2.2.2.2.2.2.2.2.2.2.2.1 k0_t17 k0_h16 k0_h17
theorem k0_off103_inb : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ (k0_h17 : k0_cond17 v38 v40 k0_t17 = 1#1), ∀ a, (k0_off103 v38 v40 k0_t17) a + S1728x256.size a ≤ S1728x18432.size a := fun v36 v38 v40 k0_hw13 k0_t17 k0_h16 k0_h17 => k0_hw13.1.2.2.2.2.2.2.2.2.2.2.2.2.2.2.2.2.2.2.2.2.2.2.2.2.1 k0_t17 k0_h16 k0_h17
theorem k0_off104_inb : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ (k0_h17 : k0_cond17 v38 v40 k0_t17 = 1#1), ∀ a, (k0_off104 v38 v40 k0_t17) a + S1x1728x256.size a ≤ S2x1728x256.size a := fun v36 v38 v40 k0_hw13 k0_t17 k0_h16 k0_h17 => k0_hw13.1.2.2.2.2.2.2.2.2.2.2.2.2.2.2.2.2.2.2.2.2.2.2.2.2.2.1 k0_t17 k0_h16 k0_h17
theorem k0_off104_wordsbf16 : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ (k0_h17 : k0_cond17 v38 v40 k0_t17 = 1#1), (Rect.unit (s := S2x1728x256) (k0_off104 v38 v40 k0_t17) S1x1728x256.size (k0_off104_inb v36 v38 v40 k0_hw13 k0_t17 k0_h16 k0_h17)).WholeWords (EltTy.packing .bf16) := fun v36 v38 v40 k0_hw13 k0_t17 k0_h16 k0_h17 => k0_hw13.1.2.2.2.2.2.2.2.2.2.2.2.2.2.2.2.2.2.2.2.2.2.2.2.2.2.2.1 k0_t17 k0_h16 k0_h17 (k0_off104_inb v36 v38 v40 k0_hw13 k0_t17 k0_h16 k0_h17)
theorem k0_off103_wordsbf16 : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ (k0_h17 : k0_cond17 v38 v40 k0_t17 = 1#1), (Rect.unit (s := S1728x18432) (k0_off103 v38 v40 k0_t17) S1728x256.size (k0_off103_inb v36 v38 v40 k0_hw13 k0_t17 k0_h16 k0_h17)).WholeWords (EltTy.packing .bf16) := fun v36 v38 v40 k0_hw13 k0_t17 k0_h16 k0_h17 => k0_hw13.1.2.2.2.2.2.2.2.2.2.2.2.2.2.2.2.2.2.2.2.2.2.2.2.2.2.2.2.1 k0_t17 k0_h16 k0_h17 (k0_off103_inb v36 v38 v40 k0_hw13 k0_t17 k0_h16 k0_h17)
theorem k0_off105_inb : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), ∀ a, (k0_off105 v38 v40 k0_t17) a + S1x1728x256.size a ≤ S2x1728x256.size a := fun v36 v38 v40 k0_hw13 k0_t17 k0_h16 => k0_hw13.1.2.2.2.2.2.2.2.2.2.2.2.2.2.2.2.2.2.2.2.2.2.2.2.2.2.2.2.2.1 k0_t17 k0_h16
theorem k0_off105_packedbf16 : ∀ (v36 : BitVec 32) (v38 : BitVec 32) (v40 : BitVec 32) (k0_hw13 : k0_chk13 v36 v38 v40) (k0_t17 : Fin (k0_t17_loop v38 v40).trips), ∀ (k0_h16 : k0_cond16 v38 v40 k0_t17 = 1#1), (Rect.unit (s := S2x1728x256) (k0_off105 v38 v40 k0_t17) S1x1728x256.size (k0_off105_inb v36 v38 v40 k0_hw13 k0_t17 k0_h16)).PackedRows (EltTy.packing .bf16) := fun v36 v38 v40 k0_hw13 k0_t17 k0_h16 => k0_hw13.1.2.2.2.2.2.2.2.2.2.2.2.2.2.2.2.2.2.2.2.2.2.2.2.2.2.2.2.2.2.1 k0_t17 k0_h16 (k0_off105_inb v36 v38 v40 k0_hw13 k0_t17 k0_h16)
theorem k0_off106_inb : ∀ (v36 : BitVec 32) (v38 : BitVec 32) (v40 : BitVec 32) (k0_hw13 : k0_chk13 v36 v38 v40) (k0_t17 : Fin (k0_t17_loop v38 v40).trips), ∀ (k0_h18 : k0_cond18 v38 v40 k0_t17 = 1#1), ∀ a, (k0_off106 v38 v40 k0_t17) a + S1x1728x256.size a ≤ S2x1728x256.size a := fun v36 v38 v40 k0_hw13 k0_t17 k0_h18 => k0_hw13.1.2.2.2.2.2.2.2.2.2.2.2.2.2.2.2.2.2.2.2.2.2.2.2.2.2.2.2.2.2.2.1 k0_t17 k0_h18
theorem k0_off106_packedbf16 : ∀ (v36 : BitVec 32) (v38 : BitVec 32) (v40 : BitVec 32) (k0_hw13 : k0_chk13 v36 v38 v40) (k0_t17 : Fin (k0_t17_loop v38 v40).trips), ∀ (k0_h18 : k0_cond18 v38 v40 k0_t17 = 1#1), (Rect.unit (s := S2x1728x256) (k0_off106 v38 v40 k0_t17) S1x1728x256.size (k0_off106_inb v36 v38 v40 k0_hw13 k0_t17 k0_h18)).PackedRows (EltTy.packing .bf16) := fun v36 v38 v40 k0_hw13 k0_t17 k0_h18 => k0_hw13.1.2.2.2.2.2.2.2.2.2.2.2.2.2.2.2.2.2.2.2.2.2.2.2.2.2.2.2.2.2.2.2 k0_t17 k0_h18 (k0_off106_inb v36 v38 v40 k0_hw13 k0_t17 k0_h18)
theorem k0_mult30_dvd : ∀ (v36 : BitVec 32) (v38 : BitVec 32) (v40 : BitVec 32) (k0_hw13 : k0_chk13 v36 v38 v40) (k0_t17 : Fin (k0_t17_loop v38 v40).trips), ∀ (k0_h19 : k0_cond19 v38 v40 k0_t17 = 1#1), 256 ∣ (k0_mult30 v38 v40 k0_t17).toNat := fun v36 v38 v40 k0_hw13 k0_t17 k0_h19 => k0_hw13.2.1 k0_t17 k0_h19
theorem k0_off107_inb : ∀ (v36 : BitVec 32) (v38 : BitVec 32) (v40 : BitVec 32) (k0_hw13 : k0_chk13 v36 v38 v40) (k0_t17 : Fin (k0_t17_loop v38 v40).trips), ∀ (k0_h19 : k0_cond19 v38 v40 k0_t17 = 1#1), ∀ a, (k0_off107 v38 v40 k0_t17) a + S1.size a ≤ S2.size a := fun v36 v38 v40 k0_hw13 k0_t17 k0_h19 => k0_hw13.2.2.1 k0_t17 k0_h19
theorem k0_off108_inb : ∀ (v36 : BitVec 32) (v38 : BitVec 32) (v40 : BitVec 32) (k0_hw13 : k0_chk13 v36 v38 v40) (k0_t17 : Fin (k0_t17_loop v38 v40).trips), ∀ (k0_h19 : k0_cond19 v38 v40 k0_t17 = 1#1), ∀ a, (k0_off108 v38 v40 k0_t17) a + S1728x256.size a ≤ S1728x18432.size a := fun v36 v38 v40 k0_hw13 k0_t17 k0_h19 => k0_hw13.2.2.2.1 k0_t17 k0_h19
theorem k0_off109_inb : ∀ (v36 : BitVec 32) (v38 : BitVec 32) (v40 : BitVec 32) (k0_hw13 : k0_chk13 v36 v38 v40) (k0_t17 : Fin (k0_t17_loop v38 v40).trips), ∀ (k0_h19 : k0_cond19 v38 v40 k0_t17 = 1#1), ∀ a, (k0_off109 v38 v40 k0_t17) a + S1x1728x256.size a ≤ S2x1728x256.size a := fun v36 v38 v40 k0_hw13 k0_t17 k0_h19 => k0_hw13.2.2.2.2.1 k0_t17 k0_h19
theorem k0_off109_wordsbf16 : ∀ (v36 : BitVec 32) (v38 : BitVec 32) (v40 : BitVec 32) (k0_hw13 : k0_chk13 v36 v38 v40) (k0_t17 : Fin (k0_t17_loop v38 v40).trips), ∀ (k0_h19 : k0_cond19 v38 v40 k0_t17 = 1#1), (Rect.unit (s := S2x1728x256) (k0_off109 v38 v40 k0_t17) S1x1728x256.size (k0_off109_inb v36 v38 v40 k0_hw13 k0_t17 k0_h19)).WholeWords (EltTy.packing .bf16) := fun v36 v38 v40 k0_hw13 k0_t17 k0_h19 => k0_hw13.2.2.2.2.2.1 k0_t17 k0_h19 (k0_off109_inb v36 v38 v40 k0_hw13 k0_t17 k0_h19)
theorem k0_off108_wordsbf16 : ∀ (v36 : BitVec 32) (v38 : BitVec 32) (v40 : BitVec 32) (k0_hw13 : k0_chk13 v36 v38 v40) (k0_t17 : Fin (k0_t17_loop v38 v40).trips), ∀ (k0_h19 : k0_cond19 v38 v40 k0_t17 = 1#1), (Rect.unit (s := S1728x18432) (k0_off108 v38 v40 k0_t17) S1728x256.size (k0_off108_inb v36 v38 v40 k0_hw13 k0_t17 k0_h19)).WholeWords (EltTy.packing .bf16) := fun v36 v38 v40 k0_hw13 k0_t17 k0_h19 => k0_hw13.2.2.2.2.2.2 k0_t17 k0_h19 (k0_off108_inb v36 v38 v40 k0_hw13 k0_t17 k0_h19)

def k0_mult31 : BitVec 32 :=
  let c17920_i32 : BitVec 32 := 17920#32
  c17920_i32
def k0_mult32 : BitVec 32 :=
  let c18176_i32 : BitVec 32 := 18176#32
  c18176_i32
abbrev stage0_0 : Fin 1 → Memref sig .tc .smem S18432 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S11 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S18432 : Shape := ⟨1, ![18432]⟩
abbrev S11 : Shape := ⟨1, ![11]⟩
abbrev S1 : Shape := ⟨1, ![1]⟩
abbrev S9216x384 : Shape := ⟨2, ![9216, 384]⟩
abbrev S11x1280x1728 : Shape := ⟨3, ![11, 1280, 1728]⟩
abbrev S11x160x1728 : Shape := ⟨3, ![11, 160, 1728]⟩
abbrev S4 : Shape := ⟨1, ![4]⟩
abbrev S_ : Shape := ⟨0, ![]⟩
abbrev S9216x3x1x128 : Shape := ⟨4, ![9216, 3, 1, 128]⟩
abbrev S1x1x4x1 : Shape := ⟨4, ![1, 1, 4, 1]⟩
abbrev S9216x3x4x128 : Shape := ⟨4, ![9216, 3, 4, 128]⟩
abbrev S9216x1536 : Shape := ⟨2, ![9216, 1536]⟩
abbrev S1x18432 : Shape := ⟨2, ![1, 18432]⟩
abbrev S11x1 : Shape := ⟨2, ![11, 1]⟩
abbrev S11x18432 : Shape := ⟨2, ![11, 18432]⟩
abbrev S18432x1 : Shape := ⟨2, ![18432, 1]⟩
abbrev S18432x1536 : Shape := ⟨2, ![18432, 1536]⟩
abbrev S18432x1280 : Shape := ⟨2, ![18432, 1280]⟩
abbrev S18432x160 : Shape := ⟨2, ![18432, 160]⟩
abbrev S18432x160x1 : Shape := ⟨3, ![18432, 160, 1]⟩
abbrev S18432x160x8 : Shape := ⟨3, ![18432, 160, 8]⟩
abbrev S11x160x1x1728 : Shape := ⟨4, ![11, 160, 1, 1728]⟩
abbrev S11x160x8x1728 : Shape := ⟨4, ![11, 160, 8, 1728]⟩
abbrev S18432x1280x1728 : Shape := ⟨3, ![18432, 1280, 1728]⟩
abbrev S18432x1728 : Shape := ⟨2, ![18432, 1728]⟩

abbrev nBuf : Space → Nat
  | .hbm => 86
  | .vmem => 8
  | .smem => 0
  | _ => 0

abbrev bufTy : (tb : Table) → Fin (tcTables nBuf tb) → BufTy
  | .hbm, ⟨0, _⟩ => ⟨S18432, .i32⟩
  | .hbm, ⟨1, _⟩ => ⟨S11, .i32⟩
  | .hbm, ⟨2, _⟩ => ⟨S11, .f32⟩
  | .hbm, ⟨3, _⟩ => ⟨S1, .f32⟩
  | .hbm, ⟨4, _⟩ => ⟨S9216x384, .i32⟩
  | .hbm, ⟨5, _⟩ => ⟨S11x1280x1728, .i8⟩
  | .hbm, ⟨6, _⟩ => ⟨S11x160x1728, .fp8e4m3⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S9216x3x1x128, .i32⟩
  | .hbm, ⟨12, _⟩ => ⟨S1x1x4x1, .i32⟩
  | .hbm, ⟨13, _⟩ => ⟨S9216x3x4x128, .i32⟩
  | .hbm, ⟨14, _⟩ => ⟨S9216x3x4x128, .i32⟩
  | .hbm, ⟨15, _⟩ => ⟨S9216x3x4x128, .i32⟩
  | .hbm, ⟨16, _⟩ => ⟨S_, .i32⟩
  | .hbm, ⟨17, _⟩ => ⟨S9216x3x4x128, .i32⟩
  | .hbm, ⟨18, _⟩ => ⟨S9216x3x4x128, .i32⟩
  | .hbm, ⟨19, _⟩ => ⟨S9216x1536, .i32⟩
  | .hbm, ⟨20, _⟩ => ⟨S_, .i32⟩
  | .hbm, ⟨21, _⟩ => ⟨S_, .i32⟩
  | .hbm, ⟨22, _⟩ => ⟨S11, .i32⟩
  | .hbm, ⟨23, _⟩ => ⟨S18432, .i32⟩
  | .hbm, ⟨24, _⟩ => ⟨S1x18432, .i32⟩
  | .hbm, ⟨25, _⟩ => ⟨S11x1, .i32⟩
  | .hbm, ⟨26, _⟩ => ⟨S11x18432, .i32⟩
  | .hbm, ⟨27, _⟩ => ⟨S11x18432, .i32⟩
  | .hbm, ⟨28, _⟩ => ⟨S11x18432, .i1⟩
  | .hbm, ⟨29, _⟩ => ⟨S11x18432, .i32⟩
  | .hbm, ⟨30, _⟩ => ⟨S_, .i32⟩
  | .hbm, ⟨31, _⟩ => ⟨S18432, .i32⟩
  | .hbm, ⟨32, _⟩ => ⟨S_, .i32⟩
  | .hbm, ⟨33, _⟩ => ⟨S18432, .i32⟩
  | .hbm, ⟨34, _⟩ => ⟨S18432, .i1⟩
  | .hbm, ⟨35, _⟩ => ⟨S_, .i32⟩
  | .hbm, ⟨36, _⟩ => ⟨S18432, .i32⟩
  | .hbm, ⟨37, _⟩ => ⟨S18432, .i32⟩
  | .hbm, ⟨38, _⟩ => ⟨S18432, .i32⟩
  | .hbm, ⟨39, _⟩ => ⟨S18432x1, .i32⟩
  | .hbm, ⟨40, _⟩ => ⟨S18432x1536, .i32⟩
  | .hbm, ⟨41, _⟩ => ⟨S18432x1280, .i32⟩
  | .hbm, ⟨42, _⟩ => ⟨S18432x160, .i32⟩
  | .hbm, ⟨43, _⟩ => ⟨S18432x160, .i8⟩
  | .hbm, ⟨44, _⟩ => ⟨S18432x160, .fp8e4m3⟩
  | .hbm, ⟨45, _⟩ => ⟨S18432x1280, .bf16⟩
  | .hbm, ⟨46, _⟩ => ⟨S18432x1280, .bf16⟩
  | .hbm, ⟨47, _⟩ => ⟨S11x1280x1728, .bf16⟩
  | .hbm, ⟨48, _⟩ => ⟨S11x1280x1728, .bf16⟩
  | .hbm, ⟨49, _⟩ => ⟨S_, .i32⟩
  | .hbm, ⟨50, _⟩ => ⟨S18432, .i32⟩
  | .hbm, ⟨51, _⟩ => ⟨S18432, .i1⟩
  | .hbm, ⟨52, _⟩ => ⟨S_, .i32⟩
  | .hbm, ⟨53, _⟩ => ⟨S18432, .i32⟩
  | .hbm, ⟨54, _⟩ => ⟨S18432, .i32⟩
  | .hbm, ⟨55, _⟩ => ⟨S18432, .i32⟩
  | .hbm, ⟨56, _⟩ => ⟨S18432x1, .i32⟩
  | .hbm, ⟨57, _⟩ => ⟨S18432x1280x1728, .bf16⟩
  | .hbm, ⟨58, _⟩ => ⟨S18432x1728, .f32⟩
  | .hbm, ⟨59, _⟩ => ⟨S_, .i32⟩
  | .hbm, ⟨60, _⟩ => ⟨S18432, .i32⟩
  | .hbm, ⟨61, _⟩ => ⟨S18432, .i1⟩
  | .hbm, ⟨62, _⟩ => ⟨S_, .i32⟩
  | .hbm, ⟨63, _⟩ => ⟨S18432, .i32⟩
  | .hbm, ⟨64, _⟩ => ⟨S18432, .i32⟩
  | .hbm, ⟨65, _⟩ => ⟨S18432, .i32⟩
  | .hbm, ⟨66, _⟩ => ⟨S18432x1, .i32⟩
  | .hbm, ⟨67, _⟩ => ⟨S18432x1280x1728, .bf16⟩
  | .hbm, ⟨68, _⟩ => ⟨S18432x1728, .f32⟩
  | .hbm, ⟨69, _⟩ => ⟨S18432x1728, .f32⟩
  | .hbm, ⟨70, _⟩ => ⟨S_, .f32⟩
  | .hbm, ⟨71, _⟩ => ⟨S_, .i32⟩
  | .hbm, ⟨72, _⟩ => ⟨S18432, .i32⟩
  | .hbm, ⟨73, _⟩ => ⟨S18432, .i1⟩
  | .hbm, ⟨74, _⟩ => ⟨S_, .i32⟩
  | .hbm, ⟨75, _⟩ => ⟨S18432, .i32⟩
  | .hbm, ⟨76, _⟩ => ⟨S18432, .i32⟩
  | .hbm, ⟨77, _⟩ => ⟨S18432, .i32⟩
  | .hbm, ⟨78, _⟩ => ⟨S18432x1, .i32⟩
  | .hbm, ⟨79, _⟩ => ⟨S18432, .f32⟩
  | .hbm, ⟨80, _⟩ => ⟨S18432, .f32⟩
  | .hbm, ⟨81, _⟩ => ⟨S18432, .f32⟩
  | .hbm, ⟨82, _⟩ => ⟨S18432x1, .f32⟩
  | .hbm, ⟨83, _⟩ => ⟨S18432x1728, .f32⟩
  | .hbm, ⟨84, _⟩ => ⟨S18432x1728, .f32⟩
  | .hbm, ⟨85, _⟩ => ⟨S18432x1728, .bf16⟩
  | .local _ .vmem, ⟨0, _⟩ => ⟨S18432x1280, .i32⟩
  | .local _ .vmem, ⟨1, _⟩ => ⟨S18432x160, .fp8e4m3⟩
  | .local _ .vmem, ⟨2, _⟩ => ⟨S11x1280x1728, .i8⟩
  | .local _ .vmem, ⟨3, _⟩ => ⟨S11x160x1728, .fp8e4m3⟩
  | .local _ .vmem, ⟨4, _⟩ => ⟨S18432x1280, .bf16⟩
  | .local _ .vmem, ⟨5, _⟩ => ⟨S18432x1280, .bf16⟩
  | .local _ .vmem, ⟨6, _⟩ => ⟨S11x1280x1728, .bf16⟩
  | .local _ .vmem, ⟨7, _⟩ => ⟨S11x1280x1728, .bf16⟩
  | _, _ => ⟨S18432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_c : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_call1_call0_v0 : Ref sig .tc := ⟨.hbm, 24, rfl⟩
abbrev main_call1_call0_v1 : Ref sig .tc := ⟨.hbm, 25, rfl⟩
abbrev main_call1_call0_v2 : Ref sig .tc := ⟨.hbm, 26, rfl⟩
abbrev main_call1_call0_v3 : Ref sig .tc := ⟨.hbm, 27, rfl⟩
abbrev main_call1_call0_v4 : Ref sig .tc := ⟨.hbm, 28, rfl⟩
abbrev main_call1_call0_v5 : Ref sig .tc := ⟨.hbm, 29, rfl⟩
abbrev main_call1_call0_c : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v25_3 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S18432x1280 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11x1280x1728 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11x160x1728 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11x1280x1728 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S11x1280x1728 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.lean ====
/- The kernel's scalar arithmetic, read as arithmetic of natural numbers below 2^31. -/
module

public import Idealize.ShloMosaic.Lib.Affine
public import Idealize.ShloMosaic.Lib.Affine.Words
public import Idealize.ShloMosaic.Lib.WordCmp
public import Idealize.ShloMosaic.Lib.WordArith
public import Idealize.ShloMosaic.Lib.LoopRemainder
public import Idealize.ShloMosaic.Lib.Scf.Counter

@[expose] public section

namespace Cert.Proof.Words

open Idealize.ShloMosaic

variable {a b : Nat}

theorem srem_ofNat (ha : a < 2 ^ 31) (hb : b < 2 ^ 31) (h0 : 0 < b) : Scalar.remsi (BitVec.ofNat 32 a) (BitVec.ofNat 32 b) = BitVec.ofNat 32 (a % b) := by
  have hm : a % b < 2 ^ 31 := lt_of_le_of_lt (Nat.mod_le _ _) ha
  exact Affine.eq_of_isInt (Affine.remsi (Affine.ofNat a ⟨rfl, ha⟩) (Affine.ofNat b ⟨rfl, hb⟩) (e := ((a % b : Nat) : Int)) ⟨by push_cast; rfl, by omega, by omega⟩)
    (Affine.ofNat _ ⟨rfl, hm⟩)

theorem sdiv_ofNat (ha : a < 2 ^ 31) (hb : b < 2 ^ 31) (h0 : 0 < b) : Scalar.divsi (BitVec.ofNat 32 a) (BitVec.ofNat 32 b) = BitVec.ofNat 32 (a / b) := by
  have hm : a / b < 2 ^ 31 := lt_of_le_of_lt (Nat.div_le_self _ _) ha
  exact Affine.eq_of_isInt (Affine.divsi (Affine.ofNat a ⟨rfl, ha⟩) (Affine.ofNat b ⟨rfl, hb⟩) (e := ((a / b : Nat) : Int)) ⟨by push_cast; rfl, by omega, by omega⟩)
    (Affine.ofNat _ ⟨rfl, hm⟩)

theorem add_ofNat (a b : Nat) : Scalar.addi (BitVec.ofNat 32 a) (BitVec.ofNat 32 b) = BitVec.ofNat 32 (a + b) := by
  simp [Scalar.addi, IntOp.addi, BitVec.ofNat_add]

theorem mul_ofNat (a b : Nat) : Scalar.muli (BitVec.ofNat 32 a) (BitVec.ofNat 32 b) = BitVec.ofNat 32 (a * b) := by
  simp [Scalar.muli, IntOp.muli, BitVec.ofNat_mul]

theorem sub_ofNat (h : b ≤ a) (ha : a < 2 ^ 31) : Scalar.subi (BitVec.ofNat 32 a) (BitVec.ofNat 32 b) = BitVec.ofNat 32 (a - b) :=
  Affine.eq_of_isInt (Affine.subi (Affine.ofNat a ⟨rfl, ha⟩) (Affine.ofNat b ⟨rfl, by omega⟩) (e := ((a - b : Nat) : Int)) ⟨by omega, by omega, by omega⟩)
    (Affine.ofNat _ ⟨rfl, by omega⟩)

theorem toNat_ofNat (ha : a < 2 ^ 31) : (BitVec.ofNat 32 a).toNat = a := by simp; omega

theorem slt_ofNat (ha : a < 2 ^ 31) (hb : b < 2 ^ 31) : Scalar.cmpi .slt (BitVec.ofNat 32 a) (BitVec.ofNat 32 b) = BitVec.ofBool (decide (a < b)) :=
  WordCmp.cmpi_slt_ofNat ha hb
theorem sle_ofNat (ha : a < 2 ^ 31) (hb : b < 2 ^ 31) : Scalar.cmpi .sle (BitVec.ofNat 32 a) (BitVec.ofNat 32 b) = BitVec.ofBool (decide (a ≤ b)) :=
  WordCmp.cmpi_sle_ofNat ha hb
theorem sgt_ofNat (ha : a < 2 ^ 31) (hb : b < 2 ^ 31) : Scalar.cmpi .sgt (BitVec.ofNat 32 a) (BitVec.ofNat 32 b) = BitVec.ofBool (decide (b < a)) :=
  WordCmp.cmpi_slt_ofNat hb ha
theorem sge_ofNat (ha : a < 2 ^ 31) (hb : b < 2 ^ 31) : Scalar.cmpi .sge (BitVec.ofNat 32 a) (BitVec.ofNat 32 b) = BitVec.ofBool (decide (b ≤ a)) :=
  WordCmp.cmpi_sle_ofNat hb ha

/-- A guard word `extui c ≠ 0` is the condition itself. -/
theorem guard (c : BitVec 1) : Scalar.cmpi .ne (Scalar.extui c) 0#32 = c := by revert c; decide

/-- Python's `w % 2` of a nonnegative word. -/
theorem mod2 (ha : a < 2 ^ 31) :
    Scalar.select (Scalar.andi (Scalar.xori (Scalar.cmpi .slt (Scalar.remsi (BitVec.ofNat 32 a) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (BitVec.ofNat 32 a) (Scalar.select (Scalar.cmpi .eq 2#32 0#32) 1#32 2#32)) 0#32))
      (Scalar.addi (Scalar.remsi (BitVec.ofNat 32 a) (Scalar.select (Scalar.cmpi .eq 2#32 0#32) 1#32 2#32)) (Scalar.select (Scalar.cmpi .eq 2#32 0#32) 1#32 2#32))
      (Scalar.remsi (BitVec.ofNat 32 a) (Scalar.select (Scalar.cmpi .eq 2#32 0#32) 1#32 2#32)) = BitVec.ofNat 32 (a % 2) := by
  have hs : Scalar.select (Scalar.cmpi .eq 2#32 0#32) 1#32 2#32 = 2#32 := by decide
  rw [hs, srem_ofNat ha (by decide) (by decide)]
  rcases Nat.mod_two_eq_zero_or_one a with h | h <;> rw [h] <;> decide

/-- Python's `w // 256` of a nonnegative word. -/
theorem div256 (ha : a < 2 ^ 31) :
    Scalar.select (Scalar.andi (Scalar.cmpi .ne
          (Scalar.subi (Scalar.extui (Scalar.cmpi .sgt (BitVec.ofNat 32 a) 0#32)) (Scalar.extui (Scalar.cmpi .slt (BitVec.ofNat 32 a) 0#32)))
          (Scalar.subi (Scalar.extui (Scalar.cmpi .sgt 256#32 0#32)) (Scalar.extui (Scalar.cmpi .slt 256#32 0#32))))
        (Scalar.cmpi .ne (Scalar.remsi (BitVec.ofNat 32 a) 256#32) 0#32))
      (Scalar.subi (Scalar.divsi (BitVec.ofNat 32 a) 256#32) 1#32) (Scalar.divsi (BitVec.ofNat 32 a) 256#32) = BitVec.ofNat 32 (a / 256) := by
  rw [srem_ofNat ha (by decide) (by decide), sdiv_ofNat ha (by decide) (by decide), sgt_ofNat ha (by decide), slt_ofNat ha (by decide)]
  rcases Nat.eq_zero_or_pos a with h | h
  · subst h; decide
  · rw [decide_eq_true h, show decide (a < 0) = false from by simp]
    have : Scalar.cmpi .ne (Scalar.subi (Scalar.extui (BitVec.ofBool true)) (Scalar.extui (BitVec.ofBool false)))
      (Scalar.subi (Scalar.extui (Scalar.cmpi .sgt 256#32 0#32)) (Scalar.extui (Scalar.cmpi .slt 256#32 0#32))) = 0#1 := by decide
    rw [this]
    have h2 : ∀ c : BitVec 1, Scalar.andi 0#1 c = 0#1 := by decide
    rw [h2]; rfl

theorem iv_ofNat (a k : Nat) : Scf.iv (BitVec.ofNat 32 a) 1#32 k = BitVec.ofNat 32 (a + k) := by
  unfold Scf.iv; simp [BitVec.ofNat_add]

theorem iv_zero (k : Nat) : Scf.iv 0#32 1#32 k = BitVec.ofNat 32 k := by
  unfold Scf.iv; simp

theorem trips_ofNat (ha : a < 2 ^ 31) (hb : b < 2 ^ 31) : Scf.trips (BitVec.ofNat 32 a) (BitVec.ofNat 32 b) 1#32 = b - a := by
  unfold Scf.trips
  rw [WordCmp.toInt_ofNat_of_lt (w := 32) (a := b) hb, WordCmp.toInt_ofNat_of_lt (w := 32) (a := a) ha, show (1#32 : BitVec 32).toInt = 1 from by decide]
  omega

theorem eq_ofNat (w : BitVec 32) : w = BitVec.ofNat 32 w.toNat := by simp

end Cert.Proof.Words
-- ==== Proof.Offs.lean ====
/- The kernel's offsets, conditions and trip counts as natural-number formulas, and the facts its checks ask for. -/
module

public import proofs.«01_k».proof.Kernel
public import proofs.«01_k».proof.Proof.Words

@[expose] public section

set_option maxRecDepth 20000

namespace Cert.Kernel.Hand

open Cert.Kernel
open Idealize.ShloMosaic
open Cert.Proof.Words

/-! ## The loops' trip counts -/

theorem t2_trips {n : Nat} (hn : n ≤ 11) : (k0_t2_loop (BitVec.ofNat 32 n)).trips = n := by
  show Scf.trips (0#32) (Scalar.addi 0#32 (Scalar.muli (Scalar.divsi (Scalar.subi (BitVec.ofNat 32 n) 0#32) 1#32) 1#32)) 1#32 = n
  rw [sub_ofNat (by omega) (by omega), sdiv_ofNat (by omega) (by decide) (by decide), mul_ofNat, add_ofNat, trips_ofNat (by decide) (by omega)]
  omega

theorem t2_ub {n : Nat} (hn : n ≤ 11) : (k0_t2_loop (BitVec.ofNat 32 n)).ub = BitVec.ofNat 32 n := by
  show (Scalar.addi 0#32 (Scalar.muli (Scalar.divsi (Scalar.subi (BitVec.ofNat 32 n) 0#32) 1#32) 1#32)) = _
  rw [sub_ofNat (by omega) (by omega), sdiv_ofNat (by omega) (by decide) (by decide), mul_ofNat, add_ofNat]
  congr 1; omega

theorem ok_ofNat {a b : Nat} (ha : a < 2 ^ 31) (hb : b < 2 ^ 31) : Scf.OK (BitVec.ofNat 32 a) (BitVec.ofNat 32 b) 1#32 := by
  unfold Scf.OK
  rw [trips_ofNat ha hb, WordCmp.toInt_ofNat_of_lt (w := 32) (a := a) ha]
  refine ⟨by decide, ?_⟩
  have : (1#32 : BitVec 32).toInt = 1 := by decide
  rw [this]; omega

theorem t5_lb {lo n : Nat} (hn : lo + n ≤ 18432) : (k0_t5_loop (BitVec.ofNat 32 lo) (BitVec.ofNat 32 n)).lb = BitVec.ofNat 32 (lo / 256) := by
  dsimp only [k0_t5_loop]; rw [div256 (by omega)]

theorem t5_ub {lo n : Nat} (hn : lo + n ≤ 18432) : (k0_t5_loop (BitVec.ofNat 32 lo) (BitVec.ofNat 32 n)).ub = BitVec.ofNat 32 ((lo + n + 255) / 256) := by
  dsimp only [k0_t5_loop]
  rw [add_ofNat, add_ofNat, sub_ofNat (a := lo + n + 256) (b := 1) (by omega) (by omega), div256 (a := lo) (by omega), div256 (a := lo + n + 256 - 1) (by omega),
    sub_ofNat (by omega) (by omega), sdiv_ofNat (by omega) (by decide) (by decide), mul_ofNat, add_ofNat]
  congr 1; omega

theorem t5_trips {lo n : Nat} (hn : lo + n ≤ 18432) : (k0_t5_loop (BitVec.ofNat 32 lo) (BitVec.ofNat 32 n)).trips = (lo + n + 255) / 256 - lo / 256 := by
  show Scf.trips (k0_t5_loop _ _).lb (k0_t5_loop _ _).ub 1#32 = _
  rw [t5_lb hn, t5_ub hn, trips_ofNat (by omega) (by omega)]

theorem t8_trips (v38 v40 : BitVec 32) : (k0_t8_loop v38 v40).trips = 0 := by
  dsimp only [k0_t8_loop]; exact Scf.rem_trips _ _
theorem t8_ok (v38 v40 : BitVec 32) : (k0_t8_loop v38 v40).OK := by
  dsimp only [k0_t8_loop]; exact Scf.rem_ok _ _
theorem t8_false {v38 v40 : BitVec 32} (k : Fin (k0_t8_loop v38 v40).trips) : False := by
  exact absurd (lt_of_lt_of_eq k.isLt (t8_trips v38 v40)) (Nat.not_lt_zero _)
theorem t11_trips (v2 : BitVec 32) : (k0_t11_loop v2).trips = 0 := by
  dsimp only [k0_t11_loop]; exact Scf.rem_trips _ _
theorem t11_ok (v2 : BitVec 32) : (k0_t11_loop v2).OK := by
  dsimp only [k0_t11_loop]; exact Scf.rem_ok _ _
theorem t11_false {v2 : BitVec 32} (k : Fin (k0_t11_loop v2).trips) : False := by
  exact absurd (lt_of_lt_of_eq k.isLt (t11_trips v2)) (Nat.not_lt_zero _)

/-! ## The outer loop's offsets -/

section Outer
variable {nl : Nat} (hnl : nl ≤ 11) (t : Fin (k0_t2_loop (BitVec.ofNat 32 nl)).trips)
include hnl

theorem t2_lt : t.val < nl := lt_of_lt_of_eq t.isLt (t2_trips hnl)

theorem off6_eq : k0_off6 _ t = ![0, t.val] := by
  have := t2_lt hnl t
  unfold k0_off6; dsimp only [Scalar.indexCast]; rw [iv_zero, toNat_ofNat (by omega)]
theorem off7_eq : k0_off7 _ t = ![1, t.val] := by
  have := t2_lt hnl t
  unfold k0_off7; dsimp only [Scalar.indexCast]; rw [iv_zero, toNat_ofNat (by omega)]
theorem off9_eq : k0_off9 _ t = ![0, t.val] := by
  have := t2_lt hnl t
  unfold k0_off9; dsimp only [Scalar.indexCast]; rw [iv_zero, toNat_ofNat (by omega)]
theorem off10_eq : k0_off10 _ t = ![t.val % 2, 0] := by
  have := t2_lt hnl t
  unfold k0_off10; dsimp only [Scalar.indexCast]; rw [iv_zero, mod2 (by omega), toNat_ofNat (by omega)]
theorem off11_eq : k0_off11 _ t = ![t.val % 2, 0, 0] := by
  have := t2_lt hnl t
  unfold k0_off11; dsimp only [Scalar.indexCast]; rw [iv_zero, mod2 (by omega), toNat_ofNat (by omega)]
theorem off13_eq : k0_off13 _ t = ![t.val % 2, 1] := by
  have := t2_lt hnl t
  unfold k0_off13; dsimp only [Scalar.indexCast]; rw [iv_zero, mod2 (by omega), toNat_ofNat (by omega)]
theorem off14_eq : k0_off14 _ t = ![t.val % 2, 0, 0] := by
  have := t2_lt hnl t
  unfold k0_off14; dsimp only [Scalar.indexCast]; rw [iv_zero, mod2 (by omega), toNat_ofNat (by omega)]
theorem off16_eq : k0_off16 _ t = ![0, t.val + 1] := by
  have := t2_lt hnl t
  unfold k0_off16; dsimp only [Scalar.indexCast]; rw [iv_zero, add_ofNat, toNat_ofNat (by omega)]
theorem off17_eq : k0_off17 _ t = ![(t.val + 1) % 2, 0] := by
  have := t2_lt hnl t
  unfold k0_off17; dsimp only [Scalar.indexCast]; rw [iv_zero, add_ofNat, mod2 (by omega), toNat_ofNat (by omega)]
theorem off18_eq : k0_off18 _ t = ![(t.val + 1) % 2, 0, 0] := by
  have := t2_lt hnl t
  unfold k0_off18; dsimp only [Scalar.indexCast]; rw [iv_zero, add_ofNat, mod2 (by omega), toNat_ofNat (by omega)]
theorem off20_eq : k0_off20 _ t = ![(t.val + 1) % 2, 1] := by
  have := t2_lt hnl t
  unfold k0_off20; dsimp only [Scalar.indexCast]; rw [iv_zero, add_ofNat, mod2 (by omega), toNat_ofNat (by omega)]
theorem off21_eq : k0_off21 _ t = ![(t.val + 1) % 2, 0, 0] := by
  have := t2_lt hnl t
  unfold k0_off21; dsimp only [Scalar.indexCast]; rw [iv_zero, add_ofNat, mod2 (by omega), toNat_ofNat (by omega)]
theorem off23_eq : k0_off23 _ t = ![t.val % 2, 0, 0] := by
  have := t2_lt hnl t
  unfold k0_off23; dsimp only [Scalar.indexCast]; rw [iv_zero, mod2 (by omega), toNat_ofNat (by omega)]
theorem cond2_iff : k0_cond2 _ t = 1#1 ↔ t.val + 1 < nl := by
  have := t2_lt hnl t
  unfold k0_cond2; dsimp only; rw [iv_zero, add_ofNat, slt_ofNat (by omega) (by omega), guard]
  by_cases h : t.val + 1 < nl <;> simp [h]

theorem t3_trips : k0_t3_loop.trips = 27 := by decide
theorem t4_trips : k0_t4_loop.trips = 10 := by decide

theorem off24_eq (t3 : Fin k0_t3_loop.trips) (t4 : Fin k0_t4_loop.trips) :
    k0_off24 _ t t3 t4 = ![t.val % 2, 64 * t3.val, 128 * t4.val] := by
  have := t2_lt hnl t
  have h3 : t3.val < 27 := t3.isLt
  have h4 : t4.val < 10 := t4.isLt
  unfold k0_off24; dsimp only [Scalar.indexCast]
  rw [iv_zero, iv_zero, iv_zero, mod2 (by omega), mul_ofNat, mul_ofNat, toNat_ofNat (by omega), toNat_ofNat (by omega), toNat_ofNat (by omega)]

end Outer

theorem off25_eq (t3 : Fin k0_t3_loop.trips) (t4 : Fin k0_t4_loop.trips) : k0_off25 t3 t4 = ![64 * t3.val, 128 * (t4.val / 8)] := by
  have h3 : t3.val < 27 := t3.isLt
  have h4 : t4.val < 10 := t4.isLt
  unfold k0_off25; dsimp only [Scalar.indexCast]
  rw [iv_zero, iv_zero, mul_ofNat, sdiv_ofNat (by omega) (by decide) (by decide), mul_ofNat, toNat_ofNat (by omega), toNat_ofNat (by omega)]
theorem off26_eq (t3 : Fin k0_t3_loop.trips) (t4 : Fin k0_t4_loop.trips) : k0_off26 t3 t4 = ![64 * t3.val, 128 * t4.val] := by
  have h3 : t3.val < 27 := t3.isLt
  have h4 : t4.val < 10 := t4.isLt
  unfold k0_off26; dsimp only [Scalar.indexCast]
  rw [iv_zero, iv_zero, mul_ofNat, mul_ofNat, toNat_ofNat (by omega), toNat_ofNat (by omega)]
theorem off27_eq (t3 : Fin k0_t3_loop.trips) (t4 : Fin k0_t4_loop.trips) : k0_off27 t3 t4 = ![64 * t3.val, 128 * (10 + t4.val)] := by
  have h3 : t3.val < 27 := t3.isLt
  have h4 : t4.val < 10 := t4.isLt
  unfold k0_off27; dsimp only [Scalar.indexCast]
  rw [iv_zero, iv_zero, mul_ofNat, add_ofNat, mul_ofNat, toNat_ofNat (by omega), toNat_ofNat (by omega)]
theorem off31_eq (t6 : Fin k0_t6_loop.trips) : k0_off31 t6 = ![t6.val, 0] := by
  have h : t6.val < 256 := t6.isLt
  unfold k0_off31; dsimp only [Scalar.indexCast]; rw [iv_zero, toNat_ofNat (by omega)]
theorem off32_eq (t7 : Fin k0_t7_loop.trips) : k0_off32 t7 = ![0, 128 * (t7.val / 4)] := by
  have h : t7.val < 10 := t7.isLt
  unfold k0_off32; dsimp only [Scalar.indexCast]
  rw [iv_zero, sdiv_ofNat (by omega) (by decide) (by decide), mul_ofNat, toNat_ofNat (by omega)]
theorem off33_eq (t7 : Fin k0_t7_loop.trips) : k0_off33 t7 = ![0, 128 * t7.val] := by
  have h : t7.val < 10 := t7.isLt
  unfold k0_off33; dsimp only [Scalar.indexCast]
  rw [iv_zero, mul_ofNat, toNat_ofNat (by omega)]
theorem off34_eq (t7 : Fin k0_t7_loop.trips) : k0_off34 t7 = ![0, 128 * (10 + t7.val)] := by
  have h : t7.val < 10 := t7.isLt
  unfold k0_off34; dsimp only [Scalar.indexCast]
  rw [iv_zero, add_ofNat, mul_ofNat, toNat_ofNat (by omega)]

/-! ## The tile loop's offsets and conditions -/

section Tiles
variable {lo n : Nat} (hn : lo + n ≤ 18432) (t : Fin (k0_t5_loop (BitVec.ofNat 32 lo) (BitVec.ofNat 32 n)).trips)
include hn

theorem t5_lt : t.val < (lo + n + 255) / 256 - lo / 256 := lt_of_lt_of_eq t.isLt (t5_trips hn)

theorem off29_eq (t6 : Fin k0_t6_loop.trips) : k0_off29 _ _ t t6 = ![(lo / 256 + t.val) * 256 + t6.val] := by
  have := t5_lt hn t
  have h : t6.val < 256 := t6.isLt
  unfold k0_off29; dsimp only [Scalar.indexCast]
  rw [div256 (by omega), iv_ofNat, iv_zero, mul_ofNat, add_ofNat, toNat_ofNat (by omega)]
theorem cond3_iff : k0_cond3 _ _ t = 1#1 ↔ lo ≤ (lo / 256 + t.val) * 256 := by
  have := t5_lt hn t
  unfold k0_cond3; dsimp only
  rw [div256 (by omega), iv_ofNat, mul_ofNat, sle_ofNat (by omega) (by omega), guard]
  by_cases h : lo ≤ (lo / 256 + t.val) * 256 <;> simp [h]
theorem cond4_iff : k0_cond4 _ _ t = 1#1 ↔ 2 ≤ lo / 256 + t.val := by
  have := t5_lt hn t
  unfold k0_cond4; dsimp only
  rw [div256 (by omega), iv_ofNat, sge_ofNat (by omega) (by omega), guard]
  by_cases h : 2 ≤ lo / 256 + t.val <;> simp [h]
theorem cond5_iff : k0_cond5 _ _ t = 1#1 ↔ ¬ lo ≤ (lo / 256 + t.val) * 256 := by
  have := t5_lt hn t
  unfold k0_cond5; dsimp only
  rw [div256 (by omega), iv_ofNat, mul_ofNat, sle_ofNat (by omega) (by omega), guard]
  by_cases h : lo ≤ (lo / 256 + t.val) * 256 <;> simp [h] <;> decide
theorem cond6_iff : k0_cond6 _ _ t = 1#1 ↔ (lo / 256 + t.val + 1) * 256 ≤ lo + n := by
  have := t5_lt hn t
  unfold k0_cond6; dsimp only
  rw [div256 (by omega), iv_ofNat, add_ofNat, add_ofNat, mul_ofNat, sge_ofNat (by omega) (by omega), guard]
  by_cases h : (lo / 256 + t.val + 1) * 256 ≤ lo + n <;> simp [h]

theorem off35_eq (h2 : 2 ≤ lo / 256 + t.val) : k0_off35 _ _ t = ![(lo / 256 + t.val) % 2] := by
  have := t5_lt hn t
  unfold k0_off35; dsimp only [Scalar.indexCast]
  rw [div256 (by omega), iv_ofNat, sub_ofNat (by omega) (by omega), mod2 (by omega), toNat_ofNat (by omega)]
  congr 1; omega
theorem off36_eq (h2 : 2 ≤ lo / 256 + t.val) : k0_off36 _ _ t = ![0, (lo / 256 + t.val - 2) * 256] := by
  have := t5_lt hn t
  unfold k0_off36; dsimp only [Scalar.indexCast]
  rw [div256 (by omega), iv_ofNat, sub_ofNat (by omega) (by omega), mul_ofNat, toNat_ofNat (by omega)]
theorem off37_eq (h2 : 2 ≤ lo / 256 + t.val) : k0_off37 _ _ t = ![(lo / 256 + t.val) % 2, 0, 0] := by
  have := t5_lt hn t
  unfold k0_off37; dsimp only [Scalar.indexCast]
  rw [div256 (by omega), iv_ofNat, sub_ofNat (by omega) (by omega), mod2 (by omega), toNat_ofNat (by omega)]
  congr 1; omega
theorem off38_eq : k0_off38 _ _ t = ![(lo / 256 + t.val) % 2, 0, 0] := by
  have := t5_lt hn t
  unfold k0_off38; dsimp only [Scalar.indexCast]
  rw [div256 (by omega), iv_ofNat, mod2 (by omega), toNat_ofNat (by omega)]
theorem off39_eq : k0_off39 _ _ t = ![(lo / 256 + t.val) % 2, 0, 0] := by
  have := t5_lt hn t
  unfold k0_off39; dsimp only [Scalar.indexCast]
  rw [div256 (by omega), iv_ofNat, mod2 (by omega), toNat_ofNat (by omega)]
theorem off40_eq : k0_off40 _ _ t = ![(lo / 256 + t.val) % 2] := by
  have := t5_lt hn t
  unfold k0_off40; dsimp only [Scalar.indexCast]
  rw [div256 (by omega), iv_ofNat, mod2 (by omega), toNat_ofNat (by omega)]
theorem off41_eq : k0_off41 _ _ t = ![0, (lo / 256 + t.val) * 256] := by
  have := t5_lt hn t
  unfold k0_off41; dsimp only [Scalar.indexCast]
  rw [div256 (by omega), iv_ofNat, mul_ofNat, toNat_ofNat (by omega)]
theorem off42_eq : k0_off42 _ _ t = ![(lo / 256 + t.val) % 2, 0, 0] := by
  have := t5_lt hn t
  unfold k0_off42; dsimp only [Scalar.indexCast]
  rw [div256 (by omega), iv_ofNat, mod2 (by omega), toNat_ofNat (by omega)]
theorem mult9_dvd (h2 : 2 ≤ lo / 256 + t.val) : 256 ∣ (k0_mult9 _ _ t).toNat := by
  have := t5_lt hn t
  unfold k0_mult9; dsimp only
  rw [div256 (by omega), iv_ofNat, sub_ofNat (by omega) (by omega), mul_ofNat, toNat_ofNat (by omega)]
  exact Nat.dvd_mul_left _ _
theorem mult10_dvd : 256 ∣ (k0_mult10 _ _ t).toNat := by
  have := t5_lt hn t
  unfold k0_mult10; dsimp only
  rw [div256 (by omega), iv_ofNat, mul_ofNat, toNat_ofNat (by omega)]
  exact Nat.dvd_mul_left _ _
end Tiles

/-! ## In bounds -/

theorem inb1 {a b : Nat} (h : a + 1 ≤ b) : ∀ i : Fin 1, (![a] : Fin 1 → Nat) i + (![1] : Fin 1 → Nat) i ≤ (![b] : Fin 1 → Nat) i := by
  intro i; fin_cases i; simpa using h
theorem inb2 {a0 a1 s0 s1 b0 b1 : Nat} (h0 : a0 + s0 ≤ b0) (h1 : a1 + s1 ≤ b1) :
    ∀ i : Fin 2, (![a0, a1] : Fin 2 → Nat) i + (![s0, s1] : Fin 2 → Nat) i ≤ (![b0, b1] : Fin 2 → Nat) i := by
  intro i; fin_cases i <;> simpa
theorem inb3 {a0 a1 a2 s0 s1 s2 b0 b1 b2 : Nat} (h0 : a0 + s0 ≤ b0) (h1 : a1 + s1 ≤ b1) (h2 : a2 + s2 ≤ b2) :
    ∀ i : Fin 3, (![a0, a1, a2] : Fin 3 → Nat) i + (![s0, s1, s2] : Fin 3 → Nat) i ≤ (![b0, b1, b2] : Fin 3 → Nat) i := by
  intro i; fin_cases i <;> simpa

/-! ## The checks -/

theorem chk1_of {p : Nat} (hp : p < 11) (v : BitVec 32) : k0_chk1 (BitVec.ofNat 32 p) v := by
  refine ⟨fun _ => ?_, fun _ => ?_⟩
  · rw [show k0_off2 (BitVec.ofNat 32 p) = ![0, p] from by unfold k0_off2; dsimp only [Scalar.indexCast]; rw [toNat_ofNat (by omega)]]
    exact inb2 (by omega) (by omega)
  · rw [show k0_off3 (BitVec.ofNat 32 p) = ![1, p] from by unfold k0_off3; dsimp only [Scalar.indexCast]; rw [toNat_ofNat (by omega)]]
    exact inb2 (by omega) (by omega)

theorem chk2_of {e : Nat} (he : e < 11) : k0_chk2 (BitVec.ofNat 32 e) := by
  have h : (BitVec.ofNat 32 e).toNat = e := toNat_ofNat (by omega)
  refine ⟨?_, fun _ => Affine.words_rows (by decide) rfl rfl, ?_, fun _ => Affine.words_rows (by decide) rfl rfl⟩
  · unfold k0_off4; dsimp only; rw [h]; exact inb3 (by omega) (by omega) (by omega)
  · unfold k0_off5; dsimp only; rw [h]; exact inb3 (by omega) (by omega) (by omega)
theorem chk4_of {e : Nat} (he : e < 11) : k0_chk4 (BitVec.ofNat 32 e) := by
  have h : (BitVec.ofNat 32 e).toNat = e := toNat_ofNat (by omega)
  unfold k0_chk4 k0_off8; dsimp only [Scalar.indexCast]; rw [h]; exact inb1 (by omega)
theorem chk5_of {e : Nat} (he : e < 11) : k0_chk5 (BitVec.ofNat 32 e) := by
  have h : (BitVec.ofNat 32 e).toNat = e := toNat_ofNat (by omega)
  refine ⟨?_, fun _ => Affine.words_rows (by decide) rfl rfl, ?_, fun _ => Affine.words_rows (by decide) rfl rfl⟩
  · unfold k0_off12; dsimp only; rw [h]; exact inb3 (by omega) (by omega) (by omega)
  · unfold k0_off15; dsimp only; rw [h]; exact inb3 (by omega) (by omega) (by omega)
theorem chk6_of {v2 : BitVec 32} (t : Fin (k0_t2_loop v2).trips) {e : Nat} (he : e < 11) : k0_chk6 v2 t (BitVec.ofNat 32 e) := by
  have h : (BitVec.ofNat 32 e).toNat = e := toNat_ofNat (by omega)
  refine ⟨fun _ => ?_, fun _ _ => Affine.words_rows (by decide) rfl rfl, fun _ => ?_, fun _ _ => Affine.words_rows (by decide) rfl rfl⟩
  · unfold k0_off19; dsimp only; rw [h]; exact inb3 (by omega) (by omega) (by omega)
  · unfold k0_off22; dsimp only; rw [h]; exact inb3 (by omega) (by omega) (by omega)
theorem chk8_of {e : Nat} (he : e < 9216) : k0_chk8 (BitVec.ofNat 32 e) := by
  have h : (BitVec.ofNat 32 e).toNat = e := toNat_ofNat (by omega)
  unfold k0_chk8 k0_off30; dsimp only [Scalar.indexCast]; rw [h]; exact inb2 (by omega) (by omega)

theorem chk3_of {nl : Nat} (hnl : nl ≤ 11) : k0_chk3 (BitVec.ofNat 32 nl) := by
  refine ⟨⟨?_, ?_, ?_, ?_, ?_, ?_, ?_, ?_, ?_, ?_, ?_, ?_, ?_, ?_, ?_, ?_, ?_, ?_, ?_, t11_ok _, fun k => (t11_false k).elim, fun k => (t11_false k).elim,
    fun k => (t11_false k).elim, fun k => (t11_false k).elim, fun k => (t11_false k).elim, fun k => (t11_false k).elim, fun k => (t11_false k).elim,
    fun k => (t11_false k).elim, fun k => (t11_false k).elim, fun k => (t11_false k).elim, fun k => (t11_false k).elim, fun k => (t11_false k).elim⟩,
    fun k => (t11_false k).elim, fun k => (t11_false k).elim, fun k => (t11_false k).elim, fun k => (t11_false k).elim, fun k => (t11_false k).elim, fun k => (t11_false k).elim⟩
  · show Scf.OK 0#32 (k0_t2_loop _).ub 1#32
    rw [t2_ub hnl]; exact ok_ofNat (by decide) (by omega)
  · intro t; have := t2_lt hnl t; rw [off6_eq hnl t]; exact inb2 (by omega) (by omega)
  · intro t; have := t2_lt hnl t; rw [off7_eq hnl t]; exact inb2 (by omega) (by omega)
  · intro t; have := t2_lt hnl t; rw [off9_eq hnl t]; exact inb2 (by omega) (by omega)
  · intro t; rw [off10_eq hnl t]; exact inb2 (by omega) (by omega)
  · intro t; rw [off11_eq hnl t]; exact inb3 (by omega) (by omega) (by omega)
  · intro t _; exact Affine.words_rows (by decide) rfl rfl
  · intro t; rw [off13_eq hnl t]; exact inb2 (by omega) (by omega)
  · intro t; rw [off14_eq hnl t]; exact inb3 (by omega) (by omega) (by omega)
  · intro t _; exact Affine.words_rows (by decide) rfl rfl
  · intro t h; have := (cond2_iff hnl t).1 h; rw [off16_eq hnl t]; exact inb2 (by omega) (by omega)
  · intro t h; rw [off17_eq hnl t]; exact inb2 (by omega) (by omega)
  · intro t h; rw [off18_eq hnl t]; exact inb3 (by omega) (by omega) (by omega)
  · intro t _ _; exact Affine.words_rows (by decide) rfl rfl
  · intro t h; rw [off20_eq hnl t]; exact inb2 (by omega) (by omega)
  · intro t h; rw [off21_eq hnl t]; exact inb3 (by omega) (by omega) (by omega)
  · intro t _ _; exact Affine.words_rows (by decide) rfl rfl
  · intro t; rw [off23_eq hnl t]; exact inb3 (by omega) (by omega) (by omega)
  · intro t t3 t4
    have h3 : t3.val < 27 := t3.isLt
    have h4 : t4.val < 10 := t4.isLt
    rw [off24_eq hnl t]; exact inb3 (by omega) (by omega) (by omega)

theorem chk7_of {e lo n : Nat} (he : e < 11) (hn : lo + n ≤ 18432) : k0_chk7 (BitVec.ofNat 32 e) (BitVec.ofNat 32 lo) (BitVec.ofNat 32 n) := by
  refine ⟨⟨?_, ?_, ?_, ?_, ?_, ?_, ?_, ?_, ?_, ?_, ?_, ?_, ?_, ?_, ?_, ?_, ?_, ?_, ?_, t8_ok _ _, fun k => (t8_false k).elim, fun k => (t8_false k).elim,
    fun k => (t8_false k).elim, fun k => (t8_false k).elim, fun k => (t8_false k).elim, fun k => (t8_false k).elim, fun k => (t8_false k).elim,
    fun k => (t8_false k).elim, fun k => (t8_false k).elim, fun k => (t8_false k).elim, fun k => (t8_false k).elim, fun k => (t8_false k).elim⟩,
    fun k => (t8_false k).elim, fun k => (t8_false k).elim, fun k => (t8_false k).elim, fun k => (t8_false k).elim, fun k => (t8_false k).elim, fun k => (t8_false k).elim⟩
  · show Scf.OK (k0_t5_loop _ _).lb (k0_t5_loop _ _).ub 1#32
    rw [t5_lb hn, t5_ub hn]; exact ok_ofNat (by omega) (by omega)
  · intro t; unfold k0_off28; dsimp only [Scalar.indexCast]; rw [toNat_ofNat (by omega)]; exact inb1 (by omega)
  · intro t t6
    have := t5_lt hn t
    have h : t6.val < 256 := t6.isLt
    rw [off29_eq hn t]; exact inb1 (by omega)
  · intro t h3 h4; exact mult9_dvd hn t ((cond4_iff hn t).1 h4)
  · intro t h3 h4; rw [off35_eq hn t ((cond4_iff hn t).1 h4)]; exact inb1 (by omega)
  · intro t h3 h4; have := t5_lt hn t; rw [off36_eq hn t ((cond4_iff hn t).1 h4)]; exact inb2 (by omega) (by omega)
  · intro t h3 h4; rw [off37_eq hn t ((cond4_iff hn t).1 h4)]; exact inb3 (by omega) (by omega) (by omega)
  · intro t _ _ _; exact Affine.words_rows (by decide) rfl rfl
  · intro t _ _ _; exact Affine.words_rows (by decide) rfl rfl
  · intro t h3; rw [off38_eq hn t]; exact inb3 (by omega) (by omega) (by omega)
  · intro t _ _; exact Affine.packed_rows (by decide) rfl rfl rfl rfl
  · intro t h3; rw [off39_eq hn t]; exact inb3 (by omega) (by omega) (by omega)
  · intro t _ _; exact Affine.packed_rows (by decide) rfl rfl rfl rfl
  · intro t h; exact mult10_dvd hn t
  · intro t h; rw [off40_eq hn t]; exact inb1 (by omega)
  · intro t h; have := t5_lt hn t; rw [off41_eq hn t]; exact inb2 (by omega) (by omega)
  · intro t h; rw [off42_eq hn t]; exact inb3 (by omega) (by omega) (by omega)
  · intro t _ _; exact Affine.words_rows (by decide) rfl rfl
  · intro t _ _; exact Affine.words_rows (by decide) rfl rfl

end Cert.Kernel.Hand
-- ==== Proof.Kit.lean ====
/- The kernel's buffers as one record, and what a load and a store do to the values a buffer holds. -/
module

public import proofs.«01_k».proof.Proof.Offs
public import proofs.«01_k».proof.Proof.Gen.Kernel.Skeleton
public import proofs.«01_k».proof.Proof.Gen.Kernel.Loops
public import Idealize.ShloMosaic.Lib.Pipeline.FrameBody
public import Idealize.ShloMosaic.Lib.Pointwise.Index
public import Idealize.ShloMosaic.Lib.ViewIndex
public import Idealize.ShloMosaic.Lib.VecWindow
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The kernel's operands, scratch buffers and semaphores. -/
structure Args where
  arg0 : Memref sig .tc .smem S18432 .i32
  harg0 : arg0.IsWhole
  arg1 : Memref sig .tc .smem S11 .i32
  harg1 : arg1.IsWhole
  arg2 : Memref sig .tc .smem S11 .f32
  harg2 : arg2.IsWhole
  arg3 : Memref sig .tc .smem S1 .f32
  harg3 : arg3.IsWhole
  arg4 : Memref sig .tc .vmem S9216x384 .i32
  harg4 : arg4.IsWhole
  arg5 : Memref sig .tc .hbm S11x1728x1280 .i8
  harg5 : arg5.IsWhole
  arg6 : Memref sig .tc .hbm S11x160x1728 .fp8e4m3
  harg6 : arg6.IsWhole
  arg7 : Memref sig .tc .hbm S1728x18432 .bf16
  harg7 : arg7.IsWhole
  arg8 : Memref sig .tc .smem S2x11 .i32
  harg8 : arg8.IsWhole
  arg9 : Memref sig .tc .vmem S2x1728x1280 .i8
  harg9 : arg9.IsWhole
  arg10 : Memref sig .tc .vmem S2x160x1728 .fp8e4m3
  harg10 : arg10.IsWhole
  arg11 : Memref sig .tc .vmem S1728x256 .bf16
  harg11 : arg11.IsWhole
  arg12 : Memref sig .tc .vmem S1728x2560 .bf16
  harg12 : arg12.IsWhole
  arg13 : Memref sig .tc .vmem S256x384 .i32
  harg13 : arg13.IsWhole
  arg14 : Memref sig .tc .vmem S256x2560 .bf16
  harg14 : arg14.IsWhole
  arg15 : Memref sig .tc .vmem S2x1728x256 .bf16
  harg15 : arg15.IsWhole
  arg16 : DmaSems sig S2x2
  arg17 : DmaSems sig S2

section Values

variable {sg : RefSig} {κ : Kind} {sp : Space} {s : Shape} {e : EltTy} {Val : EltTy → Type}

/-- A store of a block of `W` over contents that agree with `W` on `D` leaves contents that agree with `W` on `D` and on the block. -/
theorem store_ext (v : View sg κ sp s e) (f : v.ty.Contents Val) (W : s.Idx → Val e) (D D' : s.Idx → Prop) {off off' size : Fin s.rank → ℕ}
    (inb : ∀ a, off a + size a ≤ s.size a) (h : off = off') (w : (Rect.unit off size inb).shape.Idx → Val e)
    (hD : ∀ i, D i → v.read Val f i = W i)
    (hw : ∀ (y : (Rect.unit off size inb).shape.Idx) (i : s.Idx), (∀ a, (i a).val = off' a + (y a).val) → w y = W i)
    (hD' : ∀ i, D' i → D i ∨ ∀ a, off' a ≤ (i a).val ∧ (i a).val < off' a + size a) :
    ∀ i, D' i → v.read Val ((v.slice (Rect.unit off size inb)).write Val f w Finset.univ) i = W i := by
  subst h
  intro i hi
  by_cases hb : ∀ a, off a ≤ (i a).val ∧ (i a).val < off a + size a
  · have he : (Rect.unit off size inb).emb (fun a => ⟨(i a).val - off a, by have := hb a; show _ < size a; omega⟩) = i :=
      funext fun a => Fin.ext (by show off a + 1 * ((i a).val - off a) = _; have := hb a; omega)
    rw [← he, View.read_slice_write_emb _ _ _ (Finset.mem_univ _)]
    exact hw _ _ fun a => by rw [Rect.emb_apply]; show off a + 1 * _ = _; omega
  · rw [View.read_slice_write_of_not_mem]
    · exact hD i ((hD' i hi).resolve_right hb)
    · intro hm
      obtain ⟨y, -, rfl⟩ := Finset.mem_map.mp hm
      exact hb fun a => by
        rw [Rect.emb_apply]; have := (y a).isLt
        show off a ≤ off a + 1 * _ ∧ off a + 1 * _ < _
        have h2 : (y a).val < size a := (y a).isLt
        omega

/-- What a block read at offsets `off` holds, by what the buffer holds. -/
theorem read_block (v : View sg κ sp s e) (f : v.ty.Contents Val) {off off' size : Fin s.rank → ℕ}
    (inb : ∀ a, off a + size a ≤ s.size a) (h : off = off') (y : (Rect.unit off size inb).shape.Idx) (i : s.Idx)
    (hi : ∀ a, (i a).val = off' a + (y a).val) :
    (v.slice (Rect.unit off size inb)).read Val f y = v.read Val f i := by
  subst h
  have : (Rect.unit off size inb).emb y = i := funext fun a => Fin.ext (by rw [Rect.emb_apply, hi a]; show off a + 1 * _ = _; omega)
  rw [← this]; rfl

end Values

section Rules

variable {F : FTy → Type} [FloatOps F]

local notation "𝕄" => MT nD τ sig Unit (Elt F) ℕ (Pipeline.UD sig nD τ) ℕ

/-- What the body's weakest preconditions are taken at. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A memref's elements `S` held at contents `f`. -/
abbrev pts (c : Dev nD) {sp : Space} {s : Shape} {e : EltTy} (m : Memref sig .tc sp s e) (S : Finset (Idx (m.view.loc (c : Thread nD τ))))
    (q : PosShare TreeShare) (f : Buf (Elt F) (m.view.loc (c : Thread nD τ))) : sProp 𝕄 :=
  (m.view.loc (c : Thread nD τ) ↦[S]{q} f)

variable (c : Dev nD) {cs : CoreSpace} {s : Shape} {e : EltTy}

theorem ld {α : Type} {Q : α → sProp 𝕄} {m : Memref sig .tc cs s e} {r : Rect s} {hl : m.view.LoadsAt r}
    {k : (r.shape.Idx → Elt F e) → Prog (TpuEff nD τ sig (Elt F) Λ₀ .tc) α} (S : Finset (Idx (m.view.loc (c : Thread nD τ)))) (q : PosShare TreeShare)
    (f : Buf (Elt F) (m.view.loc (c : Thread nD τ))) (hS : (m.access r).set ⊆ S) :
    pts c m S q f ⊢ iprop((pts c m S q f -∗ WP c (k ((m.access r).read (Elt F) f)) Q) -∗ WP c (.op (.load m r hl) k) Q) :=
  wp_load_rect (defs := defs₀ (F := F)) Variants.none (c : Thread nD τ) none Set.univ (Q := Q) (m := m) (r := r) (hl := hl) (k := k) (S := S) (q := q) (f := f) hS

theorem st {α : Type} {Q : α → sProp 𝕄} {m : Memref sig .tc cs s e} {r : Rect s} {w : r.shape.Idx → Elt F e} {hx : (m.access r).Stores Finset.univ}
    {hm : Finset.univ = Finset.univ ∨ ∀ a, r.stride a = 1} {k : PUnit → Prog (TpuEff nD τ sig (Elt F) Λ₀ .tc) α}
    (S : Finset (Idx (m.view.loc (c : Thread nD τ)))) (f : Buf (Elt F) (m.view.loc (c : Thread nD τ))) (hS : (m.access r).set ⊆ S) :
    pts c m S fullShare f
      ⊢ iprop((pts c m S fullShare ((m.access r).write (Elt F) f w Finset.univ) -∗ WP c (k PUnit.unit) Q) -∗ WP c (.op (.store m r w Finset.univ hx hm) k) Q) :=
  wp_store (defs := defs₀ (F := F)) Variants.none (c : Thread nD τ) none Set.univ (Q := Q) (m := m) (r := r) (w := w) (hx := hx) (hm := hm) (k := k) (Mk := Finset.univ) (S := S) (f := f) hS

theorem asm {α : Type} {Q : α → sProp 𝕄} {P : Prop} {d : Decidable P} {k : PLift P → Prog (TpuEff nD τ sig (Elt F) Λ₀ .tc) α} (h : P) :
    WP c (k (PLift.up h)) Q ⊢ WP c (.op (.assume P d) k) Q :=
  wp_assume (defs := defs₀ (F := F)) Variants.none (c : Thread nD τ) none Set.univ (Q := Q) (d := d) (k := k) h

theorem rt {α : Type} {Q : α → sProp 𝕄} {a : α} : Q a ⊢ WP c (.ret a) Q := by
  unfold WP; iintro H; sl_step; iexact H

/-- A counted loop at the head of a program, by an invariant. -/
theorem lpB {σ α : Type} {Q : α → sProp 𝕄} {l : Scf.Loop 32} {hok : l.OK} {init : σ}
    {body : Fin l.trips → σ → Prog (TpuEff nD τ sig (Elt F) Λ₀ .tc) σ} {kk : σ → Prog (TpuEff nD τ sig (Elt F) Λ₀ .tc) α} (I : ℕ → σ → sProp 𝕄)
    (hbody : ∀ (k : Fin l.trips) (acc : σ), I k.val acc ⊢ WP c (body k acc) (I (k.val + 1))) :
    I 0 init ⊢ iprop((∀ acc, I l.trips acc -∗ WP c (kk acc) Q) -∗ WP c (Scf.Loop.for l hok init body >>= kk) Q) :=
  Scf.wp_for_bind frame (wpE (defs₀ (F := F)) Variants.none (c : Thread nD τ) none) Set.univ l.lb l.ub l.st hok init body I hbody

/-- A counted loop that is the whole program. -/
theorem lp0 {σ : Type} {Q : σ → sProp 𝕄} {l : Scf.Loop 32} {hok : l.OK} {init : σ}
    {body : Fin l.trips → σ → Prog (TpuEff nD τ sig (Elt F) Λ₀ .tc) σ} (I : ℕ → σ → sProp 𝕄)
    (hbody : ∀ (k : Fin l.trips) (acc : σ), I k.val acc ⊢ WP c (body k acc) (I (k.val + 1))) :
    iprop(I 0 init ∗ (∀ acc, I l.trips acc -∗ Q acc)) ⊢ WP c (Scf.Loop.for l hok init body) Q :=
  Scf.wp_for frame (wpE (defs₀ (F := F)) Variants.none (c : Thread nD τ) none) Set.univ l.lb l.ub l.st hok init body I hbody

/-- A block at offsets `off` lies in any set that holds the elements it names. -/
theorem blk_sub {m : Memref sig .tc cs s e} {off off' size : Fin s.rank → ℕ} (inb : ∀ a, off a + size a ≤ s.size a) (h : off = off')
    (S : Finset (Idx (m.view.loc (c : Thread nD τ))))
    (hS : ∀ i : s.Idx, (∀ a, off' a ≤ (i a).val ∧ (i a).val < off' a + size a) → m.view.emb i ∈ S) : (m.access (Rect.unit off size inb)).set ⊆ S := by
  subst h
  intro i hi
  obtain ⟨y, rfl⟩ := View.exists_of_mem_set_slice hi
  exact hS _ fun a => by
    have h2 : (y a).val < size a := (y a).isLt
    rw [Rect.emb_apply]; show off a ≤ off a + 1 * _ ∧ off a + 1 * _ < _; omega

end Rules

end Cert.Kernel.Hand

end
-- ==== Proof.Groups.lean ====
/- The groups of rows: how many of the experts before one have rows, and where an expert's rows begin. -/
module

public import proofs.«01_k».proof.Proof.Words

@[expose] public section

namespace Cert.Proof.Groups

variable (G : ℕ → ℕ)

/-- How many of the first `k` experts have rows. -/
def cnt : ℕ → ℕ
  | 0 => 0
  | k + 1 => cnt k + if 0 < G k then 1 else 0

/-- The first row of expert `k`. -/
def off : ℕ → ℕ
  | 0 => 0
  | k + 1 => off k + G k

theorem cnt_le (k : ℕ) : cnt G k ≤ k := by
  induction k with
  | zero => exact le_refl _
  | succ k ih => unfold cnt; split <;> omega

theorem cnt_mono {k k' : ℕ} (h : k ≤ k') : cnt G k ≤ cnt G k' := by
  induction h with
  | refl => exact le_refl _
  | step h ih => exact ih.trans (by rw [cnt]; omega)

theorem off_mono {k k' : ℕ} (h : k ≤ k') : off G k ≤ off G k' := by
  induction h with
  | refl => exact le_refl _
  | step h ih => exact ih.trans (by rw [off]; omega)

theorem cnt_lt {e k : ℕ} (h : e < k) (he : 0 < G e) : cnt G e < cnt G k := by
  have h1 : cnt G (e + 1) ≤ cnt G k := cnt_mono G h
  rw [cnt, if_pos he] at h1; omega

theorem off_eq_of_le {k k' : ℕ} (h : k ≤ k') (hc : cnt G k = cnt G k') : off G k = off G k' := by
  induction h with
  | refl => rfl
  | @step m h ih =>
    have h1 : cnt G k ≤ cnt G m := cnt_mono G h
    rw [cnt] at hc
    by_cases h0 : 0 < G m
    · rw [if_pos h0] at hc; omega
    · rw [off, ← ih (by rw [if_neg h0] at hc; omega)]; omega

theorem off_eq {k k' : ℕ} (hc : cnt G k = cnt G k') : off G k = off G k' := by
  rcases Nat.le_total k k' with h | h
  · exact off_eq_of_le G h hc
  · exact (off_eq_of_le G h hc.symm).symm

theorem exists_of_lt {j k : ℕ} (h : j < cnt G k) : ∃ e, e < k ∧ 0 < G e ∧ cnt G e = j := by
  induction k with
  | zero => exact absurd h (Nat.not_lt_zero _)
  | succ k ih =>
    by_cases hj : j < cnt G k
    · obtain ⟨e, h1, h2⟩ := ih hj; exact ⟨e, by omega, h2⟩
    · rw [cnt] at h
      by_cases h0 : 0 < G k
      · rw [if_pos h0] at h; exact ⟨k, by omega, h0, by omega⟩
      · rw [if_neg h0] at h; omega

theorem off_le {e k : ℕ} (h : e < k) : off G e + G e ≤ off G k := off_mono G (k := e + 1) h

end Cert.Proof.Groups
-- ==== Proof.Scan.lean ====
/- The scan over the group sizes: the table of the experts that have rows, with the row each one starts at. -/
module

public import proofs.«01_k».proof.Proof.Kit
public import proofs.«01_k».proof.Proof.Groups

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Cert.Proof.Groups

/-- A store of one element. -/
theorem store_one {sg : RefSig} {κ : Kind} {sp : Space} {s : Shape} {e : EltTy} {Val : EltTy → Type} (v : View sg κ sp s e) (f : v.ty.Contents Val)
    {off off' size : Fin s.rank → ℕ} (inb : ∀ a, off a + size a ≤ s.size a) (h : off = off') (h1 : ∀ a, size a = 1) (w : Val e) (i : s.Idx) :
    ((∀ a, (i a).val = off' a) → v.read Val ((v.slice (Rect.unit off size inb)).write Val f (fun _ => w) Finset.univ) i = w)
      ∧ ((∃ a, (i a).val ≠ off' a) → v.read Val ((v.slice (Rect.unit off size inb)).write Val f (fun _ => w) Finset.univ) i = v.read Val f i) := by
  subst h
  constructor
  · intro hi
    have he : (Rect.unit off size inb).emb (fun a => ⟨0, by show 0 < size a; rw [h1]; exact Nat.one_pos⟩) = i :=
      funext fun a => Fin.ext (by rw [Rect.emb_apply]; show off a + 1 * 0 = _; rw [hi a]; omega)
    rw [← he]; exact View.read_slice_write_emb _ _ _ (Finset.mem_univ _)
  · rintro ⟨a, ha⟩
    refine View.read_slice_write_of_not_mem _ _ _ _ fun hm => ha ?_
    obtain ⟨y, -, rfl⟩ := Finset.mem_map.mp hm
    have h2 : (y a).val < size a := (y a).isLt
    rw [h1] at h2
    rw [Rect.emb_apply]; show off a + 1 * (y a).val = off a; omega

variable (A : Args) (c : Dev nD)

/-- The table after the first `k` experts. -/
def tab (G : ℕ → ℕ) (k : ℕ) (f : Buf (Elt F) (A.arg8.view.loc (c : Thread nD τ))) : Prop :=
  ∀ e, e < k → 0 < G e → ∀ i : S2x11.Idx, (i 1).val = cnt G e →
    ((i 0).val = 0 → A.arg8.view.read (Elt F) f i = BitVec.ofNat 32 e) ∧ ((i 0).val = 1 → A.arg8.view.read (Elt F) f i = BitVec.ofNat 32 (off G e))

theorem cond1_iff {g : ℕ} (hg : g ≤ 18432) : k0_cond1 (BitVec.ofNat 32 g) = 1#1 ↔ 0 < g := by
  unfold k0_cond1
  dsimp only
  rw [guard, show (0#32 : BitVec 32) = BitVec.ofNat 32 0 from rfl, sgt_ofNat (by omega) (by omega)]
  by_cases h : 0 < g <;> simp [h]

theorem t1_loop (G : ℕ → ℕ) (hG : ∀ k, k < 11 → off G k + G k ≤ 18432) (q1 : PosShare TreeShare) (f1 : Buf (Elt F) (A.arg1.view.loc (c : Thread nD τ)))
    (h1 : ∀ i : S11.Idx, A.arg1.view.read (Elt F) f1 i = BitVec.ofNat 32 (G (i 0).val))
    {α : Type} {Q : α → sProp 𝕄} {kk : BitVec 32 × BitVec 32 → Prog (TpuEff nD τ sig (Elt F) Λ₀ .tc) α} :
    iprop(pts c A.arg1 A.arg1.view.set q1 f1 ∗ ∃ f, pts c A.arg8 A.arg8.view.set fullShare f)
      ⊢ iprop((∀ f, pts c A.arg1 A.arg1.view.set q1 f1 -∗ pts c A.arg8 A.arg8.view.set fullShare f -∗ ⌜tab A c G 11 f⌝
          -∗ WP c (kk (BitVec.ofNat 32 (cnt G 11), BitVec.ofNat 32 (off G 11))) Q)
        -∗ WP c (Scf.Loop.for k0_t1_loop k0_t1_ok (0#32, 0#32) (k0_t1_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17) >>= kk) Q) := by
  iintro ⟨H1, %f, H8⟩ HK
  iapply (lpB c (fun k acc => iprop(pts c A.arg1 A.arg1.view.set q1 f1 ∗ ∃ f, pts c A.arg8 A.arg8.view.set fullShare f
      ∗ ⌜acc = (BitVec.ofNat 32 (cnt G k), BitVec.ofNat 32 (off G k)) ∧ tab A c G k f⌝)) ?_) $$ [H1 H8]
  · intro k acc
    have hk : k.val < 11 := k.isLt
    have hc := cnt_le G k.val
    have hg := hG k.val hk
    iintro ⟨H1, %f, H8, %hx⟩
    obtain ⟨hacc, hf⟩ := hx
    subst hacc
    unfold k0_t1_body
    simp only [smemLoad, smemLoadElt, Prog.lift, Prog.bind_op, Prog.bind_ret, Prog.pure_eq_ret, Prog.bind_assoc]
    iapply (ld c _ q1 f1 (View.set_slice_subset _ _)) $$ H1; iintro H1
    rw [show (A.arg1.access (Rect.unit (s := S11) (k0_off1 k) S1.size (k0_off1_inb k))).read (Elt F) f1 (Shape.Idx.first (s := S1) (numel1_S1.symm ▸ Nat.one_pos))
        = BitVec.ofNat 32 (G k.val) from by
      refine (read_block A.arg1.view f1 _ (off' := ![k.val]) (by unfold k0_off1; dsimp only [Scalar.indexCast]; rw [iv_zero, toNat_ofNat (by omega)]) _
        (ix1 ⟨k.val, hk⟩) fun a => ?_).trans (h1 _)
      fin_cases a
      rfl]
    iapply (asm c (chk1_of (by omega) _))
    have hend : (Scalar.addi (BitVec.ofNat 32 (cnt G k.val)) (Scalar.extui (Scalar.cmpi .sgt (BitVec.ofNat 32 (G k.val)) 0#32)), Scalar.addi (BitVec.ofNat 32 (off G k.val)) (BitVec.ofNat 32 (G k.val)))
        = (BitVec.ofNat 32 (cnt G (k.val + 1)), BitVec.ofNat 32 (off G (k.val + 1))) := by
      rw [add_ofNat, show (0#32 : BitVec 32) = BitVec.ofNat 32 0 from rfl, sgt_ofNat (by omega) (by omega)]
      refine Prod.ext ?_ rfl
      rw [cnt]
      by_cases h0 : 0 < G k.val
      · rw [if_pos h0, decide_eq_true h0]; exact add_ofNat _ 1
      · rw [if_neg h0, decide_eq_false h0]; exact add_ofNat _ 0
    by_cases h0 : 0 < G k.val
    · rw [dif_pos ((cond1_iff (by omega)).mpr h0)]
      iapply (ld c _ _ f (View.set_slice_subset _ _)) $$ H8; iintro H8
      iapply (st c _ f (View.set_slice_subset _ _)) $$ H8; iintro H8
      iapply (ld c _ _ _ (View.set_slice_subset _ _)) $$ H8; iintro H8
      iapply (st c _ _ (View.set_slice_subset _ _)) $$ H8; iintro H8
      iapply (rt c)
      isplitl [H1]; · iexact H1
      iexists _
      isplitl [H8]; · iexact H8
      ipureintro
      refine ⟨hend, fun e he hpe i hi => ?_⟩
      have hi0 : (i 0).val < 2 := (i 0).isLt
      have ho2 : k0_off2 (BitVec.ofNat 32 (cnt G k.val)) = ![0, cnt G k.val] := by
        unfold k0_off2; dsimp only [Scalar.indexCast]; rw [toNat_ofNat (by omega)]
      have ho3 : k0_off3 (BitVec.ofNat 32 (cnt G k.val)) = ![1, cnt G k.val] := by
        unfold k0_off3; dsimp only [Scalar.indexCast]; rw [toNat_ofNat (by omega)]
      have hs : ∀ a : Fin 2, S1x1.size a = 1 := by decide
      have hA := fun ff w => store_one (Val := Elt F) A.arg8.view ff (k0_off2_inb (BitVec.ofNat 32 (cnt G k.val)) _ (chk1_of (by omega) _) ((cond1_iff (by omega)).mpr h0)) ho2 hs w i
      have hB := fun ff w => store_one (Val := Elt F) A.arg8.view ff (k0_off3_inb (BitVec.ofNat 32 (cnt G k.val)) _ (chk1_of (by omega) _) ((cond1_iff (by omega)).mpr h0)) ho3 hs w i
      by_cases hek : e = k.val
      · subst hek
        constructor
        · intro hz
          refine ((hB _ _).2 ⟨0, ?_⟩).trans (((hA _ _).1 fun a => ?_).trans ?_)
          · show (i 0).val ≠ 1; omega
          · fin_cases a
            · exact hz
            · exact hi
          · exact iv_zero _
        · intro hz
          refine ((hB _ _).1 fun a => ?_)
          fin_cases a
          · exact hz
          · exact hi
      · have hlt : cnt G e < cnt G k.val := cnt_lt G (by omega) hpe
        have h2 : A.arg8.view.read (Elt F) _ i = A.arg8.view.read (Elt F) f i :=
          ((hB _ (BitVec.ofNat 32 (off G k.val))).2 ⟨1, by show (i 1).val ≠ cnt G k.val; omega⟩).trans ((hA _ (Scf.iv 0#32 1#32 k.val)).2 ⟨1, by show (i 1).val ≠ cnt G k.val; omega⟩)
        constructor
        · intro hz; exact h2.trans ((hf e (by omega) hpe i hi).1 hz)
        · intro hz; exact h2.trans ((hf e (by omega) hpe i hi).2 hz)
    · rw [dif_neg (fun h => h0 ((cond1_iff (by omega)).mp h))]
      iapply (rt c)
      isplitl [H1]; · iexact H1
      iexists f
      isplitl [H8]; · iexact H8
      ipureintro
      refine ⟨hend, fun e he hpe => hf e ?_ hpe⟩
      rcases Nat.lt_succ_iff_lt_or_eq.mp he with h | h
      · exact h
      · subst h; exact absurd hpe h0
  · isplitl [H1]; · iexact H1
    iexists f
    isplitl [H8]; · iexact H8
    ipureintro
    exact ⟨rfl, fun e he => absurd he (Nat.not_lt_zero _)⟩
  iintro %acc ⟨H1, %f, H8, %hx⟩
  obtain ⟨hacc, hf⟩ := hx
  rw [show acc = (BitVec.ofNat 32 (cnt G 11), BitVec.ofNat 32 (off G 11)) from hacc]
  ihave HK := HK $$ %f H1 H8
  iapply HK
  ipureintro
  exact hf

end Cert.Kernel.Hand

end
-- ==== Proof.Decode.lean ====
/- The two inner loops that decode an expert's weights and a tile's activations. -/
module

public import proofs.«01_k».proof.Proof.Kit
public import Idealize.ShloMosaic.Lib.Pointwise.Reshape

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the loops compute -/

/-- The weight block of 64 rows and 128 columns, low nibbles, from its codes and its scales' block. -/
def wLo (q : ℕ) (C : Vec F S1x64x128 .i8) (S : Vec F S64x128 .bf16) : Vec F S64x128 .bf16 :=
  k0_pay46 (k0_pay2 C) (k0_pay8 S) (Scalar.muli 16#32 (Scalar.remsi (Scf.iv 0#32 1#32 q) 8#32)) k0_pay9 k0_pay10 k0_pay11 0#32

/-- The same block's high nibbles. -/
def wHi (q : ℕ) (C : Vec F S1x64x128 .i8) (S : Vec F S64x128 .bf16) : Vec F S64x128 .bf16 :=
  k0_pay47 (k0_pay7 (F := F) (k0_pay3 C) (k0_pay4 C) (k0_pay5 C) (k0_pay6 C) 2#32) (k0_pay8 S)
    (Scalar.muli 16#32 (Scalar.remsi (Scf.iv 0#32 1#32 q) 8#32)) k0_pay9 k0_pay10 k0_pay11 0#32

/-- Block `(p, q)` of an expert's codes. -/
def cBlk (C : S1728x1280.Idx → Elt F .i8) (p : Fin 27) (q : Fin 10) : Vec F S1x64x128 .i8 :=
  fun y => C (ix2 ⟨64 * p.val + (y 1).val, by have h := (y 1).isLt; have := p.isLt; change _ < 64 at h; omega⟩
    ⟨128 * q.val + (y 2).val, by have h := (y 2).isLt; have := q.isLt; change _ < 128 at h; omega⟩)

/-- Block `(p, q / 8)` of an expert's scales. -/
def sBlk (S : S1728x256.Idx → Elt F .bf16) (p : Fin 27) (q : Fin 10) : Vec F S64x128 .bf16 :=
  fun y => S (ix2 ⟨64 * p.val + (y 0).val, by have h := (y 0).isLt; have := p.isLt; change _ < 64 at h; omega⟩
    ⟨128 * (q.val / 8) + (y 1).val, by have h := (y 1).isLt; have := q.isLt; change _ < 128 at h; omega⟩)

/-- An expert's decoded weights: low nibbles in the first 1280 columns, high nibbles in the last. -/
def wDec (C : S1728x1280.Idx → Elt F .i8) (S : S1728x256.Idx → Elt F .bf16) : Vec F S1728x2560 .bf16 :=
  fun i =>
    let p : Fin 27 := ⟨(i 0).val / 64, by have h := (i 0).isLt; change _ < 1728 at h; omega⟩
    let q : Fin 10 := ⟨(i 1).val % 1280 / 128, by omega⟩
    let y : S64x128.Idx := ix2 ⟨(i 0).val % 64, by omega⟩ ⟨(i 1).val % 128, by omega⟩
    if (i 1).val < 1280 then wLo q.val (cBlk C p q) (sBlk S p q) y else wHi q.val (cBlk C p q) (sBlk S p q) y

theorem wDec_lo (C : S1728x1280.Idx → Elt F .i8) (S : S1728x256.Idx → Elt F .bf16) (p : Fin 27) (q : Fin 10) (y : S64x128.Idx) (i : S1728x2560.Idx)
    (h0 : (i 0).val = 64 * p.val + (y 0).val) (h1 : (i 1).val = 128 * q.val + (y 1).val) :
    wDec C S i = wLo q.val (cBlk C p q) (sBlk S p q) y := by
  have y0 : (y 0).val < 64 := (y 0).isLt
  have y1 : (y 1).val < 128 := (y 1).isLt
  have hq := q.isLt
  have e1 : (⟨(i 0).val / 64, by omega⟩ : Fin 27) = p := Fin.ext (by show (i 0).val / 64 = p.val; omega)
  have e2 : (⟨(i 1).val % 1280 / 128, by omega⟩ : Fin 10) = q := Fin.ext (by show (i 1).val % 1280 / 128 = q.val; omega)
  have e3 : (ix2 ⟨(i 0).val % 64, by omega⟩ ⟨(i 1).val % 128, by omega⟩ : S64x128.Idx) = y := by
    funext a; fin_cases a
    · exact Fin.ext (by show (i 0).val % 64 = (y 0).val; omega)
    · exact Fin.ext (by show (i 1).val % 128 = (y 1).val; omega)
  unfold wDec; dsimp only; rw [if_pos (by omega), e1, e2, e3, show (i 1).val % 1280 / 128 = q.val by omega]

theorem wDec_hi (C : S1728x1280.Idx → Elt F .i8) (S : S1728x256.Idx → Elt F .bf16) (p : Fin 27) (q : Fin 10) (y : S64x128.Idx) (i : S1728x2560.Idx)
    (h0 : (i 0).val = 64 * p.val + (y 0).val) (h1 : (i 1).val = 128 * (10 + q.val) + (y 1).val) :
    wDec C S i = wHi q.val (cBlk C p q) (sBlk S p q) y := by
  have y0 : (y 0).val < 64 := (y 0).isLt
  have y1 : (y 1).val < 128 := (y 1).isLt
  have hq := q.isLt
  have e1 : (⟨(i 0).val / 64, by omega⟩ : Fin 27) = p := Fin.ext (by show (i 0).val / 64 = p.val; omega)
  have e2 : (⟨(i 1).val % 1280 / 128, by omega⟩ : Fin 10) = q := Fin.ext (by show (i 1).val % 1280 / 128 = q.val; omega)
  have e3 : (ix2 ⟨(i 0).val % 64, by omega⟩ ⟨(i 1).val % 128, by omega⟩ : S64x128.Idx) = y := by
    funext a; fin_cases a
    · exact Fin.ext (by show (i 0).val % 64 = (y 0).val; omega)
    · exact Fin.ext (by show (i 1).val % 128 = (y 1).val; omega)
  unfold wDec; dsimp only; rw [if_neg (by omega), e1, e2, e3, show (i 1).val % 1280 / 128 = q.val by omega]

/-! ## The activations -/

/-- The tile's block of packed codes that column block `q` takes its bytes from. -/
def aCol (X : S256x384.Idx → Elt F .i32) (q : Fin 10) : Vec F S256x128 .i32 :=
  fun y => X (ix2 (y 0) ⟨128 * (q.val / 4) + (y 1).val, by have h := (y 1).isLt; have := q.isLt; change _ < 128 at h; omega⟩)

/-- The tile's block that holds the scales' bytes. -/
def aScl (X : S256x384.Idx → Elt F .i32) : Vec F S256x128 .i32 :=
  fun y => X (ix2 (y 0) ⟨256 + (y 1).val, by have h := (y 1).isLt; change _ < 128 at h; omega⟩)

/-- The activation block of column block `q`, low nibbles. -/
def aLo (X : S256x384.Idx → Elt F .i32) (q : Fin 10) : Vec F S256x128 .bf16 :=
  k0_pay22 (k0_pay16 (k0_pay14 0#32 1#32 q (aCol X q)) (k0_pay15 0#32 1#32 q (aCol X q)) (Scalar.ofBits .f32 0x3F000000#32))
    (k0_pay18 (k0_pay12 0#32 1#32 q (aScl X))) (iota .tc S256x128 32 [1] iota_S256x128_d1_w32)
    (Scalar.muli 16#32 (Scalar.remsi (Scf.iv 0#32 1#32 q.val) 8#32)) 8#32 k0_pay19 k0_pay20

/-- The same block's high nibbles. -/
def aHi (X : S256x384.Idx → Elt F .i32) (q : Fin 10) : Vec F S256x128 .bf16 :=
  k0_pay23 (k0_pay17 (F := F) (k0_pay13 0#32 1#32 q (aCol X q)))
    (k0_pay18 (k0_pay12 0#32 1#32 q (aScl X))) (iota .tc S256x128 32 [1] iota_S256x128_d1_w32)
    (Scalar.muli 16#32 (Scalar.remsi (Scf.iv 0#32 1#32 q.val) 8#32)) 8#32 k0_pay19 k0_pay20

/-- A tile's decoded activations. -/
def aDec (X : S256x384.Idx → Elt F .i32) : Vec F S256x2560 .bf16 :=
  fun i =>
    let q : Fin 10 := ⟨(i 1).val % 1280 / 128, by omega⟩
    let y : S256x128.Idx := ix2 (i 0) ⟨(i 1).val % 128, by omega⟩
    if (i 1).val < 1280 then aLo X q y else aHi X q y

theorem aDec_lo (X : S256x384.Idx → Elt F .i32) (q : Fin 10) (y : S256x128.Idx) (i : S256x2560.Idx)
    (h0 : (i 0).val = (y 0).val) (h1 : (i 1).val = 128 * q.val + (y 1).val) : aDec X i = aLo X q y := by
  have y1 : (y 1).val < 128 := (y 1).isLt
  have hq := q.isLt
  have e2 : (⟨(i 1).val % 1280 / 128, by omega⟩ : Fin 10) = q := Fin.ext (by show (i 1).val % 1280 / 128 = q.val; omega)
  have e3 : (ix2 (i 0) ⟨(i 1).val % 128, by omega⟩ : S256x128.Idx) = y := by
    funext a; fin_cases a
    · exact Fin.ext h0
    · exact Fin.ext (by show (i 1).val % 128 = (y 1).val; omega)
  unfold aDec; dsimp only; rw [if_pos (by omega), e2, e3]

theorem aDec_hi (X : S256x384.Idx → Elt F .i32) (q : Fin 10) (y : S256x128.Idx) (i : S256x2560.Idx)
    (h0 : (i 0).val = (y 0).val) (h1 : (i 1).val = 128 * (10 + q.val) + (y 1).val) : aDec X i = aHi X q y := by
  have y1 : (y 1).val < 128 := (y 1).isLt
  have hq := q.isLt
  have e2 : (⟨(i 1).val % 1280 / 128, by omega⟩ : Fin 10) = q := Fin.ext (by show (i 1).val % 1280 / 128 = q.val; omega)
  have e3 : (ix2 (i 0) ⟨(i 1).val % 128, by omega⟩ : S256x128.Idx) = y := by
    funext a; fin_cases a
    · exact Fin.ext h0
    · exact Fin.ext (by show (i 1).val % 128 = (y 1).val; omega)
  unfold aDec; dsimp only; rw [if_neg (by omega), e2, e3]

variable (A : Args) (c : Dev nD)

/-- The weights decoded before block column `k` of block row `p`. -/
def wInv (W : Vec F S1728x2560 .bf16) (p k : ℕ) (f : Buf (Elt F) (A.arg12.view.loc (c : Thread nD τ))) : Prop :=
  ∀ i : S1728x2560.Idx, ((i 0).val < 64 * p ∨ ((i 0).val < 64 * p + 64 ∧ (i 1).val % 1280 < 128 * k)) → A.arg12.view.read (Elt F) f i = W i

/-- One trip of the weights' inner loop. -/
theorem t4_trip {nl : ℕ} (hnl : nl ≤ 11) (hw3 : k0_chk3 (BitVec.ofNat 32 nl)) (t2 : Fin (k0_t2_loop (BitVec.ofNat 32 nl)).trips) (a18 : BitVec 32)
    (v38 : Elt F .i32) (v51 : BitVec 32) (v53 : Elt F .i32) (hw5 : k0_chk5 v53) (p : Fin k0_t3_loop.trips) (v137 : BitVec 32)
    (q9 : PosShare TreeShare) (S9 : Finset (Idx (A.arg9.view.loc (c : Thread nD τ)))) (f9 : Buf (Elt F) (A.arg9.view.loc (c : Thread nD τ)))
    (f11 : Buf (Elt F) (A.arg11.view.loc (c : Thread nD τ))) (C : S1728x1280.Idx → Elt F .i8)
    (hS9 : ∀ i : S2x1728x1280.Idx, (i 0).val = t2.val % 2 → A.arg9.view.emb i ∈ S9)
    (hC : ∀ r k, A.arg9.view.read (Elt F) f9 (ix3 ⟨t2.val % 2, by omega⟩ r k) = C (ix2 r k))
    (k : Fin k0_t4_loop.trips) (acc : BitVec 32) :
    iprop(pts c A.arg9 S9 q9 f9 ∗ pts c A.arg11 A.arg11.view.set fullShare f11
      ∗ ∃ f, pts c A.arg12 A.arg12.view.set fullShare f ∗ ⌜wInv A c (wDec C (A.arg11.view.read (Elt F) f11)) p.val k.val f⌝)
      ⊢ WP c (k0_t4_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17 (BitVec.ofNat 32 nl) hw3 t2 a18 v38 v51 v53 hw5 p v137 k acc)
          (fun _ => iprop(pts c A.arg9 S9 q9 f9 ∗ pts c A.arg11 A.arg11.view.set fullShare f11
            ∗ ∃ f, pts c A.arg12 A.arg12.view.set fullShare f ∗ ⌜wInv A c (wDec C (A.arg11.view.read (Elt F) f11)) p.val (k.val + 1) f⌝)) := by
  have hp : p.val < 27 := p.isLt
  have hk : k.val < 10 := k.isLt
  unfold k0_t4_body
  simp only [k0_part1_eq_skeleton, k0_part2_eq_skeleton]; unfold k0_part1_skel k0_part2_skel
  simp only [Prog.lift, Prog.bind_op, Prog.bind_ret, Prog.pure_eq_ret, Prog.bind_assoc]
  iintro ⟨H9, H11, %f, H12, %hf⟩
  iapply (ld c S9 q9 f9 (blk_sub c _ (off24_eq hnl t2 p k) S9 fun i hi => hS9 i (by have := hi 0; change t2.val % 2 ≤ _ ∧ _ < t2.val % 2 + 1 at this; omega))) $$ H9
  iintro H9
  iapply (ld c _ _ f11 (View.set_slice_subset _ _)) $$ H11; iintro H11
  iapply (ld c _ _ f (View.set_slice_subset _ _)) $$ H12; iintro H12
  iapply (st c _ _ (View.set_slice_subset _ _)) $$ H12; iintro H12
  iapply (ld c _ _ _ (View.set_slice_subset _ _)) $$ H12; iintro H12
  iapply (st c _ _ (View.set_slice_subset _ _)) $$ H12; iintro H12
  iapply (rt c)
  isplitl [H9]; · iexact H9
  isplitl [H11]; · iexact H11
  iexists _
  isplitl [H12]; · iexact H12
  ipureintro
  have hcb : (A.arg9.access (Rect.unit (s := S2x1728x1280) (k0_off24 (BitVec.ofNat 32 nl) t2 p k) S1x64x128.size (k0_off24_inb (BitVec.ofNat 32 nl) hw3 t2 p k))).read (Elt F) f9
      = cBlk C p k := by
    funext y
    refine (read_block A.arg9.view f9 _ (off24_eq hnl t2 p k) y _ fun a => ?_).trans (hC _ _)
    fin_cases a
    · have h := (y 0).isLt; change _ < 1 at h; show t2.val % 2 = t2.val % 2 + (y 0).val; omega
    · rfl
    · rfl
  have hsb : (A.arg11.access (Rect.unit (s := S1728x256) (k0_off25 p k) S64x128.size (k0_off25_inb p k))).read (Elt F) f11
      = sBlk (A.arg11.view.read (Elt F) f11) p k := by
    funext y
    refine read_block A.arg11.view f11 _ (off25_eq p k) y _ fun a => ?_
    fin_cases a <;> rfl
  rw [hcb, hsb]
  refine store_ext A.arg12.view _ _ (fun i => ((i 0).val < 64 * p.val ∨ ((i 0).val < 64 * p.val + 64 ∧ ((i 1).val % 1280 < 128 * k.val ∨ 128 * k.val ≤ (i 1).val ∧ (i 1).val < 128 * k.val + 128)))) _ _ (off27_eq p k) _ ?_ ?_ ?_
  · refine store_ext A.arg12.view _ _ (fun i => ((i 0).val < 64 * p.val ∨ ((i 0).val < 64 * p.val + 64 ∧ ((i 1).val % 1280 < 128 * k.val)))) _ _ (off26_eq p k) _ hf ?_ ?_
    · intro y i hi
      exact (wDec_lo C _ p k y i (hi 0) (hi 1)).symm
    · intro i hi
      by_cases h : (i 0).val < 64 * p.val ∨ ((i 0).val < 64 * p.val + 64 ∧ ((i 1).val % 1280 < 128 * k.val))
      · exact .inl h
      · right; intro a; fin_cases a
        · show 64 * p.val ≤ (i 0).val ∧ (i 0).val < 64 * p.val + 64; omega
        · show 128 * k.val ≤ (i 1).val ∧ (i 1).val < 128 * k.val + 128; omega
  · intro y i hi
    exact (wDec_hi C _ p k y i (hi 0) (hi 1)).symm
  · intro i hi
    have h1 : (i 1).val < 2560 := (i 1).isLt
    by_cases h : ((i 0).val < 64 * p.val ∨ ((i 0).val < 64 * p.val + 64 ∧ ((i 1).val % 1280 < 128 * k.val ∨ 128 * k.val ≤ (i 1).val ∧ (i 1).val < 128 * k.val + 128)))
    · exact .inl h
    · right; intro a; fin_cases a
      · show 64 * p.val ≤ (i 0).val ∧ (i 0).val < 64 * p.val + 64; omega
      · show 128 * (10 + k.val) ≤ (i 1).val ∧ (i 1).val < 128 * (10 + k.val) + 128; omega

/-- The weights' loops: the whole decoded matrix. -/
theorem t3_loop {nl : ℕ} (hnl : nl ≤ 11) (hw3 : k0_chk3 (BitVec.ofNat 32 nl)) (t2 : Fin (k0_t2_loop (BitVec.ofNat 32 nl)).trips) (a18 : BitVec 32)
    (v38 : Elt F .i32) (v51 : BitVec 32) (v53 : Elt F .i32) (hw5 : k0_chk5 v53)
    (q9 : PosShare TreeShare) (S9 : Finset (Idx (A.arg9.view.loc (c : Thread nD τ)))) (f9 : Buf (Elt F) (A.arg9.view.loc (c : Thread nD τ)))
    (f11 : Buf (Elt F) (A.arg11.view.loc (c : Thread nD τ))) (C : S1728x1280.Idx → Elt F .i8)
    (hS9 : ∀ i : S2x1728x1280.Idx, (i 0).val = t2.val % 2 → A.arg9.view.emb i ∈ S9)
    (hC : ∀ r k, A.arg9.view.read (Elt F) f9 (ix3 ⟨t2.val % 2, by omega⟩ r k) = C (ix2 r k))
    (init : BitVec 32) {α : Type} {Q : α → sProp 𝕄} {kk : BitVec 32 → Prog (TpuEff nD τ sig (Elt F) Λ₀ .tc) α} :
    iprop(pts c A.arg9 S9 q9 f9 ∗ pts c A.arg11 A.arg11.view.set fullShare f11 ∗ ∃ f, pts c A.arg12 A.arg12.view.set fullShare f)
      ⊢ iprop((∀ acc f, pts c A.arg9 S9 q9 f9 -∗ pts c A.arg11 A.arg11.view.set fullShare f11
          -∗ pts c A.arg12 A.arg12.view.set fullShare f -∗ ⌜A.arg12.view.read (Elt F) f = wDec C (A.arg11.view.read (Elt F) f11)⌝ -∗ WP c (kk acc) Q)
        -∗ WP c (Scf.Loop.for k0_t3_loop k0_t3_ok init (k0_t3_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17 (BitVec.ofNat 32 nl) hw3 t2 a18 v38 v51 v53 hw5) >>= kk) Q) := by
  iintro ⟨H9, H11, %f, H12⟩ HK
  iapply (lpB c (fun k _ => iprop(pts c A.arg9 S9 q9 f9 ∗ pts c A.arg11 A.arg11.view.set fullShare f11
      ∗ ∃ f, pts c A.arg12 A.arg12.view.set fullShare f ∗ ⌜wInv A c (wDec C (A.arg11.view.read (Elt F) f11)) k 0 f⌝)) ?_) $$ [H9 H11 H12]
  · intro p acc
    iintro ⟨H9, H11, %f, H12, %hf⟩
    unfold k0_t3_body
    dsimp only
    iapply (lpB c (fun k _ => iprop(pts c A.arg9 S9 q9 f9 ∗ pts c A.arg11 A.arg11.view.set fullShare f11
      ∗ ∃ f, pts c A.arg12 A.arg12.view.set fullShare f ∗ ⌜wInv A c (wDec C (A.arg11.view.read (Elt F) f11)) p.val k f⌝)) ?_) $$ [H9 H11 H12]
    · intro k acc
      exact t4_trip A c hnl hw3 t2 a18 v38 v51 v53 hw5 p _ q9 S9 f9 f11 C hS9 hC k acc
    · isplitl [H9]; · iexact H9
      isplitl [H11]; · iexact H11
      iexists f
      isplitl [H12]; · iexact H12
      ipureintro; exact hf
    iintro %acc ⟨H9, H11, %f, H12, %hf⟩
    simp only [Prog.pure_eq_ret]
    iapply (rt c)
    isplitl [H9]; · iexact H9
    isplitl [H11]; · iexact H11
    iexists f
    isplitl [H12]; · iexact H12
    ipureintro
    intro i hi
    have h10 : k0_t4_loop.trips = 10 := by decide
    have h1 : (i 1).val < 2560 := (i 1).isLt
    exact hf i (by rw [h10]; omega)
  · isplitl [H9]; · iexact H9
    isplitl [H11]; · iexact H11
    iexists f
    isplitl [H12]; · iexact H12
    ipureintro; intro i hi; omega
  iintro %acc ⟨H9, H11, %f, H12, %hf⟩
  iapply HK $$ H9 H11 H12
  ipureintro
  funext i
  have h27 : k0_t3_loop.trips = 27 := by decide
  have h0 : (i 0).val < 1728 := (i 0).isLt
  exact hf i (by rw [h27]; omega)

/-- The activations' loop: the tile's decoded activations. -/
theorem t7_loop (v0 : Elt F .f32) (v36 v38 v40 : Elt F .i32) (hw7 : k0_chk7 v36 v38 v40) (v109 c1 : BitVec 32) (t5 : Fin (k0_t5_loop v38 v40).trips)
    (f13 : Buf (Elt F) (A.arg13.view.loc (c : Thread nD τ)))
    (init : BitVec 32) {α : Type} {Q : α → sProp 𝕄} {kk : BitVec 32 → Prog (TpuEff nD τ sig (Elt F) Λ₀ .tc) α} :
    iprop(pts c A.arg13 A.arg13.view.set fullShare f13 ∗ ∃ f, pts c A.arg14 A.arg14.view.set fullShare f)
      ⊢ iprop((∀ acc f, pts c A.arg13 A.arg13.view.set fullShare f13 -∗ pts c A.arg14 A.arg14.view.set fullShare f
          -∗ ⌜A.arg14.view.read (Elt F) f = aDec (A.arg13.view.read (Elt F) f13)⌝ -∗ WP c (kk acc) Q)
        -∗ WP c (Scf.Loop.for k0_t7_loop k0_t7_ok init (k0_t7_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17 v0 v36 v38 v40 hw7 v109 c1 t5) >>= kk) Q) := by
  iintro ⟨H13, %f, H14⟩ HK
  iapply (lpB c (fun k _ => iprop(pts c A.arg13 A.arg13.view.set fullShare f13
      ∗ ∃ f, pts c A.arg14 A.arg14.view.set fullShare f
        ∗ ⌜∀ i : S256x2560.Idx, (i 1).val % 1280 < 128 * k → A.arg14.view.read (Elt F) f i = aDec (A.arg13.view.read (Elt F) f13) i⌝)) ?_) $$ [H13 H14]
  · intro k acc
    iintro ⟨H13, %f, H14, %hf⟩
    have hk : k.val < 10 := k.isLt
    unfold k0_t7_body
    simp only [k0_part3_eq_skeleton, k0_part4_eq_skeleton, k0_part5_eq_skeleton]; unfold k0_part3_skel k0_part4_skel k0_part5_skel
    simp only [Prog.lift, Prog.bind_op, Prog.bind_ret, Prog.pure_eq_ret, Prog.bind_assoc]
    iapply (ld c _ _ f13 (View.set_slice_subset _ _)) $$ H13; iintro H13
    iapply (ld c _ _ f13 (View.set_slice_subset _ _)) $$ H13; iintro H13
    iapply (ld c _ _ _ (View.set_slice_subset _ _)) $$ H14; iintro H14
    iapply (st c _ _ (View.set_slice_subset _ _)) $$ H14; iintro H14
    iapply (ld c _ _ _ (View.set_slice_subset _ _)) $$ H14; iintro H14
    iapply (st c _ _ (View.set_slice_subset _ _)) $$ H14; iintro H14
    iapply (rt c)
    isplitl [H13]; · iexact H13
    iexists _
    isplitl [H14]; · iexact H14
    ipureintro
    have h1 : (A.arg13.access (Rect.unit (s := S256x384) ![0, 256] S256x128.size inb_S256x384_S256x128_0_256)).read (Elt F) f13 = aScl (A.arg13.view.read (Elt F) f13) := by
      funext y
      refine read_block A.arg13.view f13 _ rfl y _ fun a => ?_
      fin_cases a
      · show (y 0).val = 0 + (y 0).val; omega
      · rfl
    have h2 : (A.arg13.access (Rect.unit (s := S256x384) (k0_off32 k) S256x128.size (k0_off32_inb k))).read (Elt F) f13 = aCol (A.arg13.view.read (Elt F) f13) k := by
      funext y
      refine read_block A.arg13.view f13 _ (off32_eq k) y _ fun a => ?_
      fin_cases a
      · show (y 0).val = 0 + (y 0).val; omega
      · rfl
    rw [h1, h2]
    refine store_ext A.arg14.view _ _ (fun i => (i 1).val % 1280 < 128 * k.val ∨ 128 * k.val ≤ (i 1).val ∧ (i 1).val < 128 * k.val + 128) _ _ (off34_eq k) _ ?_ ?_ ?_
    · refine store_ext A.arg14.view _ _ (fun i => (i 1).val % 1280 < 128 * k.val) _ _ (off33_eq k) _ hf ?_ ?_
      · intro y i hi
        exact (aDec_lo _ k y i (by have := hi 0; change (i 0).val = 0 + (y 0).val at this; omega) (hi 1)).symm
      · intro i hi
        have h1 : (i 0).val < 256 := (i 0).isLt
        rcases hi with h | h
        · exact .inl h
        · right; intro a; fin_cases a
          · show 0 ≤ (i 0).val ∧ (i 0).val < 0 + 256; omega
          · exact h
    · intro y i hi
      exact (aDec_hi _ k y i (by have := hi 0; change (i 0).val = 0 + (y 0).val at this; omega) (hi 1)).symm
    · intro i hi
      have h0 : (i 0).val < 256 := (i 0).isLt
      have h1 : (i 1).val < 2560 := (i 1).isLt
      by_cases h : ((i 1).val % 1280 < 128 * k.val ∨ 128 * k.val ≤ (i 1).val ∧ (i 1).val < 128 * k.val + 128)
      · exact .inl h
      · right; intro a; fin_cases a
        · show 0 ≤ (i 0).val ∧ (i 0).val < 0 + 256; omega
        · show 128 * (10 + k.val) ≤ (i 1).val ∧ (i 1).val < 128 * (10 + k.val) + 128; omega
  · isplitl [H13]; · iexact H13
    iexists f
    isplitl [H14]; · iexact H14
    ipureintro; intro i hi; omega
  iintro %acc ⟨H13, %f, H14, %hf⟩
  iapply HK $$ H13 H14
  ipureintro
  funext i
  have h10 : k0_t7_loop.trips = 10 := by decide
  exact hf i (by rw [h10]; omega)

theorem off30_eq {e : ℕ} (he : e < 9216) : k0_off30 (BitVec.ofNat 32 e) = ![e, 0] := by
  unfold k0_off30; dsimp only [Scalar.indexCast]; rw [toNat_ofNat (by omega)]

theorem pay24_eq (v : Vec F S1x384 .i32) : k0_pay24 v = v := shapeCast_id v _

/-- The gather's loop: the tile's packed rows. -/
theorem t6_loop (v0 : Elt F .f32) (v36 : Elt F .i32) {lo n : ℕ} (hn : lo + n ≤ 18432) (hw7 : k0_chk7 v36 (BitVec.ofNat 32 lo) (BitVec.ofNat 32 n)) (v109 c1 : BitVec 32)
    (t5 : Fin (k0_t5_loop (BitVec.ofNat 32 lo) (BitVec.ofNat 32 n)).trips)
    (q0 q4 : PosShare TreeShare) (f0 : Buf (Elt F) (A.arg0.view.loc (c : Thread nD τ))) (f4 : Buf (Elt F) (A.arg4.view.loc (c : Thread nD τ)))
    (tok : ℕ → Fin 9216) (htok : ∀ i, A.arg0.view.read (Elt F) f0 i = BitVec.ofNat 32 (tok (i 0).val).val)
    (init : BitVec 32) {α : Type} {Q : α → sProp 𝕄} {kk : BitVec 32 → Prog (TpuEff nD τ sig (Elt F) Λ₀ .tc) α} :
    iprop(pts c A.arg0 A.arg0.view.set q0 f0 ∗ pts c A.arg4 A.arg4.view.set q4 f4 ∗ ∃ f, pts c A.arg13 A.arg13.view.set fullShare f)
      ⊢ iprop((∀ acc f, pts c A.arg0 A.arg0.view.set q0 f0 -∗ pts c A.arg4 A.arg4.view.set q4 f4 -∗ pts c A.arg13 A.arg13.view.set fullShare f
          -∗ ⌜A.arg13.view.read (Elt F) f = fun i => A.arg4.view.read (Elt F) f4 (ix2 (tok ((lo / 256 + t5.val) * 256 + (i 0).val)) (i 1))⌝ -∗ WP c (kk acc) Q)
        -∗ WP c (Scf.Loop.for k0_t6_loop k0_t6_ok init (k0_t6_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17 v0 v36 (BitVec.ofNat 32 lo) (BitVec.ofNat 32 n) hw7 v109 c1 t5) >>= kk) Q) := by
  iintro ⟨H0, H4, %f, H13⟩ HK
  have ht5 := t5_lt hn t5
  iapply (lpB c (fun k _ => iprop(pts c A.arg0 A.arg0.view.set q0 f0 ∗ pts c A.arg4 A.arg4.view.set q4 f4
      ∗ ∃ f, pts c A.arg13 A.arg13.view.set fullShare f
        ∗ ⌜∀ i : S256x384.Idx, (i 0).val < k → A.arg13.view.read (Elt F) f i = A.arg4.view.read (Elt F) f4 (ix2 (tok ((lo / 256 + t5.val) * 256 + (i 0).val)) (i 1))⌝)) ?_) $$ [H0 H4 H13]
  · intro k acc
    iintro ⟨H0, H4, %f, H13, %hf⟩
    have hk : k.val < 256 := k.isLt
    unfold k0_t6_body
    simp only [smemLoad, smemLoadElt, Prog.lift, Prog.bind_op, Prog.bind_ret, Prog.pure_eq_ret, Prog.bind_assoc]
    iapply (ld c _ q0 f0 (View.set_slice_subset _ _)) $$ H0; iintro H0
    have hv : (A.arg0.access (Rect.unit (s := S18432) (k0_off29 (BitVec.ofNat 32 lo) (BitVec.ofNat 32 n) t5 k) S1.size (k0_off29_inb v36 (BitVec.ofNat 32 lo) (BitVec.ofNat 32 n) hw7 t5 k))).read (Elt F) f0 (Shape.Idx.first (s := S1) (numel1_S1.symm ▸ Nat.one_pos))
        = BitVec.ofNat 32 (tok ((lo / 256 + t5.val) * 256 + k.val)).val := by
      refine (read_block A.arg0.view f0 _ (off29_eq hn t5 k) _ (ix1 ⟨(lo / 256 + t5.val) * 256 + k.val, by omega⟩) fun a => ?_).trans (htok _)
      fin_cases a; rfl
    rw [hv]
    iapply (asm c (chk8_of (tok ((lo / 256 + t5.val) * 256 + k.val)).isLt))
    iapply (ld c _ q4 f4 (View.set_slice_subset _ _)) $$ H4; iintro H4
    iapply (ld c _ _ _ (View.set_slice_subset _ _)) $$ H13; iintro H13
    iapply (st c _ _ (View.set_slice_subset _ _)) $$ H13; iintro H13
    iapply (rt c)
    isplitl [H0]; · iexact H0
    isplitl [H4]; · iexact H4
    iexists _
    isplitl [H13]; · iexact H13
    ipureintro
    have hb : ∀ y, (A.arg4.access (Rect.unit (s := S9216x384) (k0_off30 (BitVec.ofNat 32 (tok ((lo / 256 + t5.val) * 256 + k.val)).val)) S1x384.size
        (k0_off30_inb (BitVec.ofNat 32 (tok ((lo / 256 + t5.val) * 256 + k.val)).val) (chk8_of (tok ((lo / 256 + t5.val) * 256 + k.val)).isLt)))).read (Elt F) f4 y
        = A.arg4.view.read (Elt F) f4 (ix2 (tok ((lo / 256 + t5.val) * 256 + k.val)) (y 1)) := by
      intro y
      refine read_block A.arg4.view f4 _ (off30_eq (tok ((lo / 256 + t5.val) * 256 + k.val)).isLt) y _ fun a => ?_
      fin_cases a
      · have h := (y 0).isLt; change _ < 1 at h
        show (tok ((lo / 256 + t5.val) * 256 + k.val)).val = (tok ((lo / 256 + t5.val) * 256 + k.val)).val + (y 0).val; omega
      · show (y 1).val = 0 + (y 1).val; omega
    refine store_ext A.arg13.view _ _ (fun i => (i 0).val < k.val) _ _ (off31_eq k) _ hf ?_ ?_
    · intro y i hi
      have h := (y 0).isLt; change _ < 1 at h
      have h0 : (i 0).val = k.val + (y 0).val := hi 0
      have h1 : (i 1).val = 0 + (y 1).val := hi 1
      rw [pay24_eq, hb, show (lo / 256 + t5.val) * 256 + (i 0).val = (lo / 256 + t5.val) * 256 + k.val by omega]
      congr 1
      funext a; fin_cases a
      · rfl
      · exact Fin.ext (by show (y 1).val = (i 1).val; omega)
    · intro i hi
      have h1 : (i 1).val < 384 := (i 1).isLt
      by_cases h : (i 0).val < k.val
      · exact .inl h
      · right; intro a; fin_cases a
        · show k.val ≤ (i 0).val ∧ (i 0).val < k.val + 1; omega
        · show 0 ≤ (i 1).val ∧ (i 1).val < 0 + 384; omega
  · isplitl [H0]; · iexact H0
    isplitl [H4]; · iexact H4
    iexists f
    isplitl [H13]; · iexact H13
    ipureintro; intro i hi; omega
  iintro %acc ⟨H0, H4, %f, H13, %hf⟩
  iapply HK $$ H0 H4 H13
  ipureintro
  funext i
  have h10 : k0_t6_loop.trips = 256 := by decide
  have h0 : (i 0).val < 256 := (i 0).isLt
  exact hf i (by rw [h10]; omega)

end Cert.Kernel.Hand

end
-- ==== Proof.Flights.lean ====
/- The kernel's copies: the elements they carry, the rules that start and await them, and what a core holds of the two
   result slots between one tile of rows and the next. -/
module

public import proofs.«01_k».proof.Proof.Decode
public import Idealize.ShloMosaic.Lib.ValueLayout
public import Idealize.ShloMosaic.Lib.Transfers

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Sets

variable {sg : RefSig} {κ : Kind} {sp : Space} {s : Shape} {e : EltTy} {Val : EltTy → Type}

open Classical in
/-- The elements of a view at the indices with a property. -/
def mset (v : View sg κ sp s e) (P : s.Idx → Prop) : Finset v.ty.Idx := (Finset.univ.filter P).map v.emb

theorem mem_mset {v : View sg κ sp s e} {P : s.Idx → Prop} {j : v.ty.Idx} : j ∈ mset v P ↔ ∃ i, P i ∧ v.emb i = j := by
  unfold mset; simp

theorem emb_mem_mset {v : View sg κ sp s e} {P : s.Idx → Prop} {i : s.Idx} : v.emb i ∈ mset v P ↔ P i := by
  rw [mem_mset]; exact ⟨fun ⟨i', h, e⟩ => v.emb.injective e ▸ h, fun h => ⟨i, h, rfl⟩⟩

theorem mset_sub {v : View sg κ sp s e} {P P' : s.Idx → Prop} (h : ∀ i, P i → P' i) : mset v P ⊆ mset v P' := by
  intro j hj; obtain ⟨i, hi, rfl⟩ := mem_mset.mp hj; exact emb_mem_mset.mpr (h i hi)

theorem mset_congr {v : View sg κ sp s e} {P P' : s.Idx → Prop} (h : ∀ i, P i ↔ P' i) : mset v P = mset v P' := by
  rw [show P = P' from funext fun i => propext (h i)]

theorem mset_sdiff {v : View sg κ sp s e} {P P' : s.Idx → Prop} : mset v P \ mset v P' = mset v (fun i => P i ∧ ¬ P' i) := by
  ext j
  simp only [Finset.mem_sdiff, mem_mset]
  constructor
  · rintro ⟨⟨i, hi, rfl⟩, h2⟩
    exact ⟨i, ⟨hi, fun h => h2 ⟨i, h, rfl⟩⟩, rfl⟩
  · rintro ⟨i, ⟨hi, h2⟩, rfl⟩
    exact ⟨⟨i, hi, rfl⟩, fun ⟨i', h, e⟩ => h2 (v.emb.injective e ▸ h)⟩

theorem mset_true {v : View sg κ sp s e} : v.set = mset v (fun _ => True) := by
  unfold mset View.set; simp

/-- A block's elements. -/
theorem set_block (v : View sg κ sp s e) {off off' size : Fin s.rank → ℕ} (inb : ∀ a, off a + size a ≤ s.size a) (h : off = off') :
    (v.slice (Rect.unit off size inb)).set = mset v (fun i => ∀ a, off' a ≤ (i a).val ∧ (i a).val < off' a + size a) := by
  subst h
  ext j
  rw [mem_mset]
  constructor
  · intro hj
    obtain ⟨y, rfl⟩ := View.exists_of_mem_set_slice hj
    refine ⟨_, fun a => ?_, rfl⟩
    have h2 : (y a).val < size a := (y a).isLt
    rw [Rect.emb_apply]; show off a ≤ off a + 1 * _ ∧ off a + 1 * _ < _; omega
  · rintro ⟨i, hb, rfl⟩
    have he : (Rect.unit off size inb).emb (fun a => ⟨(i a).val - off a, by have := hb a; show _ < size a; omega⟩) = i :=
      funext fun a => Fin.ext (by show off a + 1 * ((i a).val - off a) = _; have := hb a; omega)
    rw [← he]
    exact Finset.mem_map.mpr ⟨_, Finset.mem_univ _, rfl⟩

/-- A piecewise choice between two contents reads as the one that holds the element. -/
theorem read_piecewise {v : View sg κ sp s e} {P : s.Idx → Prop} (f g : v.ty.Contents Val) (i : s.Idx) [∀ j, Decidable (j ∈ mset v P)] :
    (P i → v.read Val ((mset v P).piecewise f g) i = v.read Val f i) ∧ (¬ P i → v.read Val ((mset v P).piecewise f g) i = v.read Val g i) := by
  constructor
  · intro h
    rw [View.read_apply, View.read_apply]
    congr 1; exact Finset.piecewise_eq_of_mem _ _ _ (emb_mem_mset.mpr h)
  · intro h
    rw [View.read_apply, View.read_apply]
    congr 1; exact Finset.piecewise_eq_of_notMem _ _ _ (fun hm => h (emb_mem_mset.mp hm))

end Sets

section Rules

variable (c : Dev nD) {sp sp' : Space} {s s' : Shape} {e e' : EltTy}

/-- The counters of the kernel's transfers. -/
abbrev EC : UEmb Counters 𝕄 := countersEmb (U := Pipeline.UD sig nD τ)

/-- A copy under way on a semaphore, with what its wait delivers. -/
abbrev Fly (c : Dev nD) (sm : DmaSem sig) (N : ℕ) (D : sProp 𝕄) : sProp 𝕄 := Transfers.Flight (EC (F := F)) (c : Thread nD τ) (.dma sm) () N D

abbrev sem0 (c : Dev nD) (sm : DmaSem sig) : sProp 𝕄 := semVal ((c : Thread nD τ), SemLoc.dma sm) 0

/-- What the core has waited on. -/
abbrev ow (c : Dev nD) : sProp 𝕄 := iprop(∃ W, owes (c : Thread nD τ) 0 W)

theorem wt {α : Type} {Q : α → sProp 𝕄} {sm sm' : DmaSem sig} {srcw : Memref sig .tc sp' s' e'} {dstw : Memref sig .tc sp s e}
    {hsrc : srcw.view.WordExact} {hdst : dstw.view.WordExact} {k : PUnit → Prog (TpuEff nD τ sig (Elt F) Λ₀ .tc) α} (hs : sm = sm') (N : ℕ)
    (hN : dstw.view.dmaCredit = N) (D : sProp 𝕄) :
    iprop(Fly c sm' N D ∗ ow (F := F) c)
      ⊢ iprop((iprop(D ∗ sem0 (F := F) c sm' ∗ ow (F := F) c) -∗ WP c (k PUnit.unit) Q) -∗ WP c (.op (.waitDma2 sm srcw dstw hsrc hdst) k) Q) := by
  subst hs
  iintro ⟨HF, %W, HO⟩ Hk
  iapply (Transfers.wp_waitLocal (defs := defs₀ (F := F)) (EC (F := F)) Variants.none (c : Thread nD τ) none (Q := Q) (srcw := srcw) (dstw := dstw)
    (hsrc := hsrc) (hdst := hdst) (k := k) () hN (D := D) (W := W)) $$ [HF HO]
  · isplitl [HF]; · iexact HF
    iexact HO
  iintro ⟨HD, HS, HO⟩
  iapply Hk
  isplitl [HD]; · iexact HD
  isplitl [HS]; · iexact HS
  iexists _; iexact HO

theorem enq {α : Type} {Q : α → sProp 𝕄} {sm sm' : DmaSem sig} {src : Memref sig .tc sp s e} {dst : Memref sig .tc sp' s e}
    {hsrc : src.view.WordExact} {hdst : dst.view.WordExact} {hsem : DmaTarget.Typed (nD := nD) sp (SemLoc.dma sm) (DmaTarget.here (τ := τ) (p := .tc) dst)}
    {k : PUnit → Prog (TpuEff nD τ sig (Elt F) Λ₀ .tc) α} (hs : sm = sm') (q : PosShare TreeShare) (fs : Buf (Elt F) (src.view.loc (c : Thread nD τ)))
    (fd : Buf (Elt F) (dst.view.loc (c : Thread nD τ))) (Ss : Finset (Idx (src.view.loc (c : Thread nD τ)))) (hSs : src.view.set = Ss)
    (Sd : Finset (Idx (dst.view.loc (c : Thread nD τ)))) (hSd : dst.view.set = Sd) (N : ℕ) (hN : dst.view.dmaCredit = N) (hN0 : 0 < N) :
    iprop((src.view.loc (c : Thread nD τ) ↦[Ss]{q} fs) ∗ (dst.view.loc (c : Thread nD τ) ↦[Sd]{fullShare} fd) ∗ sem0 (F := F) c sm')
      ⊢ iprop((Fly c sm' N iprop((dst.view.loc (c : Thread nD τ) ↦[Sd]{fullShare} (dst.view.write (Elt F) fd (src.view.read (Elt F) fs) Finset.univ))
                  ∗ (src.view.loc (c : Thread nD τ) ↦[Ss]{q} fs)) -∗ WP c (k PUnit.unit) Q)
          -∗ WP c (.op (.enqueueDma src (.here dst) (.dma sm) hsrc hdst hsem) k) Q) := by
  subst hs; subst hSs; subst hSd
  exact Transfers.wp_dmaLocal (defs := defs₀ (F := F)) (EC (F := F)) Variants.none (c : Thread nD τ) none (Q := Q) (src := src) (dst := dst)
    (via := .same) (sm := .dma sm) (hsrc := hsrc) (hdst := hdst) (hsem := hsem) (k := k) (q := q) (fs := fs) (Sd := dst.view.set) (fd := fd) () N hN hN0 (Finset.Subset.refl _)

/-- A semaphore array's element by its offsets. -/
theorem sem_eq {s : Shape} {s' : Shape} (a : DmaSems sig s) {off off' size : Fin s.rank → ℕ} (inb : ∀ a, off a + size a ≤ s.size a)
    (inb' : ∀ a, off' a + size a ≤ s.size a) (h : off = off') (hq : (Rect.unit off size inb).shape.Squeezes s') :
    (a.slice (Rect.unit off size inb)).squeeze s' hq = (a.slice (Rect.unit off' size inb')).squeeze s' hq := by
  subst h; rfl

end Rules

end Cert.Kernel.Hand

end
-- ==== Proof.Slots.lean ====
/- The two result slots: what the core holds of them and of the result array when the rows before row `p` are done. -/
module

public import proofs.«01_k».proof.Proof.Flights

@[expose] public section

set_option maxHeartbeats 400000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot of tile `T`. -/
def sl (T : ℕ) : Fin 2 := ⟨T % 2, by omega⟩

variable (A : Args) (c : Dev nD) (Yv : S1728x18432.Idx → Elt F .bf16)

def ySem (s : Fin 2) : DmaSem sig :=
  ((A.arg17.slice (Rect.unit (s := S2) ![s.val] S1.size (inb1 (a := s.val) (b := 2) s.isLt))).squeeze S_ squeezes_S1_S_).sem

/-- What one copy of a tile is worth on its semaphore. -/
def yN : ℕ := (A.arg7.slice (Rect.unit (s := S1728x18432) ![0, 0] S1728x256.size (inb2 (by decide) (by decide))) (fun _ => rfl)).view.dmaCredit

theorem yN_pos : 0 < yN A := sig.dmaCredit_pos _ _ _ _ _ (by decide)

def slotS (s : Fin 2) : Finset (Idx (A.arg15.view.loc (c : Thread nD τ))) := mset A.arg15.view fun i => (i 0).val = s.val
def tileS (T : ℕ) : Finset (Idx (A.arg7.view.loc (c : Thread nD τ))) := mset A.arg7.view fun i => 256 * T ≤ (i 1).val ∧ (i 1).val < 256 * (T + 1)
def ySet (a b : ℕ) : Finset (Idx (A.arg7.view.loc (c : Thread nD τ))) := mset A.arg7.view fun i => (i 1).val < 256 * a ∨ 256 * b ≤ (i 1).val

/-- Tile `T` of the result, by the elements of a slot. -/
def yCol (T : ℕ) (i : S2x1728x256.Idx) : Elt F .bf16 := Yv (ix2 (i 1) ⟨(256 * T + (i 2).val) % 18432, Nat.mod_lt _ (by decide)⟩)

/-- What the wait for tile `T` delivers: the tile's columns of the result, written, and its slot. -/
def yD (s : Fin 2) (T : ℕ) : sProp 𝕄 :=
  iprop((∃ f, pts c A.arg7 (tileS A c T) fullShare f ∗ ⌜∀ i : S1728x18432.Idx, 256 * T ≤ (i 1).val ∧ (i 1).val < 256 * (T + 1) → A.arg7.view.read (Elt F) f i = Yv i⌝)
    ∗ ∃ g, pts c A.arg15 (slotS A c s) fullShare g)

/-- A slot: its copy under way, or the slot itself. -/
def ySlot (s : Fin 2) : Option ℕ → sProp 𝕄
  | none => iprop((∃ g, pts c A.arg15 (slotS A c s) fullShare g) ∗ sem0 (F := F) c (ySem A s))
  | some T => Fly c (ySem A s) (yN A) (yD A c Yv s T)

/-- The result's columns but those of the tiles `a ≤ T < b`; those before tile `a` are done. -/
def yHbm (a b : ℕ) : sProp 𝕄 :=
  iprop(∃ f, pts c A.arg7 (ySet A c a b) fullShare f ∗ ⌜∀ i : S1728x18432.Idx, (i 1).val < 256 * a → A.arg7.view.read (Elt F) f i = Yv i⌝)

/-- A slot held with its first `q` columns those of tile `T`. -/
def yPart (s : Fin 2) (T q : ℕ) : sProp 𝕄 :=
  iprop((∃ g, pts c A.arg15 (slotS A c s) fullShare g ∗ ⌜∀ i : S2x1728x256.Idx, (i 0).val = s.val → (i 2).val < q → A.arg15.view.read (Elt F) g i = yCol Yv T i⌝)
    ∗ sem0 (F := F) c (ySem A s))

def prv (k T : ℕ) : Option ℕ := if k ≤ T then some (T - k) else none

/-- Before tile `T` is begun. -/
def yNew (T : ℕ) : sProp 𝕄 :=
  iprop(yHbm A c Yv (T - 2) T ∗ ySlot A c Yv (sl T) (prv 2 T) ∗ ySlot A c Yv (sl (T + 1)) (prv 1 T))

/-- Tile `T` begun, its first `q` columns in the slot. -/
def yMid (T q : ℕ) : sProp 𝕄 :=
  iprop(yHbm A c Yv (T - 1) T ∗ yPart A c Yv (sl T) T q ∗ ySlot A c Yv (sl (T + 1)) (prv 1 T))

/-- The rows before row `p` done. -/
def Yst (p : ℕ) : sProp 𝕄 := if p % 256 = 0 then yNew A c Yv (p / 256) else yMid A c Yv (p / 256) (p % 256)

theorem Yst_new (T : ℕ) : Yst A c Yv (T * 256) = yNew A c Yv T := by
  unfold Yst; rw [if_pos (by omega)]; congr 1; omega

theorem Yst_mid {T q p : ℕ} (hp : p = T * 256 + q) (h0 : 0 < q) (hq : q < 256) : Yst A c Yv p = yMid A c Yv T q := by
  subst hp
  unfold Yst; rw [if_neg (by omega)]; congr 1 <;> omega

theorem tile_sub (T : ℕ) : tileS A c T ⊆ ySet A c (T - 1) T := mset_sub fun i h => .inr h.1

theorem tile_sdiff (T : ℕ) : ySet A c (T - 1) T \ tileS A c T = ySet A c (T - 1) (T + 1) := by
  unfold ySet tileS
  rw [mset_sdiff]
  exact mset_congr fun i => by omega

theorem tile_sub' (T : ℕ) : tileS A c T ⊆ ySet A c (T + 1) (T + 2) := mset_sub fun i h => .inl h.2

theorem tile_sdiff' (T : ℕ) : ySet A c (T + 1) (T + 2) \ tileS A c T = ySet A c T (T + 2) := by
  unfold ySet tileS
  rw [mset_sdiff]
  exact mset_congr fun i => by omega

theorem slot_set {T : ℕ} {o : Fin 3 → ℕ} (inb : ∀ a, o a + S1x1728x256.size a ≤ S2x1728x256.size a) (h : o = ![T % 2, 0, 0]) :
    ((A.arg15.slice (Rect.unit (s := S2x1728x256) o S1x1728x256.size inb) (fun _ => rfl)).squeeze S1728x256 squeezes_S1x1728x256_S1728x256).view.set = slotS A c (sl T) := by
  refine (View.set_reshape _ _).trans ?_
  refine (set_block A.arg15.view inb h).trans (mset_congr fun i => ?_)
  have h1 : (i 1).val < 1728 := (i 1).isLt
  have h2 : (i 2).val < 256 := (i 2).isLt
  constructor
  · intro hb
    have := hb 0
    change T % 2 ≤ (i 0).val ∧ (i 0).val < T % 2 + 1 at this
    show (i 0).val = T % 2
    omega
  · intro hb a
    change (i 0).val = T % 2 at hb
    fin_cases a
    · show T % 2 ≤ (i 0).val ∧ (i 0).val < T % 2 + 1; omega
    · show 0 ≤ (i 1).val ∧ (i 1).val < 0 + 1728; omega
    · show 0 ≤ (i 2).val ∧ (i 2).val < 0 + 256; omega

theorem tile_set {T : ℕ} {o : Fin 2 → ℕ} (inb : ∀ a, o a + S1728x256.size a ≤ S1728x18432.size a) (h : o = ![0, T * 256]) :
    (A.arg7.slice (Rect.unit (s := S1728x18432) o S1728x256.size inb) (fun _ => rfl)).view.set = tileS A c T := by
  refine (set_block A.arg7.view inb h).trans (mset_congr fun i => ?_)
  have h1 : (i 0).val < 1728 := (i 0).isLt
  constructor
  · intro hb
    have := hb 1
    change T * 256 ≤ (i 1).val ∧ (i 1).val < T * 256 + 256 at this
    omega
  · intro hb a
    fin_cases a
    · show 0 ≤ (i 0).val ∧ (i 0).val < 0 + 1728; omega
    · show T * 256 ≤ (i 1).val ∧ (i 1).val < T * 256 + 256; omega

/-- A block copied into a tile of the result reads there as the slot it was copied from. -/
theorem tile_read {T : ℕ} (hT : T < 72) {o7 : Fin 2 → ℕ} {o15 : Fin 3 → ℕ} (i7 : ∀ a, o7 a + S1728x256.size a ≤ S1728x18432.size a)
    (i15 : ∀ a, o15 a + S1x1728x256.size a ≤ S2x1728x256.size a) (h7 : o7 = ![0, T * 256]) (h15 : o15 = ![T % 2, 0, 0])
    (f : Buf (Elt F) (A.arg7.view.loc (c : Thread nD τ))) (g : Buf (Elt F) (A.arg15.view.loc (c : Thread nD τ)))
    (hg : ∀ i : S2x1728x256.Idx, (i 0).val = (sl T).val → (i 2).val < 256 → A.arg15.view.read (Elt F) g i = yCol Yv T i)
    (i : S1728x18432.Idx) (hi : 256 * T ≤ (i 1).val ∧ (i 1).val < 256 * (T + 1)) :
    A.arg7.view.read (Elt F) ((A.arg7.slice (Rect.unit (s := S1728x18432) o7 S1728x256.size i7) (fun _ => rfl)).view.write (Elt F) f
      (((A.arg15.slice (Rect.unit (s := S2x1728x256) o15 S1x1728x256.size i15) (fun _ => rfl)).squeeze S1728x256 squeezes_S1x1728x256_S1728x256).view.read (Elt F) g) Finset.univ) i = Yv i := by
  subst h7 h15
  have h0 : (i 0).val < 1728 := (i 0).isLt
  have he : (Rect.unit (s := S1728x18432) ![0, T * 256] S1728x256.size i7).emb (ix2 ⟨(i 0).val, h0⟩ ⟨(i 1).val - 256 * T, by omega⟩) = i :=
    funext fun a => Fin.ext (by
      rw [Rect.emb_apply]
      fin_cases a
      · show 0 + 1 * (i 0).val = (i 0).val; omega
      · show T * 256 + 1 * ((i 1).val - 256 * T) = (i 1).val; omega)
  rw [← he]
  refine (View.read_slice_write_emb _ _ _ (Finset.mem_univ _)).trans ?_
  show A.arg15.view.read (Elt F) g ((Rect.unit (s := S2x1728x256) ![T % 2, 0, 0] S1x1728x256.size i15).emb (Shape.reshapeEquiv _ (ix2 _ _))) = _
  rw [show Shape.reshapeEquiv squeezes_S1x1728x256_S1728x256.numel_eq (ix2 ⟨(i 0).val, h0⟩ ⟨(i 1).val - 256 * T, by omega⟩)
      = (ix3 (0 : Fin 1) ⟨(i 0).val, h0⟩ ⟨(i 1).val - 256 * T, by omega⟩ : S1x1728x256.Idx) from ValueIdx.reshapeEquiv_ix2_1ab _ _ _]
  rw [hg _ (by rw [Rect.emb_apply]; show T % 2 + 1 * 0 = T % 2; omega)
    (by rw [Rect.emb_apply]; show 0 + 1 * ((i 1).val - 256 * T) < 256; omega)]
  rw [he]
  unfold yCol
  congr 1
  refine funext fun a => Fin.ext ?_
  fin_cases a
  · show ((Rect.unit (s := S2x1728x256) ![T % 2, 0, 0] S1x1728x256.size i15).emb _ 1).val = (i 0).val
    rw [Rect.emb_apply]; show 0 + 1 * (i 0).val = _; omega
  · show (256 * T + ((Rect.unit (s := S2x1728x256) ![T % 2, 0, 0] S1x1728x256.size i15).emb _ 2).val) % 18432 = (i 1).val
    rw [Rect.emb_apply]; show (256 * T + (0 + 1 * ((i 1).val - 256 * T))) % 18432 = _; omega

theorem ySem_eq {T : ℕ} {o : Fin 1 → ℕ} (inb : ∀ a, o a + S1.size a ≤ S2.size a) (h : o = ![T % 2]) :
    ((A.arg17.slice (Rect.unit (s := S2) o S1.size inb)).squeeze S_ squeezes_S1_S_).sem = ySem A (sl T) := by
  subst h; rfl

theorem sl_add2 (T : ℕ) : sl (T + 2) = sl T := Fin.ext (by show (T + 2) % 2 = T % 2; omega)

/-- A full slot starts on its way to the result. -/
theorem y_enq {α : Type} {Q : α → sProp 𝕄} {k : PUnit → Prog (TpuEff nD τ sig (Elt F) Λ₀ .tc) α} {T : ℕ} (hT : T < 72)
    {o17 : Fin 1 → ℕ} {o7 : Fin 2 → ℕ} {o15 : Fin 3 → ℕ} (i17 : ∀ a, o17 a + S1.size a ≤ S2.size a) (i7 : ∀ a, o7 a + S1728x256.size a ≤ S1728x18432.size a)
    (i15 : ∀ a, o15 a + S1x1728x256.size a ≤ S2x1728x256.size a) {hsrc hdst hsem}
    (h17 : o17 = ![T % 2]) (h7 : o7 = ![0, T * 256]) (h15 : o15 = ![T % 2, 0, 0]) :
    yMid A c Yv T 256 ⊢ iprop((Yst A c Yv ((T + 1) * 256) -∗ WP c (k PUnit.unit) Q)
      -∗ WP c (.op (.enqueueDma ((A.arg15.slice (Rect.unit (s := S2x1728x256) o15 S1x1728x256.size i15) (fun _ => rfl)).squeeze S1728x256 squeezes_S1x1728x256_S1728x256)
          (.here (A.arg7.slice (Rect.unit (s := S1728x18432) o7 S1728x256.size i7) (fun _ => rfl)))
          (.dma ((A.arg17.slice (Rect.unit (s := S2) o17 S1.size i17)).squeeze S_ squeezes_S1_S_).sem) hsrc hdst hsem) k) Q) := by
  rw [Yst_new]
  unfold yMid yNew yHbm yPart
  iintro ⟨⟨%f, H7, %hf⟩, ⟨⟨%g, H15, %hg⟩, HS⟩, HO⟩ Hk
  ihave H := (pointsTo_split_subset (tile_sub A c T)).1 $$ H7
  icases H with ⟨HT, H7⟩
  rw [tile_sdiff]
  iapply (enq c (src := (A.arg15.slice (Rect.unit (s := S2x1728x256) o15 S1x1728x256.size i15) (fun _ => rfl)).squeeze S1728x256 squeezes_S1x1728x256_S1728x256)
    (dst := A.arg7.slice (Rect.unit (s := S1728x18432) o7 S1728x256.size i7) (fun _ => rfl)) (ySem_eq A i17 h17) fullShare g f (slotS A c (sl T)) (slot_set A c i15 h15) (tileS A c T) (tile_set A c i7 h7) (yN A) rfl (yN_pos A)) $$ [HT H15 HS]
  · isplitl [H15]; · iexact H15
    isplitl [HT]; · iexact HT
    iexact HS
  iintro HF
  iapply Hk
  isplitl [H7]
  · iexists f
    isplitl [H7]
    · rw [show T + 1 - 2 = T - 1 from by omega]; iexact H7
    · ipureintro; exact fun i hi => hf i (by omega)
  isplitl [HO]
  · rw [show prv 2 (T + 1) = prv 1 T from by unfold prv; by_cases h : 1 ≤ T <;> simp [h] <;> omega]
    iexact HO
  · rw [show prv 1 (T + 1) = some T from rfl, show T + 1 + 1 = T + 2 from rfl, sl_add2]
    unfold ySlot
    iapply (Transfers.Flight_mono (EC (F := F)) (c : Thread nD τ) ?_) $$ HF
    unfold yD
    iintro ⟨H7, H15⟩
    isplitl [H7]
    · iexists _
      isplitl [H7]; · iexact H7
      ipureintro
      exact tile_read A c Yv hT i7 i15 h7 h15 f g hg
    · iexists g; iexact H15

end Cert.Kernel.Hand

end
-- ==== Proof.Tile.lean ====
/- One tile of one expert's rows: gather, decode, multiply, and the result's slot. -/
module

public import proofs.«01_k».proof.Proof.Slots

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block that is the whole of a buffer reads as the buffer. -/
theorem read_all {sg : RefSig} {κ : Kind} {sp : Space} {s : Shape} {e : EltTy} {Val : EltTy → Type} (v : View sg κ sp s e) (f : v.ty.Contents Val)
    {off : Fin s.rank → ℕ} (inb : ∀ a, off a + s.size a ≤ s.size a) : (v.slice (Rect.unit off s.size inb)).read Val f = v.read Val f := by
  funext y
  show v.read Val f ((Rect.unit off s.size inb).emb y) = _
  rw [Rect.emb_unit_full]

theorem pay23_at (v0 wg : Elt F .f32) (W : Vec F S1728x2560 .bf16) (X : Vec F S256x2560 .bf16) (u : Fin 1) (r : Fin 1728) (k : Fin 256) :
    k0_pay26 v0 wg W X (ix3 u r k) = k0_pay25 v0 wg W X (ix2 r k) := by
  unfold k0_pay26; exact ValueIdx.shapeCast_ab_1ab_apply _ _ u r k

theorem pay24_at (v0 : Elt F .f32) {lo n : ℕ} (hn : lo + n ≤ 18432) (t : Fin (k0_t5_loop (BitVec.ofNat 32 lo) (BitVec.ofNat 32 n)).trips)
    (wg : Elt F .f32) (W : Vec F S1728x2560 .bf16) (X : Vec F S256x2560 .bf16) (Y : Vec F S1x1728x256 .bf16) (r : Fin 1728) (k : Fin 256) :
    k0_pay27 v0 (BitVec.ofNat 32 lo) (BitVec.ofNat 32 n) (BitVec.ofNat 32 (lo / 256)) 1#32 t wg W X Y (ix3 0 r k)
      = if lo ≤ (lo / 256 + t.val) * 256 + k.val then k0_pay25 v0 wg W X (ix2 r k) else Y (ix3 0 r k) := by
  have ht := t5_lt hn t
  unfold k0_pay27
  refine (ValueIdx.shapeCast_ab_1ab_apply _ _ 0 r k).trans ?_
  show Scalar.select (Scalar.cmpi .sge (Scalar.addi (iota .tc S1728x256 32 [1] iota_S1728x256_d1_w32 (ix2 r k)) (Scalar.muli (Scf.iv (BitVec.ofNat 32 (lo / 256)) 1#32 t.val) (BitVec.ofNat 32 256)))
      (BitVec.ofNat 32 lo)) (k0_pay25 v0 wg W X (ix2 r k)) (shapeCast S1728x256 Y shapeCasts_S1x1728x256_S1728x256 (ix2 r k)) = _
  have hio : iota .tc S1728x256 32 [1] iota_S1728x256_d1_w32 (ix2 r k) = BitVec.ofNat 32 k.val := by
    unfold iota; show BitVec.ofNat 32 (0 * 256 + k.val) = _; rw [Nat.zero_mul, Nat.zero_add]
  have hk := k.isLt
  rw [hio, iv_ofNat, mul_ofNat, add_ofNat, sge_ofNat (by omega) (by omega)]
  rw [show shapeCast S1728x256 Y shapeCasts_S1x1728x256_S1728x256 (ix2 r k) = Y (ix3 0 r k) from ValueIdx.shapeCast_1ab_ab_apply _ _ r k]
  by_cases h : lo ≤ (lo / 256 + t.val) * 256 + k.val
  · rw [if_pos h, decide_eq_true (by omega)]; rfl
  · rw [if_neg h, decide_eq_false (by omega)]; rfl

variable (A : Args) (c : Dev nD) (Yv : S1728x18432.Idx → Elt F .bf16)

/-- The slot's earlier copy is waited for. -/
theorem y_wait {α : Type} {Q : α → sProp 𝕄} {k : PUnit → Prog (TpuEff nD τ sig (Elt F) Λ₀ .tc) α} {T : ℕ} (h2 : 2 ≤ T)
    {o17 : Fin 1 → ℕ} {o7 : Fin 2 → ℕ} {sp' : Space} {s' : Shape} {e' : EltTy} {srcw : Memref sig .tc sp' s' e'}
    (i17 : ∀ a, o17 a + S1.size a ≤ S2.size a) (i7 : ∀ a, o7 a + S1728x256.size a ≤ S1728x18432.size a) {hsrc hdst} (h17 : o17 = ![T % 2]) :
    iprop(yNew A c Yv T ∗ ow (F := F) c) ⊢ iprop((iprop(yMid A c Yv T 0 ∗ ow (F := F) c) -∗ WP c (k PUnit.unit) Q)
      -∗ WP c (.op (.waitDma2 ((A.arg17.slice (Rect.unit (s := S2) o17 S1.size i17)).squeeze S_ squeezes_S1_S_).sem srcw
          (A.arg7.slice (Rect.unit (s := S1728x18432) o7 S1728x256.size i7) (fun _ => rfl)) hsrc hdst) k) Q) := by
  obtain ⟨T, rfl⟩ : ∃ T', T = T' + 2 := ⟨T - 2, by omega⟩
  unfold yMid yNew yHbm yPart
  rw [show prv 2 (T + 2) = some T from by unfold prv; rw [if_pos (by omega)]; rfl, show T + 2 - 2 = T from rfl, show T + 2 - 1 = T + 1 from rfl]
  iintro ⟨⟨⟨%f, H7, %hf⟩, HS, HO⟩, Hw⟩ Hk
  iapply (wt c (dstw := A.arg7.slice (Rect.unit (s := S1728x18432) o7 S1728x256.size i7) (fun _ => rfl)) (ySem_eq A i17 h17) (yN A) rfl (yD A c Yv (sl (T + 2)) T)) $$ [HS Hw]
  · isplitl [HS]
    · unfold ySlot; iexact HS
    · iexact Hw
  unfold yD
  iintro ⟨⟨⟨%f', H7', %hf'⟩, ⟨%g, H15⟩⟩, HS, Hw⟩
  iapply Hk
  isplitr [Hw]
  · isplitl [H7 H7']
    · have hj := pointsTo_join_subset (Ix := Unit) (Name := ℕ) (U := Pipeline.UD sig nD τ) (Lvl := ℕ) (Val := Elt F) (q := fullShare) (g := f') (f := f) (tile_sub' A c T)
      rw [tile_sdiff'] at hj
      iexists _
      isplitl [H7 H7']
      · iapply hj; isplitl [H7']
        · iexact H7'
        · iexact H7
      · ipureintro
        intro i hi
        by_cases h : 256 * T ≤ (i 1).val ∧ (i 1).val < 256 * (T + 1)
        · exact ((read_piecewise (v := A.arg7.view) (P := fun i => 256 * T ≤ (i 1).val ∧ (i 1).val < 256 * (T + 1)) f' f i).1 h).trans (hf' i h)
        · exact ((read_piecewise (v := A.arg7.view) (P := fun i => 256 * T ≤ (i 1).val ∧ (i 1).val < 256 * (T + 1)) f' f i).2 h).trans (hf i (by omega))
    isplitl [H15 HS]
    · isplitl [H15]
      · iexists g
        isplitl [H15]; · iexact H15
        ipureintro; intro i _ h0; exact absurd h0 (Nat.not_lt_zero _)
      · iexact HS
    · iexact HO
  · iexact Hw

theorem y_free {T : ℕ} (h2 : ¬ 2 ≤ T) : yNew A c Yv T ⊢ yMid A c Yv T 0 := by
  unfold yMid yNew yHbm yPart
  rw [show prv 2 T = none from by unfold prv; rw [if_neg h2], show T - 2 = 0 from by omega, show T - 1 = 0 from by omega]
  unfold ySlot
  iintro ⟨H7, ⟨⟨%g, H15⟩, HS⟩, HO⟩
  isplitl [H7]; · iexact H7
  isplitl [H15 HS]
  · isplitl [H15]
    · iexists g
      isplitl [H15]; · iexact H15
      ipureintro; intro i _ h0; exact absurd h0 (Nat.not_lt_zero _)
    · iexact HS
  · iexact HO

/-- A load of the slot of tile `T`. -/
theorem y_ld {α : Type} {Q : α → sProp 𝕄} {T q : ℕ} {o : Fin 3 → ℕ} (inb : ∀ a, o a + S1x1728x256.size a ≤ S2x1728x256.size a) (h : o = ![T % 2, 0, 0])
    {hl : A.arg15.view.LoadsAt (Rect.unit (s := S2x1728x256) o S1x1728x256.size inb)}
    {k : Vec F S1x1728x256 .bf16 → Prog (TpuEff nD τ sig (Elt F) Λ₀ .tc) α} :
    yMid A c Yv T q ⊢ iprop((∀ v : Vec F S1x1728x256 .bf16, yMid A c Yv T q -∗ ⌜∀ (r : Fin 1728) (x : Fin 256), x.val < q → v (ix3 0 r x) = yCol Yv T (ix3 (sl T) r x)⌝ -∗ WP c (k v) Q)
      -∗ WP c (.op (.load A.arg15 (Rect.unit (s := S2x1728x256) o S1x1728x256.size inb) hl) k) Q) := by
  unfold yMid yPart
  iintro ⟨H7, ⟨⟨%g, H15, %hg⟩, HS⟩, HO⟩ Hk
  iapply (ld c _ _ g (blk_sub c inb h (slotS A c (sl T)) (fun i hi => emb_mem_mset.mpr (by
    have := hi 0; change T % 2 ≤ (i 0).val ∧ (i 0).val < T % 2 + 1 at this; show (i 0).val = T % 2; omega)))) $$ H15
  iintro H15
  ihave Hk := Hk $$ %_ [H7 H15 HS HO]
  rotate_left
  · iapply Hk
    ipureintro
    intro r x hx
    refine (read_block A.arg15.view g inb h (ix3 0 r x) (ix3 (sl T) r x) fun a => ?_).trans (hg _ rfl hx)
    fin_cases a
    · rfl
    · show r.val = 0 + r.val; omega
    · show x.val = 0 + x.val; omega
  · isplitl [H7]; · iexact H7
    isplitl [H15 HS]
    · isplitl [H15]
      · iexists g
        isplitl [H15]; · iexact H15
        ipureintro; exact hg
      · iexact HS
    · iexact HO

/-- A store of the slot of tile `T`. -/
theorem y_st {α : Type} {Q : α → sProp 𝕄} {T q q' : ℕ} {o : Fin 3 → ℕ} (inb : ∀ a, o a + S1x1728x256.size a ≤ S2x1728x256.size a) (h : o = ![T % 2, 0, 0])
    {w : Vec F S1x1728x256 .bf16} {hx : (A.arg15.access (Rect.unit (s := S2x1728x256) o S1x1728x256.size inb)).Stores Finset.univ} {hm}
    {k : PUnit → Prog (TpuEff nD τ sig (Elt F) Λ₀ .tc) α} (hw : ∀ (r : Fin 1728) (x : Fin 256), x.val < q' → w (ix3 0 r x) = yCol Yv T (ix3 (sl T) r x)) :
    yMid A c Yv T q ⊢ iprop((yMid A c Yv T q' -∗ WP c (k PUnit.unit) Q)
      -∗ WP c (.op (.store A.arg15 (Rect.unit (s := S2x1728x256) o S1x1728x256.size inb) w Finset.univ hx hm) k) Q) := by
  unfold yMid yPart
  iintro ⟨H7, ⟨⟨%g, H15, -⟩, HS⟩, HO⟩ Hk
  iapply (st c (slotS A c (sl T)) g (blk_sub c inb h (slotS A c (sl T)) (fun i hi => emb_mem_mset.mpr (by
    have := hi 0; change T % 2 ≤ (i 0).val ∧ (i 0).val < T % 2 + 1 at this; show (i 0).val = T % 2; omega)))) $$ H15
  iintro H15
  iapply Hk
  isplitl [H7]; · iexact H7
  isplitl [H15 HS]
  · isplitl [H15]
    · iexists _
      isplitl [H15]; · iexact H15
      ipureintro
      subst h
      intro i h0 h2
      have h1' : (i 1).val < 1728 := (i 1).isLt
      have h2' : (i 2).val < 256 := (i 2).isLt
      have he : (Rect.unit (s := S2x1728x256) ![T % 2, 0, 0] S1x1728x256.size inb).emb (ix3 (0 : Fin 1) ⟨(i 1).val, h1'⟩ ⟨(i 2).val, h2'⟩) = i :=
        funext fun a => Fin.ext (by
          rw [Rect.emb_apply]
          fin_cases a
          · show T % 2 + 1 * 0 = (i 0).val; rw [h0]; rfl
          · show 0 + 1 * (i 1).val = (i 1).val; omega
          · show 0 + 1 * (i 2).val = (i 2).val; omega)
      have h3 := View.read_slice_write_emb (v := A.arg15.view) (Rect.unit (s := S2x1728x256) ![T % 2, 0, 0] S1x1728x256.size inb) g w
        (Finset.mem_univ (ix3 (0 : Fin 1) ⟨(i 1).val, h1'⟩ ⟨(i 2).val, h2'⟩ : (Rect.unit (s := S2x1728x256) ![T % 2, 0, 0] S1x1728x256.size inb).shape.Idx))
      rw [he] at h3
      refine h3.trans ((hw _ _ h2).trans ?_)
      unfold yCol
      rfl
    · iexact HS
  · iexact HO

end Cert.Kernel.Hand

end
-- ==== Proof.Trip.lean ====
/- One trip of the loop over an expert's tiles of rows. -/
module

public import proofs.«01_k».proof.Proof.Tile

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (A : Args) (c : Dev nD) (Yv : S1728x18432.Idx → Elt F .bf16)

/-- The rows tile `T` gathers, of the activation words `X`. -/
def gath (X : S9216x384.Idx → Elt F .i32) (tok : ℕ → Fin 9216) (T : ℕ) : Vec F S256x384 .i32 :=
  fun i => X (ix2 (tok (T * 256 + (i 0).val)) (i 1))

/-- What the loop over an expert's tiles holds when the rows before row `p` are done. -/
def tInv (q0 q2 q4 : PosShare TreeShare) (f0 : Buf (Elt F) (A.arg0.view.loc (c : Thread nD τ))) (f2 : Buf (Elt F) (A.arg2.view.loc (c : Thread nD τ)))
    (f4 : Buf (Elt F) (A.arg4.view.loc (c : Thread nD τ))) (f12 : Buf (Elt F) (A.arg12.view.loc (c : Thread nD τ))) (p : ℕ) : sProp 𝕄 :=
  iprop(pts c A.arg0 A.arg0.view.set q0 f0 ∗ pts c A.arg2 A.arg2.view.set q2 f2 ∗ pts c A.arg4 A.arg4.view.set q4 f4
    ∗ pts c A.arg12 A.arg12.view.set fullShare f12
    ∗ (∃ f, pts c A.arg13 A.arg13.view.set fullShare f) ∗ (∃ f, pts c A.arg14 A.arg14.view.set fullShare f) ∗ Yst A c Yv p ∗ ow (F := F) c)

/-- The first row not done after `k` tiles of the rows `lo ≤ m < lo + n`. -/
def tRow (lo n k : ℕ) : ℕ := if k = 0 then lo else min (lo + n) ((lo / 256 + k) * 256)

theorem tail {T hi : ℕ} (h : ¬ (T + 1) * 256 ≤ hi) (h' : T * 256 < hi) :
    yMid A c Yv T (hi - T * 256) ⊢ Yst A c Yv hi := by
  rw [Yst_mid A c Yv (T := T) (q := hi - T * 256) (p := hi) (by omega) (by omega) (by omega)]

theorem t5_trip (v0 wgv : Elt F .f32) {nl : ℕ} {hw3 : k0_chk3 (BitVec.ofNat 32 nl)} {e lo n : ℕ} (he : e < 11) (hn : lo + n ≤ 18432) (hn0 : 0 < n)
    (hw7 : k0_chk7 (BitVec.ofNat 32 e) (BitVec.ofNat 32 lo) (BitVec.ofNat 32 n))
    (t5 : Fin (k0_t5_loop (BitVec.ofNat 32 lo) (BitVec.ofNat 32 n)).trips) (q0 q2 q4 : PosShare TreeShare)
    (f0 : Buf (Elt F) (A.arg0.view.loc (c : Thread nD τ))) (f2 : Buf (Elt F) (A.arg2.view.loc (c : Thread nD τ)))
    (f4 : Buf (Elt F) (A.arg4.view.loc (c : Thread nD τ))) (f12 : Buf (Elt F) (A.arg12.view.loc (c : Thread nD τ)))
    (tok : ℕ → Fin 9216) (htok : ∀ i, A.arg0.view.read (Elt F) f0 i = BitVec.ofNat 32 (tok (i 0).val).val)
    (hwg : A.arg2.view.read (Elt F) f2 (ix1 ⟨e, he⟩) = wgv)
    (hY : ∀ (T : ℕ) (r : Fin 1728) (x : Fin 256) (s : Fin 2), lo ≤ 256 * T + x.val → 256 * T + x.val < lo + n →
      k0_pay25 v0 wgv (A.arg12.view.read (Elt F) f12) (aDec (gath (A.arg4.view.read (Elt F) f4) tok T)) (ix2 r x) = yCol Yv T (ix3 s r x))
    (acc : BitVec 32) :
    tInv A c Yv q0 q2 q4 f0 f2 f4 f12 (tRow lo n t5.val)
      ⊢ WP c (k0_t5_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17 v0 (BitVec.ofNat 32 nl) (BitVec.ofNat 32 e) (BitVec.ofNat 32 lo) (BitVec.ofNat 32 n) hw7 (BitVec.ofNat 32 (lo / 256)) t5 acc)
          (fun _ => tInv A c Yv q0 q2 q4 f0 f2 f4 f12 (tRow lo n (t5.val + 1))) := by
  have ht5 := t5_lt hn t5
  unfold tInv
  iintro ⟨H0, H2, H4, H12, H13, H14, HY, Hw⟩
  unfold k0_t5_body
  simp only [k0_part6_eq_skeleton]; unfold k0_part6_skel
  simp only [smemLoad, smemLoadElt, Prog.lift, Prog.bind_op, Prog.bind_ret, Prog.pure_eq_ret, Prog.bind_assoc]
  iapply (ld c _ q2 f2 (View.set_slice_subset _ _)) $$ H2; iintro H2
  rw [show (A.arg2.access (Rect.unit (s := S11) (k0_off28 (BitVec.ofNat 32 e)) S1.size (k0_off28_inb (BitVec.ofNat 32 e) (BitVec.ofNat 32 lo) (BitVec.ofNat 32 n) hw7 t5))).read (Elt F) f2
      (Shape.Idx.first (s := S1) (numel1_S1.symm ▸ Nat.one_pos)) = wgv from by
    refine (read_block A.arg2.view f2 _ (off' := ![e]) (by unfold k0_off28; dsimp only [Scalar.indexCast]; rw [toNat_ofNat (by omega)]) _ (ix1 ⟨e, he⟩) fun a => ?_).trans hwg
    fin_cases a
    rfl]
  iapply (t6_loop A c v0 (BitVec.ofNat 32 e) hn hw7 _ _ t5 q0 q4 f0 f4 tok htok) $$ [H0 H4 H13]
  · isplitl [H0]; · iexact H0
    isplitl [H4]; · iexact H4
    iexact H13
  iintro %acc6 %f13 H0 H4 H13 %h13
  iapply (t7_loop A c v0 (BitVec.ofNat 32 e) _ _ hw7 _ _ t5 f13) $$ [H13 H14]
  · isplitl [H13]; · iexact H13
    iexact H14
  iintro %acc7 %f14 H13 H14 %h14
  iapply (ld c _ _ f12 (View.set_slice_subset _ _)) $$ H12; iintro H12
  iapply (ld c _ _ f14 (View.set_slice_subset _ _)) $$ H14; iintro H14
  rw [show (A.arg12.access (Rect.unit (s := S1728x2560) ![0, 0] S1728x2560.size inb_S1728x2560_S1728x2560_0_0)).read (Elt F) f12 = A.arg12.view.read (Elt F) f12 from read_all _ _ _,
    show (A.arg14.access (Rect.unit (s := S256x2560) ![0, 0] S256x2560.size inb_S256x2560_S256x2560_0_0)).read (Elt F) f14 = A.arg14.view.read (Elt F) f14 from read_all _ _ _,
    h14, h13]
  have hT : lo / 256 + t5.val < 72 := by omega
  have hY' := fun (r : Fin 1728) (x : Fin 256) => hY (lo / 256 + t5.val) r x (sl (lo / 256 + t5.val))
  generalize hTe : lo / 256 + t5.val = T at *
  have c3 := cond3_iff hn t5
  have c4 := cond4_iff hn t5
  have c5 := cond5_iff hn t5
  have c6 := cond6_iff hn t5
  rw [hTe] at c3 c4 c5 c6
  have hr0 : lo ≤ T * 256 → tRow lo n t5.val = T * 256 := fun h => by unfold tRow; split <;> omega
  have hr1 : (T + 1) * 256 ≤ lo + n → tRow lo n (t5.val + 1) = (T + 1) * 256 := fun h => by
    unfold tRow; rw [if_neg (Nat.succ_ne_zero _), show lo / 256 + (t5.val + 1) = T + 1 from by omega]; omega
  have hr2 : ¬ (T + 1) * 256 ≤ lo + n → tRow lo n (t5.val + 1) = lo + n := fun h => by
    unfold tRow; rw [if_neg (Nat.succ_ne_zero _), show lo / 256 + (t5.val + 1) = T + 1 from by omega]; omega
  by_cases h3 : lo ≤ T * 256
  · have h5 : ¬ k0_cond5 (BitVec.ofNat 32 lo) (BitVec.ofNat 32 n) t5 = 1#1 := fun h => c5.mp h h3
    rw [dif_pos (c3.mpr h3), dif_neg h5]
    ihave HY := (Entails.of_eq (show Yst A c Yv (tRow lo n t5.val) = yNew A c Yv T by rw [hr0 h3, Yst_new])) $$ HY
    by_cases h2 : 2 ≤ T
    · rw [dif_pos (c4.mpr h2)]; simp only [Prog.bind_op, Prog.bind_ret]
      iapply (y_wait A c Yv h2 _ _ (by rw [off35_eq hn t5 (by omega), hTe])) $$ [HY Hw]
      · isplitl [HY]; · iexact HY
        iexact Hw
      iintro ⟨HY, Hw⟩
      iapply (y_ld A c Yv _ (by rw [off38_eq hn t5, hTe])) $$ HY
      iintro %v175 HY %_
      iapply (y_st A c Yv (q' := min (lo + n) ((T + 1) * 256) - T * 256) _ (by rw [off38_eq hn t5, hTe])
        (fun r x hx => (pay23_at _ _ _ _ 0 r x).trans (hY' r x (by omega) (by omega)))) $$ HY
      iintro HY
      by_cases h6 : (T + 1) * 256 ≤ lo + n
      · rw [dif_pos (c6.mpr h6), hr1 h6]
        ihave HY := (Entails.of_eq (show yMid A c Yv T (min (lo + n) ((T + 1) * 256) - T * 256) = yMid A c Yv T 256 by rw [show min (lo + n) ((T + 1) * 256) - T * 256 = 256 from by omega])) $$ HY
        iapply (y_enq A c Yv hT _ _ _ (by rw [off40_eq hn t5, hTe]) (by rw [off41_eq hn t5, hTe]) (by rw [off42_eq hn t5, hTe])) $$ HY
        iintro HY
        iapply (rt c)
        isplitl [H0]; · iexact H0
        isplitl [H2]; · iexact H2
        isplitl [H4]; · iexact H4
        isplitl [H12]; · iexact H12
        isplitl [H13]; · iexists _; iexact H13
        isplitl [H14]; · iexists _; iexact H14
        isplitl [HY]; · iexact HY
        iexact Hw
      · rw [dif_neg (fun h => h6 (c6.mp h)), hr2 h6]
        ihave HY := (tail A c Yv (T := T) (hi := lo + n) h6 (by omega)) $$ [HY]
        · rw [show min (lo + n) ((T + 1) * 256) = lo + n from by omega]; iexact HY
        iapply (rt c)
        isplitl [H0]; · iexact H0
        isplitl [H2]; · iexact H2
        isplitl [H4]; · iexact H4
        isplitl [H12]; · iexact H12
        isplitl [H13]; · iexists _; iexact H13
        isplitl [H14]; · iexists _; iexact H14
        isplitl [HY]; · iexact HY
        iexact Hw
    · rw [dif_neg (fun h => h2 (c4.mp h))]; simp only [Prog.bind_op, Prog.bind_ret]
      ihave HY := (y_free A c Yv h2) $$ HY
      iapply (y_ld A c Yv _ (by rw [off38_eq hn t5, hTe])) $$ HY
      iintro %v175 HY %_
      iapply (y_st A c Yv (q' := min (lo + n) ((T + 1) * 256) - T * 256) _ (by rw [off38_eq hn t5, hTe])
        (fun r x hx => (pay23_at _ _ _ _ 0 r x).trans (hY' r x (by omega) (by omega)))) $$ HY
      iintro HY
      by_cases h6 : (T + 1) * 256 ≤ lo + n
      · rw [dif_pos (c6.mpr h6), hr1 h6]
        ihave HY := (Entails.of_eq (show yMid A c Yv T (min (lo + n) ((T + 1) * 256) - T * 256) = yMid A c Yv T 256 by rw [show min (lo + n) ((T + 1) * 256) - T * 256 = 256 from by omega])) $$ HY
        iapply (y_enq A c Yv hT _ _ _ (by rw [off40_eq hn t5, hTe]) (by rw [off41_eq hn t5, hTe]) (by rw [off42_eq hn t5, hTe])) $$ HY
        iintro HY
        iapply (rt c)
        isplitl [H0]; · iexact H0
        isplitl [H2]; · iexact H2
        isplitl [H4]; · iexact H4
        isplitl [H12]; · iexact H12
        isplitl [H13]; · iexists _; iexact H13
        isplitl [H14]; · iexists _; iexact H14
        isplitl [HY]; · iexact HY
        iexact Hw
      · rw [dif_neg (fun h => h6 (c6.mp h)), hr2 h6]
        ihave HY := (tail A c Yv (T := T) (hi := lo + n) h6 (by omega)) $$ [HY]
        · rw [show min (lo + n) ((T + 1) * 256) = lo + n from by omega]; iexact HY
        iapply (rt c)
        isplitl [H0]; · iexact H0
        isplitl [H2]; · iexact H2
        isplitl [H4]; · iexact H4
        isplitl [H12]; · iexact H12
        isplitl [H13]; · iexists _; iexact H13
        isplitl [H14]; · iexists _; iexact H14
        isplitl [HY]; · iexact HY
        iexact Hw
  · have h5 : k0_cond5 (BitVec.ofNat 32 lo) (BitVec.ofNat 32 n) t5 = 1#1 := c5.mpr h3
    rw [dif_neg (fun h => h3 (c3.mp h)), dif_pos h5]
    simp only [Prog.bind_op, Prog.bind_ret]
    have ht0 : t5.val = 0 := by omega
    ihave HY := (Entails.of_eq (show Yst A c Yv (tRow lo n t5.val) = yMid A c Yv T (lo - T * 256) by
      rw [show tRow lo n t5.val = lo from by unfold tRow; rw [if_pos ht0], Yst_mid A c Yv (T := T) (q := lo - T * 256) (p := lo) (by omega) (by omega) (by omega)])) $$ HY
    iapply (y_ld A c Yv _ (by rw [off39_eq hn t5, hTe])) $$ HY
    iintro %v178 HY %hv
    iapply (y_ld A c Yv _ (by rw [off39_eq hn t5, hTe])) $$ HY
    iintro %v182 HY %_
    iapply (y_st A c Yv (q' := min (lo + n) ((T + 1) * 256) - T * 256) _ (by rw [off39_eq hn t5, hTe])
      (fun r x hx => (pay24_at v0 hn t5 _ _ _ _ r x).trans (by
        rw [hTe]
        by_cases hl : lo ≤ T * 256 + x.val
        · rw [if_pos hl]; exact hY' r x (by omega) (by omega)
        · rw [if_neg hl]; exact hv r x (by omega)))) $$ HY
    iintro HY
    by_cases h6 : (T + 1) * 256 ≤ lo + n
    · rw [dif_pos (c6.mpr h6), hr1 h6]
      ihave HY := (Entails.of_eq (show yMid A c Yv T (min (lo + n) ((T + 1) * 256) - T * 256) = yMid A c Yv T 256 by rw [show min (lo + n) ((T + 1) * 256) - T * 256 = 256 from by omega])) $$ HY
      iapply (y_enq A c Yv hT _ _ _ (by rw [off40_eq hn t5, hTe]) (by rw [off41_eq hn t5, hTe]) (by rw [off42_eq hn t5, hTe])) $$ HY
      iintro HY
      iapply (rt c)
      isplitl [H0]; · iexact H0
      isplitl [H2]; · iexact H2
      isplitl [H4]; · iexact H4
      isplitl [H12]; · iexact H12
      isplitl [H13]; · iexists _; iexact H13
      isplitl [H14]; · iexists _; iexact H14
      isplitl [HY]; · iexact HY
      iexact Hw
    · rw [dif_neg (fun h => h6 (c6.mp h)), hr2 h6]
      ihave HY := (tail A c Yv (T := T) (hi := lo + n) h6 (by omega)) $$ [HY]
      · rw [show min (lo + n) ((T + 1) * 256) = lo + n from by omega]; iexact HY
      iapply (rt c)
      isplitl [H0]; · iexact H0
      isplitl [H2]; · iexact H2
      isplitl [H4]; · iexact H4
      isplitl [H12]; · iexact H12
      isplitl [H13]; · iexists _; iexact H13
      isplitl [H14]; · iexists _; iexact H14
      isplitl [HY]; · iexact HY
      iexact Hw

end Cert.Kernel.Hand

end
-- ==== Proof.Weights.lean ====
/- The weight slots: one expert's codes (and its scales) on their way into a slot, and the slot that holds them. -/
module

public import proofs.«01_k».proof.Proof.Slots

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The semaphore of slot `s`, of the codes (`b` zero) or the scales (`b` one). -/
def wSem (A : Args) (s b : Fin 2) : DmaSem sig :=
  ((A.arg16.slice (Rect.unit (s := S2x2) ![s.val, b.val] S1x1.size (inb2 (a0 := s.val) (b0 := 2) (a1 := b.val) (b1 := 2) s.isLt b.isLt))).squeeze S_ squeezes_S1x1_S_).sem

theorem wSem_eq (A : Args) {s b : Fin 2} {o : Fin 2 → ℕ} (inb : ∀ a, o a + S1x1.size a ≤ S2x2.size a) (h : o = ![s.val, b.val]) :
    ((A.arg16.slice (Rect.unit (s := S2x2) o S1x1.size inb)).squeeze S_ squeezes_S1x1_S_).sem = wSem A s b := by
  subst h; rfl

section Slab

variable {sp : Space} {e : EltTy} {n p q : ℕ} (m : Memref sig .tc sp ⟨3, ![n, p, q]⟩ e)

/-- The elements of a stack at one place of its first axis. -/
def slab (x : ℕ) : Finset m.view.ty.Idx := mset m.view fun i => (i 0).val = x
/-- The elements of a stack elsewhere. -/
def offSlab (x : ℕ) : Finset m.view.ty.Idx := mset m.view fun i => (i 0).val ≠ x

theorem slab_sub (x : ℕ) : slab m x ⊆ m.view.set := by rw [mset_true]; exact mset_sub fun _ _ => trivial

theorem slab_sdiff (x : ℕ) : m.view.set \ slab m x = offSlab m x := by
  rw [mset_true]; unfold slab offSlab
  rw [mset_sdiff]; exact mset_congr fun i => ⟨fun h => h.2, fun h => ⟨trivial, h⟩⟩

theorem slab_set {x : ℕ} {o : Fin 3 → ℕ} (inb : ∀ a, o a + (![1, p, q] : Fin 3 → ℕ) a ≤ (![n, p, q] : Fin 3 → ℕ) a) (h : o = ![x, 0, 0])
    (hq : (Rect.unit (s := ⟨3, ![n, p, q]⟩) o ![1, p, q] inb).shape.Squeezes ⟨2, ![p, q]⟩) :
    ((m.slice (Rect.unit (s := ⟨3, ![n, p, q]⟩) o ![1, p, q] inb) (fun _ => rfl)).squeeze ⟨2, ![p, q]⟩ hq).view.set = slab m x := by
  refine (View.set_reshape _ _).trans ?_
  refine (set_block m.view inb h).trans (mset_congr fun i => ?_)
  have h1 : (i 1).val < p := (i 1).isLt
  have h2 : (i 2).val < q := (i 2).isLt
  constructor
  · intro hb
    have := hb 0
    change x ≤ (i 0).val ∧ (i 0).val < x + 1 at this
    omega
  · intro hb a
    fin_cases a
    · show x ≤ (i 0).val ∧ (i 0).val < x + 1; omega
    · show 0 ≤ (i 1).val ∧ (i 1).val < 0 + p; omega
    · show 0 ≤ (i 2).val ∧ (i 2).val < 0 + q; omega

theorem slab_emb {x : ℕ} (hx : x < n) {o : Fin 3 → ℕ} (inb : ∀ a, o a + (![1, p, q] : Fin 3 → ℕ) a ≤ (![n, p, q] : Fin 3 → ℕ) a) (h : o = ![x, 0, 0])
    (hn : (⟨2, ![p, q]⟩ : Shape).numel = (Rect.unit (s := ⟨3, ![n, p, q]⟩) o ![1, p, q] inb).shape.numel) (r : Fin p) (k : Fin q) :
    (Rect.unit (s := ⟨3, ![n, p, q]⟩) o ![1, p, q] inb).emb (Shape.reshapeEquiv hn (ix2 r k)) = ix3 ⟨x, hx⟩ r k := by
  subst h
  rw [show Shape.reshapeEquiv hn (ix2 r k) = (ix3 (0 : Fin 1) r k : (⟨3, ![1, p, q]⟩ : Shape).Idx) from ValueIdx.reshapeEquiv_ix2_1ab hn r k]
  refine funext fun a => Fin.ext ?_
  rw [Rect.emb_apply]
  fin_cases a
  · show x + 1 * 0 = x; omega
  · show 0 + 1 * r.val = r.val; omega
  · show 0 + 1 * k.val = k.val; omega

end Slab

section Copies

variable (A : Args) (c : Dev nD) {e : EltTy} {p q : ℕ} (m : Memref sig .tc .hbm ⟨3, ![11, p, q]⟩ e) (b : Memref sig .tc .vmem ⟨3, ![2, p, q]⟩ e)
  (f : Buf (Elt F) (m.view.loc (c : Thread nD τ)))

/-- What one copy of an expert's slab is worth on its semaphore. -/
def wN : ℕ := sig.dmaCredit .tc (Kind.tc.table .vmem) b.view.buf ⟨2, ![p, q]⟩ e

/-- Slot `s` held with the slab of expert `x`. -/
def wVal (s : Fin 2) (x : Fin 11) : sProp 𝕄 :=
  iprop(∃ g, pts c b (slab b s.val) fullShare g ∗ ⌜∀ r k, b.view.read (Elt F) g (ix3 s r k) = m.view.read (Elt F) f (ix3 x r k)⌝)

def wD (s : Fin 2) (x : Fin 11) : sProp 𝕄 := iprop(wVal c m b f s x ∗ pts c m (slab m x.val) fullShare f)

/-- The slab of expert `x` on its way into slot `s`, beside the rest of the stack. -/
def wFly (y s : Fin 2) (x : Fin 11) : sProp 𝕄 :=
  iprop(Fly c (wSem A s y) (wN b) (wD c m b f s x) ∗ pts c m (offSlab m x.val) fullShare f)

/-- Slot `s` free. -/
def wFree (y s : Fin 2) : sProp 𝕄 := iprop((∃ g, pts c b (slab b s.val) fullShare g) ∗ sem0 (F := F) c (wSem A s y))

theorem w_enq {α : Type} {Q : α → sProp 𝕄} {k : PUnit → Prog (TpuEff nD τ sig (Elt F) Λ₀ .tc) α} (hpq : 0 < (⟨2, ![p, q]⟩ : Shape).numel) (y s : Fin 2) (x : Fin 11)
    {o16 : Fin 2 → ℕ} {o9 : Fin 3 → ℕ} {o5 : Fin 3 → ℕ} (i16 : ∀ a, o16 a + S1x1.size a ≤ S2x2.size a)
    (i9 : ∀ a, o9 a + (![1, p, q] : Fin 3 → ℕ) a ≤ (![2, p, q] : Fin 3 → ℕ) a)
    (i5 : ∀ a, o5 a + (![1, p, q] : Fin 3 → ℕ) a ≤ (![11, p, q] : Fin 3 → ℕ) a) (hq : (⟨3, ![1, p, q]⟩ : Shape).Squeezes ⟨2, ![p, q]⟩) {hsrc hdst hsem}
    (h16 : o16 = ![s.val, y.val]) (h9 : o9 = ![s.val, 0, 0]) (h5 : o5 = ![x.val, 0, 0]) :
    iprop(wFree (F := F) A c b y s ∗ pts c m m.view.set fullShare f) ⊢ iprop((wFly A c m b f y s x -∗ WP c (k PUnit.unit) Q)
      -∗ WP c (.op (.enqueueDma ((m.slice (Rect.unit (s := ⟨3, ![11, p, q]⟩) o5 ![1, p, q] i5) (fun _ => rfl)).squeeze ⟨2, ![p, q]⟩ hq)
          (.here ((b.slice (Rect.unit (s := ⟨3, ![2, p, q]⟩) o9 ![1, p, q] i9) (fun _ => rfl)).squeeze ⟨2, ![p, q]⟩ hq))
          (.dma ((A.arg16.slice (Rect.unit (s := S2x2) o16 S1x1.size i16)).squeeze S_ squeezes_S1x1_S_).sem) hsrc hdst hsem) k) Q) := by
  unfold wFree wFly
  iintro ⟨⟨⟨%g, H9⟩, HS⟩, H5⟩ Hk
  ihave H := (pointsTo_split_subset (slab_sub m x.val)).1 $$ H5
  icases H with ⟨HT, H5⟩
  rw [slab_sdiff]
  iapply (enq c (src := (m.slice (Rect.unit (s := ⟨3, ![11, p, q]⟩) o5 ![1, p, q] i5) (fun _ => rfl)).squeeze ⟨2, ![p, q]⟩ hq)
    (dst := (b.slice (Rect.unit (s := ⟨3, ![2, p, q]⟩) o9 ![1, p, q] i9) (fun _ => rfl)).squeeze ⟨2, ![p, q]⟩ hq)
    (wSem_eq A i16 h16) fullShare f g (slab m x.val) (slab_set m i5 h5 hq) (slab b s.val) (slab_set b i9 h9 hq) (wN b) rfl
    (sig.dmaCredit_pos _ _ _ _ _ hpq)) $$ [HT H9 HS]
  · isplitl [HT]; · iexact HT
    isplitl [H9]; · iexact H9
    iexact HS
  iintro HF
  iapply Hk
  isplitl [HF]
  · iapply (Transfers.Flight_mono (EC (F := F)) (c : Thread nD τ) ?_) $$ HF
    unfold wD wVal
    iintro ⟨H9, H5⟩
    isplitl [H9]
    · iexists _
      isplitl [H9]; · iexact H9
      ipureintro
      intro r kk
      have h1 := View.read_write_univ (v := ((b.slice (Rect.unit (s := ⟨3, ![2, p, q]⟩) o9 ![1, p, q] i9) (fun _ => rfl)).squeeze ⟨2, ![p, q]⟩ hq).view)
        (Val := Elt F) g (((m.slice (Rect.unit (s := ⟨3, ![11, p, q]⟩) o5 ![1, p, q] i5) (fun _ => rfl)).squeeze ⟨2, ![p, q]⟩ hq).view.read (Elt F) f)
      have h2 := congrFun h1 (ix2 r kk)
      have h3 : ((b.slice (Rect.unit (s := ⟨3, ![2, p, q]⟩) o9 ![1, p, q] i9) (fun _ => rfl)).squeeze ⟨2, ![p, q]⟩ hq).view.emb (ix2 r kk) = b.view.emb (ix3 s r kk) :=
        congrArg b.view.emb (slab_emb s.isLt i9 h9 hq.numel_eq r kk)
      have h4 : ((m.slice (Rect.unit (s := ⟨3, ![11, p, q]⟩) o5 ![1, p, q] i5) (fun _ => rfl)).squeeze ⟨2, ![p, q]⟩ hq).view.read (Elt F) f (ix2 r kk) = m.view.read (Elt F) f (ix3 x r kk) :=
        congrArg (m.view.read (Elt F) f) (slab_emb x.isLt i5 h5 hq.numel_eq r kk)
      rw [h4] at h2
      refine Eq.trans ?_ h2
      exact congrArg (b.view.read (Elt F) _) (slab_emb s.isLt i9 h9 hq.numel_eq r kk).symm
    · iexact H5
  · iexact H5

theorem w_wait {α : Type} {Q : α → sProp 𝕄} {k : PUnit → Prog (TpuEff nD τ sig (Elt F) Λ₀ .tc) α} (y s : Fin 2) (x : Fin 11)
    {o16 : Fin 2 → ℕ} {o9 : Fin 3 → ℕ} (i16 : ∀ a, o16 a + S1x1.size a ≤ S2x2.size a)
    (i9 : ∀ a, o9 a + (![1, p, q] : Fin 3 → ℕ) a ≤ (![2, p, q] : Fin 3 → ℕ) a) (hq : (⟨3, ![1, p, q]⟩ : Shape).Squeezes ⟨2, ![p, q]⟩)
    {sp' : Space} {s' : Shape} {e' : EltTy} {srcw : Memref sig .tc sp' s' e'} {hsrc hdst} (h16 : o16 = ![s.val, y.val]) :
    iprop(wFly A c m b f y s x ∗ ow (F := F) c) ⊢ iprop((iprop(wVal c m b f s x ∗ sem0 (F := F) c (wSem A s y) ∗ pts c m m.view.set fullShare f ∗ ow (F := F) c) -∗ WP c (k PUnit.unit) Q)
      -∗ WP c (.op (.waitDma2 ((A.arg16.slice (Rect.unit (s := S2x2) o16 S1x1.size i16)).squeeze S_ squeezes_S1x1_S_).sem srcw
          ((b.slice (Rect.unit (s := ⟨3, ![2, p, q]⟩) o9 ![1, p, q] i9) (fun _ => rfl)).squeeze ⟨2, ![p, q]⟩ hq) hsrc hdst) k) Q) := by
  unfold wFly
  iintro ⟨⟨HF, H5⟩, Hw⟩ Hk
  iapply (wt c (dstw := (b.slice (Rect.unit (s := ⟨3, ![2, p, q]⟩) o9 ![1, p, q] i9) (fun _ => rfl)).squeeze ⟨2, ![p, q]⟩ hq) (wSem_eq A i16 h16) (wN b) rfl (wD c m b f s x)) $$ [HF Hw]
  · isplitl [HF]; · iexact HF
    iexact Hw
  unfold wD
  iintro ⟨⟨HV, H5'⟩, HS, Hw⟩
  iapply Hk
  isplitl [HV]; · iexact HV
  isplitl [HS]; · iexact HS
  isplitl [H5 H5']
  · iapply (pointsTo_split_subset (slab_sub m x.val)).2
    rw [slab_sdiff]
    isplitl [H5']
    · iexact H5'
    · iexact H5
  · iexact Hw

end Copies

end Cert.Kernel.Hand

end
-- ==== Proof.Outer.lean ====
/- One trip of the loop over the experts that have rows: its slabs arrive, the next expert's are asked for, its weights are decoded and its tiles are done. -/
module

public import proofs.«01_k».proof.Proof.Scan
public import proofs.«01_k».proof.Proof.Trip
public import proofs.«01_k».proof.Proof.Weights

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Cert.Proof.Groups

/-- A branch at the head of a program, one side of which does nothing before the common rest. -/
theorem br (c : Dev nD) {p : Prop} [Decidable p] {X α : Type} {a : p → Prog (TpuEff nD τ sig (Elt F) Λ₀ .tc) X} {b : Prog (TpuEff nD τ sig (Elt F) Λ₀ .tc) X}
    {kk : X → Prog (TpuEff nD τ sig (Elt F) Λ₀ .tc) α} {Q : α → sProp 𝕄} {P : sProp 𝕄} (R : sProp 𝕄)
    (h1 : ∀ h, P ⊢ iprop((R -∗ WP c (b >>= kk) Q) -∗ WP c (a h >>= kk) Q)) (h2 : ¬ p → P ⊢ R) :
    P ⊢ iprop((R -∗ WP c (b >>= kk) Q) -∗ WP c ((dite p a (fun _ => b) : Prog (TpuEff nD τ sig (Elt F) Λ₀ .tc) X) >>= kk) Q) := by
  by_cases hp : p
  · rw [dif_pos hp]; exact h1 hp
  · rw [dif_neg hp]
    iintro HP HK
    iapply HK
    iapply (h2 hp) $$ HP

/-- A store over a whole buffer leaves what was stored. -/
theorem read_all_write {sg : RefSig} {κ : Kind} {sp : Space} {s : Shape} {e : EltTy} {Val : EltTy → Type} (v : View sg κ sp s e) (f : v.ty.Contents Val)
    {off : Fin s.rank → ℕ} (inb : ∀ a, off a + s.size a ≤ s.size a) (w : s.Idx → Val e) :
    v.read Val ((v.slice (Rect.unit off s.size inb)).write Val f w Finset.univ) = w := by
  funext i
  have h := View.read_slice_write_emb (v := v) (Val := Val) (Rect.unit off s.size inb) f w (x := i) (Finset.mem_univ _)
  rwa [Rect.emb_unit_full] at h

variable (A : Args) (c : Dev nD)

section Tab

variable {G : ℕ → ℕ} {f8 : Buf (Elt F) (A.arg8.view.loc (c : Thread nD τ))}

/-- What the table's loads give. -/
theorem tab_rd (h8 : tab A c G 11 f8) {x : ℕ} (hx : x < 11) (hp : 0 < G x) {o : Fin 2 → ℕ} (inb : ∀ a, o a + S1x1.size a ≤ S2x11.size a) :
    (o = ![0, cnt G x] → (A.arg8.access (Rect.unit (s := S2x11) o S1x1.size inb)).read (Elt F) f8 (Shape.Idx.first (s := S1x1) (numel1_S1x1.symm ▸ Nat.one_pos)) = BitVec.ofNat 32 x)
    ∧ (o = ![1, cnt G x] → (A.arg8.access (Rect.unit (s := S2x11) o S1x1.size inb)).read (Elt F) f8 (Shape.Idx.first (s := S1x1) (numel1_S1x1.symm ▸ Nat.one_pos)) = BitVec.ofNat 32 (off G x)) := by
  have hc := cnt_le G x
  constructor
  · intro h
    refine (read_block A.arg8.view f8 inb h _ (ix2 ⟨0, by decide⟩ ⟨cnt G x, by omega⟩) fun a => ?_).trans ((h8 x hx hp (ix2 ⟨0, by decide⟩ ⟨cnt G x, by omega⟩) rfl).1 rfl)
    fin_cases a <;> rfl
  · intro h
    refine (read_block A.arg8.view f8 inb h _ (ix2 ⟨1, by decide⟩ ⟨cnt G x, by omega⟩) fun a => ?_).trans ((h8 x hx hp (ix2 ⟨1, by decide⟩ ⟨cnt G x, by omega⟩) rfl).2 rfl)
    fin_cases a <;> rfl

end Tab

section Experts

variable (G : ℕ → ℕ) (nl : ℕ) (f5 : Buf (Elt F) (A.arg5.view.loc (c : Thread nD τ))) (f6 : Buf (Elt F) (A.arg6.view.loc (c : Thread nD τ)))

/-- Slot `s` before trip `j`: the slabs of the trip's expert on their way into it, or the slot and the stacks. -/
def wNext (j : ℕ) (s : Fin 2) : sProp 𝕄 :=
  if j < nl then iprop(∃ x : Fin 11, ⌜0 < G x.val ∧ cnt G x.val = j⌝ ∗ wFly A c A.arg5 A.arg9 f5 0 s x ∗ wFly A c A.arg6 A.arg10 f6 1 s x)
  else iprop(wFree (F := F) A c A.arg9 0 s ∗ wFree (F := F) A c A.arg10 1 s ∗ pts c A.arg5 A.arg5.view.set fullShare f5 ∗ pts c A.arg6 A.arg6.view.set fullShare f6)

def wSt (j : ℕ) : sProp 𝕄 :=
  iprop(wNext A c G nl f5 f6 j (sl j) ∗ wFree (F := F) A c A.arg9 0 (sl (j + 1)) ∗ wFree (F := F) A c A.arg10 1 (sl (j + 1)))

variable (Yv : S1728x18432.Idx → Elt F .bf16) (q0 q1 q2 q4 : PosShare TreeShare)
    (f0 : Buf (Elt F) (A.arg0.view.loc (c : Thread nD τ))) (f1 : Buf (Elt F) (A.arg1.view.loc (c : Thread nD τ))) (f2 : Buf (Elt F) (A.arg2.view.loc (c : Thread nD τ)))
    (f4 : Buf (Elt F) (A.arg4.view.loc (c : Thread nD τ))) (f8 : Buf (Elt F) (A.arg8.view.loc (c : Thread nD τ)))

/-- Before trip `j`. -/
def oInv (j : ℕ) : sProp 𝕄 :=
  iprop(pts c A.arg1 A.arg1.view.set q1 f1 ∗ pts c A.arg8 A.arg8.view.set fullShare f8 ∗ wSt A c G nl f5 f6 j
    ∗ (∃ f, pts c A.arg11 A.arg11.view.set fullShare f) ∗ (∃ f, pts c A.arg12 A.arg12.view.set fullShare f)
    ∗ pts c A.arg0 A.arg0.view.set q0 f0 ∗ pts c A.arg2 A.arg2.view.set q2 f2 ∗ pts c A.arg4 A.arg4.view.set q4 f4
    ∗ (∃ f, pts c A.arg13 A.arg13.view.set fullShare f) ∗ (∃ f, pts c A.arg14 A.arg14.view.set fullShare f)
    ∗ (∃ k, ⌜k ≤ 11 ∧ cnt G k = j⌝ ∗ Yst A c Yv (off G k)) ∗ ow (F := F) c)

/-- What the kernel leaves in the rows of expert `x`. -/
def yRows (v0 : Elt F .f32) (tok : ℕ → Fin 9216) : Prop :=
  ∀ (x : Fin 11) (T : ℕ) (r : Fin 1728) (m : Fin 256) (s : Fin 2), off G x.val ≤ 256 * T + m.val → 256 * T + m.val < off G x.val + G x.val →
    k0_pay25 v0 (A.arg2.view.read (Elt F) f2 (ix1 x))
      (wDec (fun i => A.arg5.view.read (Elt F) f5 (ix3 x (i 0) (i 1))) (k0_pay44 (fun i => A.arg6.view.read (Elt F) f6 (ix3 x (i 1) (i 2)))))
      (aDec (gath (A.arg4.view.read (Elt F) f4) tok T)) (ix2 r m) = yCol Yv T (ix3 s r m)

theorem t2_trip (v0 : Elt F .f32) {nl : ℕ} (hnl : nl = cnt G 11) {hw3 : k0_chk3 (BitVec.ofNat 32 nl)} (hG : ∀ k, k < 11 → off G k + G k ≤ 18432)
    (h1 : ∀ i : S11.Idx, A.arg1.view.read (Elt F) f1 i = BitVec.ofNat 32 (G (i 0).val)) (h8 : tab A c G 11 f8)
    (tok : ℕ → Fin 9216) (htok : ∀ i, A.arg0.view.read (Elt F) f0 i = BitVec.ofNat 32 (tok (i 0).val).val)
    (hY : yRows A c G f5 f6 Yv f2 f4 v0 tok) (t : Fin (k0_t2_loop (BitVec.ofNat 32 nl)).trips) (acc : BitVec 32) :
    oInv A c G nl f5 f6 Yv q0 q1 q2 q4 f0 f1 f2 f4 f8 t.val
      ⊢ WP c (k0_t2_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17 v0 (BitVec.ofNat 32 nl) hw3 t acc)
          (fun _ => oInv A c G nl f5 f6 Yv q0 q1 q2 q4 f0 f1 f2 f4 f8 (t.val + 1)) := by
  have hn11 : nl ≤ 11 := hnl ▸ cnt_le G 11
  have ht : t.val < nl := t2_lt hn11 t
  unfold oInv wSt
  iintro ⟨H1, H8, ⟨HN, HF9, HF10⟩, ⟨%g11, H11⟩, ⟨%g12, H12⟩, H0, H2, H4, H13, H14, ⟨%k, %hk, HY⟩, Hw⟩
  ihave HN := (Entails.of_eq (show wNext A c G nl f5 f6 t.val (sl t.val) = _ by unfold wNext; rw [if_pos ht])) $$ HN
  icases HN with ⟨%x, %hx, HW5, HW6⟩
  obtain ⟨hpx, hcx⟩ := hx
  have hoff : off G k = off G x.val := off_eq G (hk.2.trans hcx.symm)
  have hxG := hG x.val x.isLt
  unfold k0_t2_body
  simp only [k0_part11_eq_skeleton, k0_part12_eq_skeleton]; unfold k0_part11_skel k0_part12_skel
  simp only [smemLoad, smemLoadElt, Prog.lift, Prog.bind_op, Prog.bind_ret, Prog.pure_eq_ret, Prog.bind_assoc]
  iapply (ld c _ _ f8 (View.set_slice_subset _ _)) $$ H8; iintro H8
  rw [(tab_rd A c h8 x.isLt hpx (k0_off6_inb (BitVec.ofNat 32 nl) hw3 t)).1 (by rw [off6_eq hn11 t, hcx])]
  iapply (asm c (chk4_of x.isLt))
  iapply (ld c _ _ f8 (View.set_slice_subset _ _)) $$ H8; iintro H8
  rw [(tab_rd A c h8 x.isLt hpx (k0_off7_inb (BitVec.ofNat 32 nl) hw3 t)).2 (by rw [off7_eq hn11 t, hcx])]
  iapply (ld c _ q1 f1 (View.set_slice_subset _ _)) $$ H1; iintro H1
  rw [show (A.arg1.access (Rect.unit (s := S11) (k0_off8 (BitVec.ofNat 32 x.val)) S1.size (k0_off8_inb (BitVec.ofNat 32 x.val) (chk4_of x.isLt)))).read (Elt F) f1
      (Shape.Idx.first (s := S1) (numel1_S1.symm ▸ Nat.one_pos)) = BitVec.ofNat 32 (G x.val) from by
    refine (read_block A.arg1.view f1 _ (off' := ![x.val]) (by unfold k0_off8; dsimp only [Scalar.indexCast]; rw [toNat_ofNat (by omega)]) _ (ix1 x) fun a => ?_).trans (h1 _)
    fin_cases a
    rfl]
  iapply (asm c (chk7_of x.isLt hxG))
  iapply (ld c _ _ f8 (View.set_slice_subset _ _)) $$ H8; iintro H8
  rw [(tab_rd A c h8 x.isLt hpx (k0_off9_inb (BitVec.ofNat 32 nl) hw3 t)).1 (by rw [off9_eq hn11 t, hcx])]
  iapply (asm c (chk5_of x.isLt))
  iapply (w_wait A c A.arg5 A.arg9 f5 0 (sl t.val) x _ _ _ (off10_eq hn11 t)) $$ [HW5 Hw]
  · isplitl [HW5]; · iexact HW5
    iexact Hw
  iintro ⟨HV9, HS9, H5, Hw⟩
  iapply (w_wait A c A.arg6 A.arg10 f6 1 (sl t.val) x _ _ _ (off13_eq hn11 t)) $$ [HW6 Hw]
  · isplitl [HW6]; · iexact HW6
    iexact Hw
  iintro ⟨HV10, HS10, H6, Hw⟩
  iapply (br c (P := iprop(pts c A.arg8 A.arg8.view.set fullShare f8 ∗ (wFree (F := F) A c A.arg9 0 (sl (t.val + 1)) ∗ pts c A.arg5 A.arg5.view.set fullShare f5)
      ∗ wFree (F := F) A c A.arg10 1 (sl (t.val + 1)) ∗ pts c A.arg6 A.arg6.view.set fullShare f6))
    (iprop(pts c A.arg8 A.arg8.view.set fullShare f8 ∗ wNext A c G nl f5 f6 (t.val + 1) (sl (t.val + 1)))) ?_ ?_) $$ [H8 HF9 HF10 H5 H6]
  · intro h
    have hlt := (cond2_iff hn11 t).mp h
    obtain ⟨y, hy, hpy, hcy⟩ := exists_of_lt G (j := t.val + 1) (k := 11) (hnl ▸ hlt)
    iintro ⟨H8, H9, H10⟩ HK
    simp only [Prog.bind_op, Prog.bind_ret]
    iapply (ld c _ _ f8 (View.set_slice_subset _ _)) $$ H8; iintro H8
    rw [(tab_rd A c h8 hy hpy (k0_off16_inb (BitVec.ofNat 32 nl) hw3 t h)).1 (by rw [off16_eq hn11 t, hcy])]
    iapply (asm c (chk6_of t hy))
    iapply (w_enq A c A.arg5 A.arg9 f5 (by decide) 0 (sl (t.val + 1)) ⟨y, hy⟩ _ _ _ _ (off17_eq hn11 t) (off18_eq hn11 t)
      (by unfold k0_off19; dsimp only; rw [toNat_ofNat (by omega)])) $$ H9
    iintro H9
    iapply (w_enq A c A.arg6 A.arg10 f6 (by decide) 1 (sl (t.val + 1)) ⟨y, hy⟩ _ _ _ _ (off20_eq hn11 t) (off21_eq hn11 t)
      (by unfold k0_off22; dsimp only; rw [toNat_ofNat (by omega)])) $$ H10
    iintro H10
    iapply HK
    isplitl [H8]; · iexact H8
    unfold wNext
    rw [if_pos hlt]
    iexists ⟨y, hy⟩
    isplitr [H9 H10]; · ipureintro; exact ⟨hpy, hcy⟩
    isplitl [H9]; · iexact H9
    iexact H10
  · intro h
    have hlt : ¬ t.val + 1 < nl := fun h' => h ((cond2_iff hn11 t).mpr h')
    iintro ⟨H8, ⟨H9, H5⟩, H10, H6⟩
    isplitl [H8]; · iexact H8
    unfold wNext
    rw [if_neg hlt]
    isplitl [H9]; · iexact H9
    isplitl [H10]; · iexact H10
    isplitl [H5]; · iexact H5
    iexact H6
  · isplitl [H8]; · iexact H8
    isplitl [HF9 H5]
    · isplitl [HF9]; · iexact HF9
      iexact H5
    isplitl [HF10]; · iexact HF10
    iexact H6
  iintro ⟨H8, HN⟩
  ihave HV9 := (Entails.of_eq (show wVal c A.arg5 A.arg9 f5 (sl t.val) x = _ from rfl)) $$ HV9
  unfold wVal
  icases HV9 with ⟨%g9, H9, %hg9⟩
  icases HV10 with ⟨%g10, H10, %hg10⟩
  simp only [Prog.bind_op, Prog.bind_ret, Prog.bind_assoc]
  iapply (ld c _ _ g10 (blk_sub c _ (off23_eq hn11 t) _ (by
    intro i hi
    refine emb_mem_mset.2 ?_
    have := hi 0
    change t.val % 2 ≤ (i 0).val ∧ (i 0).val < t.val % 2 + 1 at this
    show (i 0).val = t.val % 2
    omega))) $$ H10
  iintro H10
  rw [show (A.arg10.access (Rect.unit (s := S2x160x1728) (k0_off23 (BitVec.ofNat 32 nl) t) S1x160x1728.size (k0_off23_inb (BitVec.ofNat 32 nl) hw3 t))).read (Elt F) g10
      = (fun i => A.arg6.view.read (Elt F) f6 (ix3 x (i 1) (i 2))) from funext fun i => by
    refine (read_block A.arg10.view g10 _ (off23_eq hn11 t) i (ix3 (sl t.val) (i 1) (i 2)) fun a => ?_).trans (hg10 (i 1) (i 2))
    have h0 : (i 0).val < 1 := (i 0).isLt
    fin_cases a
    · show t.val % 2 = t.val % 2 + (i 0).val; omega
    · show (i 1).val = 0 + (i 1).val; omega
    · show (i 2).val = 0 + (i 2).val; omega]
  iapply (ld c _ _ g11 (View.set_slice_subset _ _)) $$ H11; iintro H11
  iapply (st c _ g11 (View.set_slice_subset _ _)) $$ H11; iintro H11
  iapply (t3_loop A c hn11 hw3 t _ _ _ _ _ fullShare (slab A.arg9 (sl t.val).val) g9 _ (fun i => A.arg5.view.read (Elt F) f5 (ix3 x (i 0) (i 1))) (fun i hi => emb_mem_mset.2 hi) hg9) $$ [H9 H11 H12]
  · isplitl [H9]; · iexact H9
    isplitl [H11]; · iexact H11
    iexists g12; iexact H12
  iintro %acc3 %f12 H9 H11 H12 %h12
  rw [read_all_write] at h12
  rw [div256 (a := off G x.val) (by omega)]
  iapply (lpB c (fun p _ => tInv A c Yv q0 q2 q4 f0 f2 f4 f12 (tRow (off G x.val) (G x.val) p))
    (fun t5 acc => t5_trip (hw3 := hw3) A c Yv v0 (A.arg2.view.read (Elt F) f2 (ix1 x)) x.isLt hxG hpx (chk7_of x.isLt hxG) t5 q0 q2 q4 f0 f2 f4 f12 tok htok rfl
      (fun T r m s h h' => by rw [h12]; exact hY x T r m s h h') acc)) $$ [H0 H2 H4 H12 H13 H14 HY Hw]
  · unfold tInv
    isplitl [H0]; · iexact H0
    isplitl [H2]; · iexact H2
    isplitl [H4]; · iexact H4
    isplitl [H12]; · iexact H12
    isplitl [H13]; · iexact H13
    isplitl [H14]; · iexact H14
    isplitl [HY]
    · rw [show tRow (off G x.val) (G x.val) 0 = off G k from by unfold tRow; rw [if_pos rfl, hoff]]; iexact HY
    iexact Hw
  iintro %acc5 HT
  iapply (lpB c (fun p _ => tInv A c Yv q0 q2 q4 f0 f2 f4 f12 (off G (x.val + 1))) (fun t8 acc => (t8_false t8).elim)) $$ [HT]
  · rw [show off G (x.val + 1) = tRow (off G x.val) (G x.val) (k0_t5_loop (BitVec.ofNat 32 (off G x.val)) (BitVec.ofNat 32 (G x.val))).trips from by
      rw [t5_trips hxG, off]; unfold tRow; rw [if_neg (by omega)]; omega]
    iexact HT
  iintro %acc8 HT
  unfold tInv
  icases HT with ⟨H0, H2, H4, H12, H13, H14, HY, Hw⟩
  iapply (rt c)
  isplitl [H1]; · iexact H1
  isplitl [H8]; · iexact H8
  isplitl [HN H9 HS9 H10 HS10]
  · isplitl [HN]; · iexact HN
    rw [sl_add2]
    unfold wFree
    isplitl [H9 HS9]
    · isplitl [H9]
      · iexists _; iexact H9
      iexact HS9
    isplitl [H10]
    · iexists _; iexact H10
    iexact HS10
  isplitl [H11]; · iexists _; iexact H11
  isplitl [H12]; · iexists _; iexact H12
  isplitl [H0]; · iexact H0
  isplitl [H2]; · iexact H2
  isplitl [H4]; · iexact H4
  isplitl [H13]; · iexact H13
  isplitl [H14]; · iexact H14
  isplitl [HY]
  · iexists (x.val + 1)
    isplitr [HY]
    · ipureintro
      have := x.isLt
      exact ⟨by omega, by rw [cnt, if_pos hpx, hcx]⟩
    iexact HY
  iexact Hw

end Experts

end Cert.Kernel.Hand

end
-- ==== Proof.Body.lean ====
/- The kernel's whole run: the scan, the loop over the experts, and the last two tiles' copies. -/
module

public import proofs.«01_k».proof.Proof.Outer

@[expose] public section

set_option maxHeartbeats 1000000

noncomputable section

namespace Cert.Kernel.Hand

open Cert.Kernel Cert.Kernel.Gen
open Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Cert.Proof.Groups

variable (A : Args) (c : Dev nD)

section Two

variable {e : EltTy} {p q : ℕ} (b : Memref sig .tc .vmem ⟨3, ![2, p, q]⟩ e)

theorem two_sdiff : b.view.set \ slab b 0 = slab b 1 := by
  rw [slab_sdiff]
  exact mset_congr fun i => by
    have h : (i 0).val < 2 := (i 0).isLt
    show (i 0).val ≠ 0 ↔ (i 0).val = 1
    omega

/-- A two-slot buffer is its two slots. -/
theorem two_split : iprop(∃ f, pts (F := F) c b b.view.set fullShare f) ⊢ iprop((∃ f, pts (F := F) c b (slab b 0) fullShare f) ∗ ∃ f, pts (F := F) c b (slab b 1) fullShare f) := by
  iintro ⟨%f, H⟩
  ihave H := (pointsTo_split_subset (slab_sub b 0)).1 $$ H
  rw [two_sdiff]
  icases H with ⟨H0, H1⟩
  isplitl [H0]; · iexists f; iexact H0
  iexists f; iexact H1

theorem two_join : iprop((∃ f, pts (F := F) c b (slab b 0) fullShare f) ∗ ∃ f, pts (F := F) c b (slab b 1) fullShare f) ⊢ iprop(∃ f, pts (F := F) c b b.view.set fullShare f) := by
  iintro ⟨⟨%f, H0⟩, %g, H1⟩
  have hj := pointsTo_join_subset (Ix := Unit) (Name := ℕ) (U := Pipeline.UD sig nD τ) (Lvl := ℕ) (Val := Elt F) (ℓ := b.view.loc (c : Thread nD τ)) (q := fullShare) (g := f) (f := g) (slab_sub b 0)
  rw [two_sdiff] at hj
  iexists _
  iapply hj
  isplitl [H0]; · iexact H0
  iexact H1

/-- The two slots free, in the order of the trips. -/
theorem two_free (y : Fin 2) (j : ℕ) : iprop(wFree (F := F) A c b y (sl j) ∗ wFree (F := F) A c b y (sl (j + 1))) ⊢ iprop(wFree (F := F) A c b y 0 ∗ wFree (F := F) A c b y 1) := by
  by_cases h : j % 2 = 0
  · rw [show sl j = 0 from Fin.ext h, show sl (j + 1) = 1 from Fin.ext (by show (j + 1) % 2 = 1; omega)]
  · rw [show sl j = 1 from Fin.ext (by show j % 2 = 1; omega), show sl (j + 1) = 0 from Fin.ext (by show (j + 1) % 2 = 0; omega)]
    iintro ⟨H0, H1⟩
    isplitl [H1]; · iexact H1
    iexact H0

end Two

variable (Yv : S1728x18432.Idx → Elt F .bf16)

theorem tile_sdiffW : A.arg7.view.set \ tileS A c 71 = ySet A c 71 72 := by
  unfold tileS ySet
  rw [mset_true, mset_sdiff]
  exact mset_congr fun i => by
    have h : (i 1).val < 18432 := (i 1).isLt
    exact ⟨fun h' => by have := h'.2; omega, fun h' => ⟨trivial, by omega⟩⟩

/-- The last copy is waited for: the result is whole. -/
theorem y_last {α : Type} {Q : α → sProp 𝕄} {k : PUnit → Prog (TpuEff nD τ sig (Elt F) Λ₀ .tc) α}
    {o17 : Fin 1 → ℕ} {o7 : Fin 2 → ℕ} {sp' : Space} {s' : Shape} {e' : EltTy} {srcw : Memref sig .tc sp' s' e'}
    (i17 : ∀ a, o17 a + S1.size a ≤ S2.size a) (i7 : ∀ a, o7 a + S1728x256.size a ≤ S1728x18432.size a) {hsrc hdst} (h17 : o17 = ![1]) :
    iprop(yMid A c Yv 72 0 ∗ ow (F := F) c) ⊢ iprop((iprop((∃ f, pts c A.arg7 A.arg7.view.set fullShare f ∗ ⌜A.arg7.view.read (Elt F) f = Yv⌝)
          ∗ (∃ f, pts (F := F) c A.arg15 A.arg15.view.set fullShare f) ∗ sem0 (F := F) c (ySem A 0) ∗ sem0 (F := F) c (ySem A 1) ∗ ow (F := F) c) -∗ WP c (k PUnit.unit) Q)
      -∗ WP c (.op (.waitDma2 ((A.arg17.slice (Rect.unit (s := S2) o17 S1.size i17)).squeeze S_ squeezes_S1_S_).sem srcw
          (A.arg7.slice (Rect.unit (s := S1728x18432) o7 S1728x256.size i7) (fun _ => rfl)) hsrc hdst) k) Q) := by
  unfold yMid yHbm yPart
  rw [show prv 1 72 = some 71 from rfl, show sl (72 + 1) = (1 : Fin 2) from rfl, show sl 72 = (0 : Fin 2) from rfl]
  iintro ⟨⟨⟨%f, H7, %hf⟩, ⟨⟨%g0, H15, %_⟩, HS0⟩, HO⟩, Hw⟩ Hk
  iapply (wt c (dstw := A.arg7.slice (Rect.unit (s := S1728x18432) o7 S1728x256.size i7) (fun _ => rfl)) (ySem_eq A (T := 1) i17 h17) (yN A) rfl (yD A c Yv 1 71)) $$ [HO Hw]
  · isplitl [HO]
    · unfold ySlot; iexact HO
    · iexact Hw
  unfold yD
  iintro ⟨⟨⟨%f', H7', %hf'⟩, ⟨%g, H15'⟩⟩, HS, Hw⟩
  iapply Hk
  isplitl [H7 H7']
  · have hj := pointsTo_join_subset (Ix := Unit) (Name := ℕ) (U := Pipeline.UD sig nD τ) (Lvl := ℕ) (Val := Elt F) (ℓ := A.arg7.view.loc (c : Thread nD τ)) (q := fullShare) (g := f') (f := f)
      (show tileS A c 71 ⊆ A.arg7.view.set by rw [mset_true]; exact mset_sub fun _ _ => trivial)
    rw [tile_sdiffW] at hj
    iexists _
    isplitl [H7 H7']
    · iapply hj; isplitl [H7']
      · iexact H7'
      · iexact H7
    · ipureintro
      funext i
      have hi : (i 1).val < 18432 := (i 1).isLt
      by_cases h : 256 * 71 ≤ (i 1).val ∧ (i 1).val < 256 * (71 + 1)
      · exact ((read_piecewise (v := A.arg7.view) (P := fun i => 256 * 71 ≤ (i 1).val ∧ (i 1).val < 256 * (71 + 1)) f' f i).1 h).trans (hf' i h)
      · exact ((read_piecewise (v := A.arg7.view) (P := fun i => 256 * 71 ≤ (i 1).val ∧ (i 1).val < 256 * (71 + 1)) f' f i).2 h).trans (hf i (by omega))
  isplitl [H15 H15']
  · iapply (two_join c A.arg15)
    isplitl [H15]
    · iexists g0; iexact H15
    · iexists g; iexact H15'
  isplitl [HS0]; · iexact HS0
  isplitl [HS]; · iexact HS
  iexact Hw

/-- The kernel's scratch. -/
def scr : sProp 𝕄 :=
  iprop((∃ f, pts (F := F) c A.arg8 A.arg8.view.set fullShare f) ∗ (∃ f, pts (F := F) c A.arg9 A.arg9.view.set fullShare f) ∗ (∃ f, pts (F := F) c A.arg10 A.arg10.view.set fullShare f)
    ∗ (∃ f, pts (F := F) c A.arg11 A.arg11.view.set fullShare f) ∗ (∃ f, pts (F := F) c A.arg12 A.arg12.view.set fullShare f)
    ∗ (∃ f, pts (F := F) c A.arg13 A.arg13.view.set fullShare f) ∗ (∃ f, pts (F := F) c A.arg14 A.arg14.view.set fullShare f) ∗ (∃ f, pts (F := F) c A.arg15 A.arg15.view.set fullShare f)
    ∗ sem0 (F := F) c (wSem A 0 0) ∗ sem0 (F := F) c (wSem A 0 1) ∗ sem0 (F := F) c (wSem A 1 0) ∗ sem0 (F := F) c (wSem A 1 1)
    ∗ sem0 (F := F) c (ySem A 0) ∗ sem0 (F := F) c (ySem A 1))

theorem body_run (G : ℕ → ℕ) (hG : off G 11 = 18432) (q0 q1 q2 q3 q4 : PosShare TreeShare)
    (f0 : Buf (Elt F) (A.arg0.view.loc (c : Thread nD τ))) (f1 : Buf (Elt F) (A.arg1.view.loc (c : Thread nD τ))) (f2 : Buf (Elt F) (A.arg2.view.loc (c : Thread nD τ)))
    (f3 : Buf (Elt F) (A.arg3.view.loc (c : Thread nD τ))) (f4 : Buf (Elt F) (A.arg4.view.loc (c : Thread nD τ)))
    (f5 : Buf (Elt F) (A.arg5.view.loc (c : Thread nD τ))) (f6 : Buf (Elt F) (A.arg6.view.loc (c : Thread nD τ)))
    (h1 : ∀ i : S11.Idx, A.arg1.view.read (Elt F) f1 i = BitVec.ofNat 32 (G (i 0).val))
    (tok : ℕ → Fin 9216) (htok : ∀ i, A.arg0.view.read (Elt F) f0 i = BitVec.ofNat 32 (tok (i 0).val).val)
    (hY : yRows A c G f5 f6 Yv f2 f4 (A.arg3.view.read (Elt F) f3 (ix1 0)) tok) :
    iprop(pts c A.arg0 A.arg0.view.set q0 f0 ∗ pts c A.arg1 A.arg1.view.set q1 f1 ∗ pts c A.arg2 A.arg2.view.set q2 f2 ∗ pts c A.arg3 A.arg3.view.set q3 f3
        ∗ pts c A.arg4 A.arg4.view.set q4 f4 ∗ pts c A.arg5 A.arg5.view.set fullShare f5 ∗ pts c A.arg6 A.arg6.view.set fullShare f6
        ∗ (∃ f, pts (F := F) c A.arg7 A.arg7.view.set fullShare f) ∗ scr A c ∗ ow (F := F) c)
      ⊢ WP c (cc0_moe (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.arg17)
        (fun _ => iprop(pts c A.arg0 A.arg0.view.set q0 f0 ∗ pts c A.arg1 A.arg1.view.set q1 f1 ∗ pts c A.arg2 A.arg2.view.set q2 f2 ∗ pts c A.arg3 A.arg3.view.set q3 f3
        ∗ pts c A.arg4 A.arg4.view.set q4 f4 ∗ pts c A.arg5 A.arg5.view.set fullShare f5 ∗ pts c A.arg6 A.arg6.view.set fullShare f6
        ∗ (∃ f, pts c A.arg7 A.arg7.view.set fullShare f ∗ ⌜A.arg7.view.read (Elt F) f = Yv⌝) ∗ scr A c ∗ ow (F := F) c)) := by
  have hGk : ∀ k, k < 11 → off G k + G k ≤ 18432 := fun k hk => (off_le G hk).trans hG.le
  have hn11 : cnt G 11 ≤ 11 := cnt_le G 11
  have hpos : 0 < cnt G 11 := by
    rcases Nat.eq_zero_or_pos (cnt G 11) with h | h
    · have := off_eq G (k := 11) (k' := 0) h
      rw [hG] at this
      exact absurd this (Nat.succ_ne_zero 18431)
    · exact h
  obtain ⟨x, hx, hpx, hcx⟩ := exists_of_lt G hpos
  unfold scr
  iintro ⟨H0, H1, H2, H3, H4, H5, H6, ⟨%f7, H7⟩, ⟨H8, H9, H10, H11, H12, H13, H14, H15, HS00, HS01, HS10, HS11, HT0, HT1⟩, Hw⟩
  simp only [cc0_moe_eq_skeleton]; unfold cc0_moe_skel
  simp only [k0_part25_eq_skeleton]; unfold k0_part25_skel
  simp only [smemLoad, smemLoadElt, Prog.lift, Prog.bind_op, Prog.bind_ret, Prog.pure_eq_ret, Prog.bind_assoc]
  iapply (ld c _ q3 f3 (View.set_slice_subset _ _)) $$ H3; iintro H3
  rw [show (A.arg3.access (Rect.unit (s := S1) ![0] S1.size inb_S1_S1_0)).read (Elt F) f3 (Shape.Idx.first (s := S1) (numel1_S1.symm ▸ Nat.one_pos)) = A.arg3.view.read (Elt F) f3 (ix1 0) from by
    refine read_block A.arg3.view f3 _ rfl _ (ix1 0) fun a => ?_
    fin_cases a
    rfl]
  iapply (t1_loop A c G hGk q1 f1 h1) $$ [H1 H8]
  · isplitl [H1]; · iexact H1
    iexact H8
  iintro %f8 H1 H8 %h8
  simp only [Prog.bind_op, Prog.bind_ret]
  iapply (asm c (chk3_of hn11))
  iapply (ld c _ _ f8 (View.set_slice_subset _ _)) $$ H8; iintro H8
  rw [(tab_rd A c h8 hx hpx inb_S2x11_S1x1_0_0).1 (by rw [hcx])]
  iapply (asm c (chk2_of hx))
  ihave H9 := (two_split c A.arg9) $$ H9
  icases H9 with ⟨H90, H91⟩
  ihave H10 := (two_split c A.arg10) $$ H10
  icases H10 with ⟨H100, H101⟩
  iapply (w_enq A c A.arg5 A.arg9 f5 (by decide) 0 0 ⟨x, hx⟩ _ _ _ _ rfl rfl (by unfold k0_off4; dsimp only; rw [toNat_ofNat (by omega)])) $$ [H90 HS00 H5]
  · unfold wFree
    isplitl [H90 HS00]
    · isplitl [H90]; · iexact H90
      iexact HS00
    iexact H5
  iintro H5
  iapply (w_enq A c A.arg6 A.arg10 f6 (by decide) 1 0 ⟨x, hx⟩ _ _ _ _ rfl rfl (by unfold k0_off5; dsimp only; rw [toNat_ofNat (by omega)])) $$ [H100 HS01 H6]
  · unfold wFree
    isplitl [H100 HS01]
    · isplitl [H100]; · iexact H100
      iexact HS01
    iexact H6
  iintro H6
  iapply (lpB c (fun j _ => oInv A c G (cnt G 11) f5 f6 Yv q0 q1 q2 q4 f0 f1 f2 f4 f8 j)
    (fun t acc => t2_trip (hw3 := chk3_of hn11) A c G f5 f6 Yv q0 q1 q2 q4 f0 f1 f2 f4 f8 _ rfl hGk h1 h8 tok htok hY t acc)) $$ [H0 H1 H2 H4 H5 H6 H7 H8 H91 H101 HS10 HS11 H11 H12 H13 H14 H15 HT0 HT1 Hw]
  · unfold oInv wSt wNext
    rw [if_pos hpos]
    isplitl [H1]; · iexact H1
    isplitl [H8]; · iexact H8
    isplitl [H5 H6 H91 H101 HS10 HS11]
    · isplitl [H5 H6]
      · iexists ⟨x, hx⟩
        isplitr [H5 H6]; · ipureintro; exact ⟨hpx, hcx⟩
        isplitl [H5]; · iexact H5
        iexact H6
      unfold wFree
      isplitl [H91 HS10]
      · isplitl [H91]; · iexact H91
        iexact HS10
      isplitl [H101]; · iexact H101
      iexact HS11
    isplitl [H11]; · iexact H11
    isplitl [H12]; · iexact H12
    isplitl [H0]; · iexact H0
    isplitl [H2]; · iexact H2
    isplitl [H4]; · iexact H4
    isplitl [H13]; · iexact H13
    isplitl [H14]; · iexact H14
    isplitr [Hw]
    · iexists 0
      isplitr [H7 H15 HT0 HT1]; · ipureintro; exact ⟨by omega, rfl⟩
      rw [show off G 0 = 0 * 256 from rfl, Yst_new]
      unfold yNew yHbm ySlot
      rw [show prv 2 0 = none from rfl, show prv 1 0 = none from rfl]
      isplitl [H7]
      · iexists f7
        isplitl [H7]
        · rw [show ySet A c (0 - 2) 0 = A.arg7.view.set from by
            rw [mset_true]; exact mset_congr fun i => ⟨fun _ => trivial, fun _ => .inr (Nat.zero_le _)⟩]
          iexact H7
        · ipureintro; exact fun i h => absurd h (Nat.not_lt_zero _)
      ihave H15 := (two_split c A.arg15) $$ H15
      icases H15 with ⟨H150, H151⟩
      isplitl [H150 HT0]
      · isplitl [H150]; · iexact H150
        iexact HT0
      isplitl [H151]; · iexact H151
      iexact HT1
    iexact Hw
  iintro %acc2 HI
  iapply (lpB c (fun _ _ => oInv A c G (cnt G 11) f5 f6 Yv q0 q1 q2 q4 f0 f1 f2 f4 f8 (cnt G 11)) (fun t acc => (t11_false t).elim)) $$ [HI]
  · rw [t2_trips hn11]; iexact HI
  iintro %acc11 HI
  unfold oInv wSt wNext
  rw [if_neg (Nat.lt_irrefl _)]
  icases HI with ⟨H1, H8, ⟨⟨HF9, HF10, H5, H6⟩, HF9', HF10'⟩, H11, H12, H0, H2, H4, H13, H14, ⟨%k, %hk, HY⟩, Hw⟩
  ihave HY := (Entails.of_eq (show Yst A c Yv (off G k) = yNew A c Yv 72 by rw [off_eq G hk.2, hG, show 18432 = 72 * 256 from rfl, Yst_new])) $$ HY
  iapply (y_wait A c Yv (T := 72) (by decide) _ _ rfl) $$ [HY Hw]
  · isplitl [HY]; · iexact HY
    iexact Hw
  iintro ⟨HY, Hw⟩
  iapply (y_last A c Yv _ _ rfl) $$ [HY Hw]
  · isplitl [HY]; · iexact HY
    iexact Hw
  iintro ⟨H7, H15, HT0, HT1, Hw⟩
  ihave HF9 := (two_free A c A.arg9 0 (cnt G 11)) $$ [HF9 HF9']
  · isplitl [HF9]; · iexact HF9
    iexact HF9'
  ihave HF10 := (two_free A c A.arg10 1 (cnt G 11)) $$ [HF10 HF10']
  · isplitl [HF10]; · iexact HF10
    iexact HF10'
  unfold wFree
  icases HF9 with ⟨⟨H90, HS00⟩, H91, HS10⟩
  icases HF10 with ⟨⟨H100, HS01⟩, H101, HS11⟩
  iapply (rt c)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr [Hw]
  · isplitl [H8]; · iexists f8; iexact H8
    isplitl [H90 H91]
    · iapply (two_join c A.arg9)
      isplitl [H90]; · iexact H90
      iexact H91
    isplitl [H100 H101]
    · iapply (two_join c A.arg10)
      isplitl [H100]; · iexact H100
      iexact H101
    isplitl [H11]; · iexact H11
    isplitl [H12]; · iexact H12
    isplitl [H13]; · iexact H13
    isplitl [H14]; · iexact H14
    isplitl [H15]; · iexact H15
    isplitl [HS00]; · iexact HS00
    isplitl [HS01]; · iexact HS01
    isplitl [HS10]; · iexact HS10
    isplitl [HS11]; · iexact HS11
    isplitl [HT0]; · iexact HT0
    iexact HT1
  iexact Hw

end Cert.Kernel.Hand

end
-- ==== Proof.Run.lean ====
/- The whole program's run: the launch around the kernel's body, the arguments unchanged, and what the result holds. -/
module

public import proofs.«01_k».proof.Proof.Body
public import proofs.«01_k».proof.Proof.Gen.Kernel.Frame
public import Idealize.ShloMosaic.Lib.Pipeline.FrameSuffixV

@[expose] public section

set_option maxHeartbeats 1000000

noncomputable section

namespace Cert.Kernel.Hand

open Cert.Kernel Cert.Kernel.Gen
open Cert.Proof.Words Cert.Proof.Groups
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body is called with at the only point. -/
def A0 : Args where
  arg0 := win0_0.stage (cfg0.slots t0_0 0)
  harg0 := hstage0_0 0
  arg1 := win0_1.stage (cfg0.slots t0_0 1)
  harg1 := hstage0_1 0
  arg2 := win0_2.stage (cfg0.slots t0_0 2)
  harg2 := hstage0_2 0
  arg3 := win0_3.stage (cfg0.slots t0_0 3)
  harg3 := hstage0_3 0
  arg4 := win0_4.stage (cfg0.slots t0_0 4)
  harg4 := hstage0_4 0
  arg5 := Memref.whole main_v0
  harg5 := Memref.isWhole_whole _
  arg6 := Memref.whole main_arg6
  harg6 := Memref.isWhole_whole _
  arg7 := Memref.whole main_v1
  harg7 := Memref.isWhole_whole _
  arg8 := Memref.whole cc0_scratch0
  harg8 := Memref.isWhole_whole _
  arg9 := Memref.whole cc0_scratch1
  harg9 := Memref.isWhole_whole _
  arg10 := Memref.whole cc0_scratch2
  harg10 := Memref.isWhole_whole _
  arg11 := Memref.whole cc0_scratch3
  harg11 := Memref.isWhole_whole _
  arg12 := Memref.whole cc0_scratch4
  harg12 := Memref.isWhole_whole _
  arg13 := Memref.whole cc0_scratch5
  harg13 := Memref.isWhole_whole _
  arg14 := Memref.whole cc0_scratch6
  harg14 := Memref.isWhole_whole _
  arg15 := Memref.whole cc0_scratch7
  harg15 := Memref.isWhole_whole _
  arg16 := cc0_scratch8
  arg17 := cc0_scratch9

/-- The kernel's own semaphores. -/
abbrev osem0 : Fin 6 → SemLoc sig := fun j =>
  (![SemLoc.dma (wSem A0 0 0), SemLoc.dma (wSem A0 0 1), SemLoc.dma (wSem A0 1 0), SemLoc.dma (wSem A0 1 1), SemLoc.dma (ySem A0 0), SemLoc.dma (ySem A0 1)] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (wSem A0 0 0)) 0 ∗ semVal ((c : Thread nD τ), SemLoc.dma (wSem A0 0 1)) 0 ∗ semVal ((c : Thread nD τ), SemLoc.dma (wSem A0 1 0)) 0
        ∗ semVal ((c : Thread nD τ), SemLoc.dma (wSem A0 1 1)) 0 ∗ semVal ((c : Thread nD τ), SemLoc.dma (ySem A0 0)) 0 ∗ semVal ((c : Thread nD τ), SemLoc.dma (ySem A0 1)) 0) := by
  rw [Pipeline.ownSems0_eq_of_list c osem0 [0, 1, 2, 3, 4, 5] (by decide) (by decide)]; rfl

/-- The buffers in HBM the kernel reads, and the one it writes. -/
def Hr : Finset (Ref sig .tc) := {main_v0, main_arg6}
def Rw : Finset (Ref sig .tc) := {main_v1}
theorem Hr_sub : Hr ⊆ Pipeline.restRefs sig spec0 := by decide
theorem Rw_sub : Rw ⊆ Pipeline.restRefs sig spec0 \ Hr := by decide

theorem Hr_eq (c : Dev nD) :
    (bigSep Hr (fun b => ((c : Thread nD τ).loc b) ↦{fullShare} V m c b) : sProp 𝕄)
      = iprop((((c : Thread nD τ).loc main_v0) ↦{fullShare} V m c main_v0) ∗ (((c : Thread nD τ).loc main_arg6) ↦{fullShare} V m c main_arg6)) := by
  rw [BI.bigSep_eq_bigSepL_of_eq [main_v0, main_arg6] (by decide) (by decide)]; rfl

theorem Rw_eq (c : Dev nD) (W : (b : Ref sig .tc) → Buf (Elt F) ((c : Thread nD τ).loc b)) :
    (bigSep Rw (fun b => ((c : Thread nD τ).loc b) ↦{fullShare} W b) : sProp 𝕄)
      = iprop((((c : Thread nD τ).loc main_v1) ↦{fullShare} W main_v1)) := by
  rw [BI.bigSep_eq_bigSepL_of_eq [main_v1] (by decide) (by decide)]; rfl

/-- The buffers after the body: as before it, but for the result. -/
def Gw (Yv : Dev nD → S1728x18432.Idx → Elt F .bf16) (c : Dev nD) : (b : Ref sig .tc) → Buf (Elt F) ((c : Thread nD τ).loc b) :=
  Function.update (V m c) main_v1 (Yv c)

/-- The proof data: the body leaves the blocks in place, and writes the result. -/
def dats (Yv : Dev nD → S1728x18432.Idx → Elt F .bf16) (_ : Fin 1) (c : Dev nD) : Dat τ (Elt F) Unit ℕ (Pipeline.UD sig nD τ) ℕ cfg0 c where
  A w := V m c (Pipeline.arrRef spec0 w)
  after := fun
    | 0 => iblk m c 0 | 1 => iblk m c 1 | 2 => iblk m c 2 | 3 => iblk m c 3 | 4 => iblk m c 4
    | ⟨_ + 5, h⟩ => absurd h (Nat.not_lt.2 (Nat.le_add_left _ _))
  Φ t := Pipeline.ΦDRV osem0 spec0 Hr Rw (V m) (if t = 0 then V m else Gw m Yv) c
  q _ := fullShare
  owed _ := 0

variable (Yv : Dev nD → S1728x18432.Idx → Elt F .bf16)

theorem A_eq (c : Dev nD) (w : Fin cfg0.W) : (dats m Yv 0 c).A w = V m c (Pipeline.arrRef spec0 w) := by dsimp only [dats]

/-- What an input's staging buffer holds at a point, for proof data whose array is `V`'s and whose body leaves the block in place. -/
theorem before0 (c : Dev nD) (t : Fin cfg0.N) : (∀ d, (dats m Yv 0 c).before 0 t d = iblk m c 0 t) ∧ (∀ d, (dats m Yv 0 c).before 1 t d = iblk m c 1 t)
    ∧ (∀ d, (dats m Yv 0 c).before 2 t d = iblk m c 2 t) ∧ (∀ d, (dats m Yv 0 c).before 3 t d = iblk m c 3 t) ∧ (∀ d, (dats m Yv 0 c).before 4 t d = iblk m c 4 t) := by
  refine ⟨fun d => ?_, fun d => ?_, fun d => ?_, fun d => ?_, fun d => ?_⟩
  · exact ((dats m Yv 0 c).before_in_eq_fetched 0 rfl (fun _ => rfl) (fun _ _ _ => rfl) (fun t => rfl) t d).trans rfl
  · exact ((dats m Yv 0 c).before_in_eq_fetched 1 rfl (fun _ => rfl) (fun _ _ _ => rfl) (fun t => rfl) t d).trans rfl
  · exact ((dats m Yv 0 c).before_in_eq_fetched 2 rfl (fun _ => rfl) (fun _ _ _ => rfl) (fun t => rfl) t d).trans rfl
  · exact ((dats m Yv 0 c).before_in_eq_fetched 3 rfl (fun _ => rfl) (fun _ _ _ => rfl) (fun t => rfl) t d).trans rfl
  · exact ((dats m Yv 0 c).before_in_eq_fetched 4 rfl (fun _ => rfl) (fun _ _ _ => rfl) (fun t => rfl) t d).trans rfl

/-- Each window's block is its whole array. -/
theorem iblk0 (c : Dev nD) (t : Fin cfg0.N) : iblk m c 0 t = V m c main_arg0 := by
  rw [fin_N0 t]; funext i
  show V m c main_arg0 _ = V m c main_arg0 _
  congr 1; funext a; apply Fin.ext; fin_cases a; show 0 + 1 * (i 0).val = (i 0).val; omega
theorem iblk1 (c : Dev nD) (t : Fin cfg0.N) : iblk m c 1 t = V m c main_arg1 := by
  rw [fin_N0 t]; funext i
  show V m c main_arg1 _ = V m c main_arg1 _
  congr 1; funext a; apply Fin.ext; fin_cases a; show 0 + 1 * (i 0).val = (i 0).val; omega
theorem iblk2 (c : Dev nD) (t : Fin cfg0.N) : iblk m c 2 t = V m c main_arg2 := by
  rw [fin_N0 t]; funext i
  show V m c main_arg2 _ = V m c main_arg2 _
  congr 1; funext a; apply Fin.ext; fin_cases a; show 0 + 1 * (i 0).val = (i 0).val; omega
theorem iblk3 (c : Dev nD) (t : Fin cfg0.N) : iblk m c 3 t = V m c main_arg3 := by
  rw [fin_N0 t]; funext i
  show V m c main_arg3 _ = V m c main_arg3 _
  congr 1; funext a; apply Fin.ext; fin_cases a; show 0 + 1 * (i 0).val = (i 0).val; omega
theorem iblk4 (c : Dev nD) (t : Fin cfg0.N) : iblk m c 4 t = V m c main_arg4 := by
  rw [fin_N0 t]; funext i
  show V m c main_arg4 _ = V m c main_arg4 _
  congr 1; funext a; apply Fin.ext; fin_cases a
  · show 0 + 1 * (i 0).val = (i 0).val; omega
  · show 0 + 1 * (i 1).val = (i 1).val; omega

end Cert.Kernel.Hand

end
-- ==== Proof.Launched.lean ====
/- The launch: the body's run put between the host's two transposes. -/
module

public import proofs.«01_k».proof.Proof.Run

@[expose] public section

set_option maxHeartbeats 1000000

noncomputable section

namespace Cert.Kernel.Hand

open Cert.Kernel Cert.Kernel.Gen
open Cert.Proof.Words Cert.Proof.Groups
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The result, transposed, over the arrays: each row is its expert's product with its token's row, tile by tile. -/
def rowsAre (f2 : S11.Idx → Elt F .f32) (f3 : S1.Idx → Elt F .f32) (f4 : S9216x384.Idx → Elt F .i32) (f5 : S11x1728x1280.Idx → Elt F .i8)
    (f6 : S11x160x1728.Idx → Elt F .fp8e4m3) (G : ℕ → ℕ) (tok : ℕ → Fin 9216) (Yv : S1728x18432.Idx → Elt F .bf16) : Prop :=
  ∀ (x : Fin 11) (T : ℕ) (r : Fin 1728) (m : Fin 256) (s : Fin 2), off G x.val ≤ 256 * T + m.val → 256 * T + m.val < off G x.val + G x.val →
    k0_pay25 (f3 (ix1 0)) (f2 (ix1 x))
      (wDec (fun i => f5 (ix3 x (i 0) (i 1))) (k0_pay44 (fun i => f6 (ix3 x (i 1) (i 2)))))
      (aDec (gath f4 tok T)) (ix2 r m) = yCol Yv T (ix3 s r m)

/-- What the launch takes of the memory: the groups cover the rows, the tokens name rows, and `Yv` is the result. -/
structure Fits (c : Dev nD) (G : ℕ → ℕ) (tok : ℕ → Fin 9216) (Yv : S1728x18432.Idx → Elt F .bf16) : Prop where
  hG : off G 11 = 18432
  h1 : ∀ i : S11.Idx, m ((c : Thread nD τ).loc main_arg1) i = BitVec.ofNat 32 (G (i 0).val)
  h0 : ∀ i : S18432.Idx, m ((c : Thread nD τ).loc main_arg0) i = BitVec.ofNat 32 (tok (i 0).val).val
  hY : rowsAre (m ((c : Thread nD τ).loc main_arg2)) (m ((c : Thread nD τ).loc main_arg3)) (m ((c : Thread nD τ).loc main_arg4))
    (transpose S11x1728x1280 [0, 2, 1] (m ((c : Thread nD τ).loc main_arg5)) transposes_S11x1280x1728_S11x1728x1280_0_2_1)
    (m ((c : Thread nD τ).loc main_arg6)) G tok Yv

variable (Yv : Dev nD → S1728x18432.Idx → Elt F .bf16) (G : Dev nD → ℕ → ℕ) (tok : Dev nD → ℕ → Fin 9216)

theorem V_main_v0 (c : Dev nD) : V m c main_v0
    = transpose S11x1728x1280 [0, 2, 1] (m ((c : Thread nD τ).loc main_arg5)) transposes_S11x1280x1728_S11x1728x1280_0_2_1 := by
  show StableHlo.after hostOps0 _ (Proc.devRef .tc main_v0) = _
  simp only [hostOps0, StableHlo.after_cons, StableHlo.after_nil]
  first | rw [StableHlo.unary_result] | rw [StableHlo.unary_apply_self] | skip

/-- What the body is called with, and what it returns. -/
def bodyPre (c : Dev nD) (t : Fin cfg0.N) : sProp 𝕄 :=
  iprop((dats m Yv 0 c).Φ t.castSucc ∗ (dats m Yv 0 c).owesAt () t.castSucc
    ∗ (∃ d, owns (c : Thread nD τ) (st0_0 t) fullShare ((dats m Yv 0 c).before 0 t d)) ∗ (∃ d, owns (c : Thread nD τ) (st0_1 t) fullShare ((dats m Yv 0 c).before 1 t d))
    ∗ (∃ d, owns (c : Thread nD τ) (st0_2 t) fullShare ((dats m Yv 0 c).before 2 t d)) ∗ (∃ d, owns (c : Thread nD τ) (st0_3 t) fullShare ((dats m Yv 0 c).before 3 t d))
    ∗ (∃ d, owns (c : Thread nD τ) (st0_4 t) fullShare ((dats m Yv 0 c).before 4 t d)))
def bodyPost (c : Dev nD) (t : Fin cfg0.N) : sProp 𝕄 :=
  iprop((dats m Yv 0 c).Φ t.succ ∗ (dats m Yv 0 c).owesAt () t.succ
    ∗ owns (c : Thread nD τ) (st0_0 t) fullShare ((dats m Yv 0 c).after 0 t) ∗ owns (c : Thread nD τ) (st0_1 t) fullShare ((dats m Yv 0 c).after 1 t)
    ∗ owns (c : Thread nD τ) (st0_2 t) fullShare ((dats m Yv 0 c).after 2 t) ∗ owns (c : Thread nD τ) (st0_3 t) fullShare ((dats m Yv 0 c).after 3 t)
    ∗ owns (c : Thread nD τ) (st0_4 t) fullShare ((dats m Yv 0 c).after 4 t))

/-- A whole buffer's points-to, as the body has it. -/
theorem pts_whole (c : Dev nD) (b : Ref sig .tc) (q : PosShare TreeShare) (f : Buf (Elt F) ((c : Thread nD τ).loc b)) :
    (pts c (Memref.whole b) (Memref.whole b).view.set q f : sProp 𝕄) = ((c : Thread nD τ).loc b ↦{q} f) := by
  simp only [Memref.view_whole, View.set_whole]

/-- The kernel's scratch, buffer by buffer. -/
def scrW (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ sem0 (F := F) c (wSem A0 0 0) ∗ sem0 (F := F) c (wSem A0 0 1) ∗ sem0 (F := F) c (wSem A0 1 0) ∗ sem0 (F := F) c (wSem A0 1 1)
    ∗ sem0 (F := F) c (ySem A0 0) ∗ sem0 (F := F) c (ySem A0 1))

theorem scr_eq (c : Dev nD) : scr (F := F) A0 c = scrW (F := F) c := by
  unfold scr scrW
  rw [show A0.arg8 = Memref.whole cc0_scratch0 from rfl, show A0.arg9 = Memref.whole cc0_scratch1 from rfl, show A0.arg10 = Memref.whole cc0_scratch2 from rfl,
    show A0.arg11 = Memref.whole cc0_scratch3 from rfl, show A0.arg12 = Memref.whole cc0_scratch4 from rfl, show A0.arg13 = Memref.whole cc0_scratch5 from rfl,
    show A0.arg14 = Memref.whole cc0_scratch6 from rfl, show A0.arg15 = Memref.whole cc0_scratch7 from rfl]
  simp only [Memref.view_whole, View.set_whole]

theorem scr_of (c : Dev nD) : scrW (F := F) c ⊢ scr (F := F) A0 c := Entails.of_eq (scr_eq c).symm
theorem of_scr (c : Dev nD) : scr (F := F) A0 c ⊢ scrW (F := F) c := Entails.of_eq (scr_eq c)

theorem sound_body (c : Dev nD) (h : Fits m c (G c) (tok c) (Yv c)) (t : Fin cfg0.N) :
    bodyPre m Yv c t ⊢ wp frame (wpE (defs₀ (F := F)) Variants.none c none) Set.univ (bodyAt0 t) (fun _ => bodyPost m Yv c t) := by
  obtain ⟨b0, b1, b2, b3, b4⟩ := before0 m Yv c t
  obtain rfl := fin_N0 t
  unfold bodyPre bodyPost
  simp only [b0, b1, b2, b3, b4]
  rw [show (dats m Yv 0 c).Φ (t0_0 : Fin cfg0.N).succ = Pipeline.ΦDRV osem0 spec0 Hr Rw (V m) (Gw m Yv) c from rfl,
    show (dats m Yv 0 c).owesAt () (t0_0 : Fin cfg0.N).succ = (dats m Yv 0 c).owesAt () (t0_0 : Fin cfg0.N).castSucc from rfl,
    show (dats m Yv 0 c).Φ (t0_0 : Fin cfg0.N).castSucc = Pipeline.ΦDRV osem0 spec0 Hr Rw (V m) (V m) c from rfl]
  unfold Pipeline.ΦDRV Dat.owesAt Pipeline.owesWithin
  rw [show (dats m Yv 0 c).owed (t0_0 : Fin cfg0.N).castSucc = 0 from rfl, scopedRest0_eq, ownSems00_eq, Hr_eq, Rw_eq, Rw_eq,
    show (dats m Yv 0 c).after 0 t0_0 = iblk m c 0 t0_0 from rfl, show (dats m Yv 0 c).after 1 t0_0 = iblk m c 1 t0_0 from rfl,
    show (dats m Yv 0 c).after 2 t0_0 = iblk m c 2 t0_0 from rfl, show (dats m Yv 0 c).after 3 t0_0 = iblk m c 3 t0_0 from rfl,
    show (dats m Yv 0 c).after 4 t0_0 = iblk m c 4 t0_0 from rfl]
  unfold owns
  iintro ⟨⟨⟨S1, S2, S3, S4, S5, S6, S7, S0⟩, ⟨T0, T1, T2, T3, T4, T5⟩, ⟨H5, H6⟩, H7⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩⟩
  rw [iblk0, V_main_arg0] at e0
  rw [iblk1, V_main_arg1] at e1
  rw [iblk2, V_main_arg2] at e2
  rw [iblk3, V_main_arg3] at e3
  rw [iblk4, V_main_arg4] at e4
  have hY : yRows A0 c (G c) (V m c main_v0) (V m c main_arg6) (Yv c) f2 f4 (A0.arg3.view.read (Elt F) f3 (ix1 0)) (tok c) := by
    unfold yRows
    rw [show A0.arg2.view.read (Elt F) f2 = _ from e2, show A0.arg3.view.read (Elt F) f3 = _ from e3, show A0.arg4.view.read (Elt F) f4 = _ from e4,
      show A0.arg5.view.read (Elt F) (V m c main_v0) = V m c main_v0 from rfl, show A0.arg6.view.read (Elt F) (V m c main_arg6) = V m c main_arg6 from rfl,
      V_main_v0, V_main_arg6]
    exact h.hY
  have e7 : ∀ f, A0.arg7.view.read (Elt F) f = Yv c → f = Gw m Yv c main_v1 := fun f hf =>
    (show f = Yv c from hf).trans (by unfold Gw; rw [Function.update_self])
  iapply ((body_run A0 c (Yv c) (G c) h.hG fullShare fullShare fullShare fullShare fullShare f0 f1 f2 f3 f4 (V m c main_v0) (V m c main_arg6)
    (fun i => (congrFun e1 i).trans (h.h1 i)) (tok c) (fun i => (congrFun e0 i).trans (h.h0 i)) hY).trans (wp_wand _ _ _)) $$ [S0 S1 S2 S3 S4 S5 S6 S7 T0 T1 T2 T3 T4 T5 H0 H1 H2 H3 H4 H5 H6 H7 HO]
  · isplitl [H0]; · iexact H0
    isplitl [H1]; · iexact H1
    isplitl [H2]; · iexact H2
    isplitl [H3]; · iexact H3
    isplitl [H4]; · iexact H4
    isplitl [H5]; · iapply (Entails.of_eq (pts_whole c main_v0 fullShare _).symm); iexact H5
    isplitl [H6]; · iapply (Entails.of_eq (pts_whole c main_arg6 fullShare _).symm); iexact H6
    isplitl [H7]; · iexists _; iapply (Entails.of_eq (pts_whole c main_v1 fullShare _).symm); iexact H7
    isplitr [HO]
    · iapply (scr_of c); unfold scrW
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [T0]; · iexact T0
      isplitl [T1]; · iexact T1
      isplitl [T2]; · iexact T2
      isplitl [T3]; · iexact T3
      isplitl [T4]; · iexact T4
      iexact T5
    iexists W; iexact HO
  iintro %a ⟨H0, H1, H2, H3, H4, H5, H6, ⟨%f7, H7, %hf7⟩, HS, ⟨%W', HO⟩⟩
  obtain rfl := e7 f7 hf7
  ihave HS := (of_scr c) $$ HS; unfold scrW
  icases HS with ⟨S0, S1, S2, S3, S4, S5, S6, S7, T0, T1, T2, T3, T4, T5⟩
  isplitl [S0 S1 S2 S3 S4 S5 S6 S7 T0 T1 T2 T3 T4 T5 H5 H6 H7]
  · isplitl [S0 S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      isplitl [S7]; · iexact S7
      iexact S0
    isplitl [T0 T1 T2 T3 T4 T5]
    · isplitl [T0]; · iexact T0
      isplitl [T1]; · iexact T1
      isplitl [T2]; · iexact T2
      isplitl [T3]; · iexact T3
      isplitl [T4]; · iexact T4
      iexact T5
    isplitl [H5 H6]
    · isplitl [H5]; · iapply (Entails.of_eq (pts_whole c main_v0 fullShare _)); iexact H5
      iapply (Entails.of_eq (pts_whole c main_arg6 fullShare _)); iexact H6
    iapply (Entails.of_eq (pts_whole c main_v1 fullShare _)); iexact H7
  isplitl [HO]
  · iexists W'; isplitr; · ipureintro; exact fun _ _ => Or.inl trivial
    iexact HO
  rw [← V_main_arg0 m c, ← iblk0 m c t0_0] at e0
  rw [← V_main_arg1 m c, ← iblk1 m c t0_0] at e1
  rw [← V_main_arg2 m c, ← iblk2 m c t0_0] at e2
  rw [← V_main_arg3 m c, ← iblk3 m c t0_0] at e3
  rw [← V_main_arg4 m c, ← iblk4 m c t0_0] at e4
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists f4; isplitr; · ipureintro; exact e4
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) (h : Fits m c (G c) (tok c) (Yv c)) :
    BodyObligation (dats (F := F) m Yv 0 c) (defs₀ (F := F)) Variants.none () Set.univ := fun t => by
  rw [bigSep_W0, bigSep_W0, defs₀_row]
  exact triple_restated (sound_body m Yv G tok c h t) rfl .rfl fun _ => .rfl

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer that is no window's array ends at. -/
abbrev endsAt (c : Dev nD) (b : Ref sig .tc) : Buf (Elt F) ((c : Thread nD τ).loc b) :=
  StableHlo.after (List.flatten [hostOps1]) (Pipeline.withArrays spec0 c (Pipeline.withR (V0 m c) Rw c (Gw m Yv c)) fun w => (dats m Yv 0 c).arrAt w cfg0.N) (Proc.devRef .tc b)

set_option backward.isDefEq.respectTransparency.types false in
theorem run_main (h : ∀ c, Fits m c (G c) (tok c) (Yv c)) :
    θ_run defs (onTc (τ := τ) (main (F := F))) (s₀ m ρ)
      (fun r => (∀ c : Dev nD, (∀ w, r.2.mem ((spec0 w).arr.view.loc (c.tc : Thread nD τ)) = (dats m Yv 0 c).arrAt w cfg0.N)
        ∧ ∀ b ∈ Pipeline.restRefs sig spec0, r.2.mem ((c.tc : Thread nD τ).loc b) = endsAt m Yv c b) ∧ r.2.sem = fun _ => 0) :=
  Pipeline.θ_run_frame_dmaR_aroundV (Q' := _) cfgs (dats m Yv) (0 : Fin 1) launch0 osem0 defs₀ Variants.none ownSemFacts0 Hr Rw Hr_sub Rw_sub m ρ main
    (hbody := fun c => (body_obligation m Yv G tok c (h c)).loose) (hshare := fun c => (dats m Yv 0 c).share_full fun _ => rfl)
    (howed := fun _ _ => rfl) (V₀ := V0 m) (opss := [hostOps1]) (hsub := sfx_sub) (hfresh := sfx_fresh) (hkeep := sfx_keeps) (G := Gw m Yv)
    (hmain := hmainD m Variants.none) (hA := A_eq m Yv)
    (hin := fun _ => .rfl) (hout := fun _ => .rfl) (hQ' := fun r h => ⟨fun c => h.1 c, h.2⟩)

end Cert.Kernel.Hand

end
-- ==== Proof.Pre.lean ====
/- What the precondition says: the groups' sizes sum to the number of rows, and every token names a row. -/
module

public import proofs.«01_k».proof.Proof.Groups
public import proofs.«01_k».proof.Proof.Gen.Pre_groups_cover
public import Idealize.ShloMosaic.Lib.ReduceAll
public import Idealize.ShloMosaic.Lib.WordSum
public import Idealize.ShloMosaic.Lib.Pointwise.Index

@[expose] public section

noncomputable section

namespace Cert.Proof.Groups

open Idealize.ShloMosaic Cert.Pre_groups_cover Cert.Proof.Words

/-- An expert's number of rows. -/
def rowsOf (a1 : S11.Idx → BitVec 32) (k : ℕ) : ℕ := if h : k < 11 then (a1 (ix1 ⟨k, h⟩)).toNat else 0

/-- The token of a row. -/
def tokOf (a0 : S18432.Idx → BitVec 32) (p : ℕ) : Fin 9216 := ⟨(if h : p < 18432 then (a0 (ix1 ⟨p, h⟩)).toNat else 0) % 9216, Nat.mod_lt _ (by decide)⟩

theorem off_eq_sum (G : ℕ → ℕ) (k : ℕ) : off G k = ∑ i : Fin k, G i.val := by
  induction k with
  | zero => rfl
  | succ k ih => rw [off, ih, Fin.sum_univ_castSucc]; rfl

theorem toNat_le_of {w : BitVec 32} {n : ℕ} (hn : n < 2 ^ 31) (h : (IntOp.andi (IntOp.cmpi .sge w 0#32) (IntOp.cmpi .sle w (BitVec.ofNat 32 n))) = 1#1) : w.toNat ≤ n := by
  obtain ⟨h1, h2⟩ := IntOp.andi_eq_one.mp h
  have e1 := IntOp.cmpi_sge.mp h1
  have e2 := IntOp.cmpi_sle.mp h2
  rw [WordCmp.toInt_ofNat_of_lt (w := 32) (a := n) hn] at e2
  rw [show (0#32 : BitVec 32).toInt = 0 from by decide] at e1
  rw [BitVec.toInt_eq_toNat_cond] at e1 e2
  have := w.isLt
  split at e1 <;> omega

theorem toNat_lt_of {w : BitVec 32} {n : ℕ} (hn : n < 2 ^ 31) (h : (IntOp.andi (IntOp.cmpi .sge w 0#32) (IntOp.cmpi .slt w (BitVec.ofNat 32 n))) = 1#1) : w.toNat < n := by
  obtain ⟨h1, h2⟩ := IntOp.andi_eq_one.mp h
  have e1 := IntOp.cmpi_sge.mp h1
  have e2 := IntOp.cmpi_slt.mp h2
  rw [WordCmp.toInt_ofNat_of_lt (w := 32) (a := n) hn] at e2
  rw [show (0#32 : BitVec 32).toInt = 0 from by decide] at e1
  rw [BitVec.toInt_eq_toNat_cond] at e1 e2
  have := w.isLt
  split at e1 <;> omega

theorem fold_addi {ι : Type} (S : Finset ι) (x : ι → BitVec 32) (z : BitVec 32) : S.fold IntOp.addi z x = z + ∑ i ∈ S, x i := by
  induction S using Finset.cons_induction with
  | empty => simp
  | cons a S ha ih => rw [Finset.fold_cons, Finset.sum_cons, ih, add_left_comm]; rfl

variable {F : FTy → Type} [FloatOps F] (a0 : IVec S18432 32) (a1 : IVec S11 32) (a2 : FVec F S11 .f32) (a3 : FVec F S1 .f32)
  (a4 : IVec S9216x384 32) (a5 : IVec S11x1280x1728 8) (a6 : FVec F S11x160x1728 .fp8e4m3)

theorem tok_of_pre (h : (fn (F := F) a0 a1 a2 a3 a4 a5 a6).1 = fun _ => 1#1) (i : S18432.Idx) : a0 i = BitVec.ofNat 32 (tokOf a0 (i 0).val).val := by
  dsimp only [fn] at h
  have hi := Host.reduce_andi_all _ _ _ _ (fun a => a.elim0) (congrFun h fun a => a.elim0) i
  have hl : (a0 i).toNat < 9216 := toNat_lt_of (n := 9216) (by decide) hi
  unfold tokOf
  have h0 : (i 0).val < 18432 := (i 0).isLt
  dsimp only
  rw [dif_pos h0, show ix1 ⟨(i 0).val, h0⟩ = i from funext fun a => by fin_cases a; rfl, Nat.mod_eq_of_lt hl]
  exact eq_ofNat _

theorem size_of_pre (i : S11.Idx) : a1 i = BitVec.ofNat 32 (rowsOf a1 (i 0).val) := by
  unfold rowsOf
  have h0 : (i 0).val < 11 := (i 0).isLt
  rw [dif_pos h0, show ix1 ⟨(i 0).val, h0⟩ = i from funext fun a => by fin_cases a; rfl]
  exact eq_ofNat _

theorem off_of_pre (h1 : (fn (F := F) a0 a1 a2 a3 a4 a5 a6).2.1 = fun _ => 1#1) (h2 : (fn (F := F) a0 a1 a2 a3 a4 a5 a6).2.2 = fun _ => 1#1) :
    off (rowsOf a1) 11 = 18432 := by
  dsimp only [fn] at h1 h2
  have hle : ∀ i : S11.Idx, (a1 i).toNat ≤ 18432 := fun i =>
    toNat_le_of (n := 18432) (by decide) (Host.reduce_andi_all _ _ _ _ (fun a => a.elim0) (congrFun h1 fun a => a.elim0) i)
  have he := IntOp.cmpi_eq.mp (congrFun h2 fun a => a.elim0)
  have hs : ∑ i : S11.Idx, (a1 i).toNat = off (rowsOf a1) 11 := by
    rw [off_eq_sum]
    exact Fintype.sum_equiv (⟨fun i => i 0, fun k => ix1 k, fun i => funext fun a => by fin_cases a; rfl, fun k => rfl⟩ : S11.Idx ≃ Fin 11)
      (fun i : S11.Idx => (a1 i).toNat) (fun k => rowsOf a1 k.val) fun i => by
        show _ = rowsOf a1 (i 0).val
        rw [size_of_pre a1 i, BitVec.toNat_ofNat, Nat.mod_eq_of_lt]
        unfold rowsOf; split <;> omega
  have hb : ∑ i : S11.Idx, (a1 i).toNat ≤ 11 * 18432 := by
    refine (Finset.sum_le_sum fun i _ => hle i).trans ?_
    rw [Finset.sum_const, smul_eq_mul]
    exact Nat.mul_le_mul_right _ (le_of_eq (by rw [Finset.card_univ]; decide))
  rw [Host.reduce_eq_fold] at he
  rw [fold_addi, Finset.filter_true_of_mem (fun i _ => Subsingleton.elim _ _)] at he
  have he : ∑ i : S11.Idx, a1 i = 18432#32 := (zero_add _).symm.trans he
  have := congrArg BitVec.toNat he
  rw [WordSum.toNat_sum _ _ (by omega), hs] at this
  exact this

end Cert.Proof.Groups

end
-- ==== Proof.Ends.lean ====
/- The result from the arguments: each row of the result belongs to one expert; and the frame. -/
module

public import proofs.«01_k».proof.Proof.Launched
public import proofs.«01_k».proof.Proof.Pre

@[expose] public section

set_option maxHeartbeats 1000000

noncomputable section

namespace Cert.Kernel.Hand

open Cert.Kernel Cert.Kernel.Gen
open Cert.Proof.Words Cert.Proof.Groups
open Idealize.ShloMosaic Idealize.ShloMosaic.TcCoe
open Idealize.SL Idealize.SL.Sem
open Idealize.ShloMosaic.Pipeline (Dat)

variable {F : FTy → Type} [FloatOps F] [∀ e, Nonempty (Elt F e)]

open Classical in
/-- The expert a row belongs to. -/
def exOf (G : ℕ → ℕ) (p : ℕ) : Fin 11 := if h : ∃ x : Fin 11, off G x.val ≤ p ∧ p < off G x.val + G x.val then h.choose else 0

theorem exOf_eq (G : ℕ → ℕ) (p : ℕ) (x : Fin 11) (h1 : off G x.val ≤ p) (h2 : p < off G x.val + G x.val) : exOf G p = x := by
  have h : ∃ x : Fin 11, off G x.val ≤ p ∧ p < off G x.val + G x.val := ⟨x, h1, h2⟩
  unfold exOf
  rw [dif_pos h]
  obtain ⟨g1, g2⟩ := h.choose_spec
  rcases lt_trichotomy h.choose.val x.val with hl | he | hl
  · have := off_le G hl; omega
  · exact Fin.ext he
  · have := off_le G hl; omega

/-- The result, transposed, from the arguments. -/
def yOf (f2 : S11.Idx → Elt F .f32) (f3 : S1.Idx → Elt F .f32) (f4 : S9216x384.Idx → Elt F .i32) (f5 : S11x1728x1280.Idx → Elt F .i8)
    (f6 : S11x160x1728.Idx → Elt F .fp8e4m3) (G : ℕ → ℕ) (tok : ℕ → Fin 9216) : S1728x18432.Idx → Elt F .bf16 := fun i =>
  k0_pay25 (f3 (ix1 0)) (f2 (ix1 (exOf G (i 1).val)))
    (wDec (fun j => f5 (ix3 (exOf G (i 1).val) (j 0) (j 1))) (k0_pay44 (fun j => f6 (ix3 (exOf G (i 1).val) (j 1) (j 2)))))
    (aDec (gath f4 tok ((i 1).val / 256))) (ix2 (i 0) ⟨(i 1).val % 256, Nat.mod_lt _ (by decide)⟩)

theorem rowsAre_yOf (f2 : S11.Idx → Elt F .f32) (f3 : S1.Idx → Elt F .f32) (f4 : S9216x384.Idx → Elt F .i32) (f5 : S11x1728x1280.Idx → Elt F .i8)
    (f6 : S11x160x1728.Idx → Elt F .fp8e4m3) (G : ℕ → ℕ) (tok : ℕ → Fin 9216) (hG : off G 11 = 18432) :
    rowsAre f2 f3 f4 f5 f6 G tok (yOf f2 f3 f4 f5 f6 G tok) := by
  intro x T r m s h1 h2
  have hlt : 256 * T + m.val < 18432 := by have := off_le G x.isLt; omega
  unfold yCol yOf
  have e1 : ((ix2 ((ix3 s r m) 1) ⟨(256 * T + ((ix3 s r m) 2).val) % 18432, Nat.mod_lt _ (by decide)⟩ : S1728x18432.Idx) 1).val = 256 * T + m.val := Nat.mod_eq_of_lt hlt
  dsimp only
  simp only [e1]
  rw [exOf_eq G _ x h1 h2, show (256 * T + m.val) / 256 = T from by have := m.isLt; omega]
  congr 2
  exact Fin.ext (show m.val = (256 * T + m.val) % 256 by have := m.isLt; omega)

variable (m : (ℓ : Loc nD τ sig) → Buf (Elt F) ℓ) (ρ : Dev nD → PrngReg)

/-- The result, transposed, from the memory. -/
def Yof (c : Dev nD) : S1728x18432.Idx → Elt F .bf16 :=
  yOf (m ((c : Thread nD τ).loc main_arg2)) (m ((c : Thread nD τ).loc main_arg3)) (m ((c : Thread nD τ).loc main_arg4))
    (transpose S11x1728x1280 [0, 2, 1] (m ((c : Thread nD τ).loc main_arg5)) transposes_S11x1280x1728_S11x1728x1280_0_2_1)
    (m ((c : Thread nD τ).loc main_arg6)) (rowsOf (m ((c : Thread nD τ).loc main_arg1))) (tokOf (m ((c : Thread nD τ).loc main_arg0)))

/-- The precondition, of one core's arguments. -/
def Covers (c : Dev nD) : Prop :=
  (Cert.Pre_groups_cover.fn (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))).1 = (fun _ => 1#1)
    ∧ (Cert.Pre_groups_cover.fn (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))).2.1 = (fun _ => 1#1)
    ∧ (Cert.Pre_groups_cover.fn (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))).2.2 = (fun _ => 1#1)

theorem fits (c : Dev nD) (h : Covers m c) :
    Fits m c (rowsOf (m ((c : Thread nD τ).loc main_arg1))) (tokOf (m ((c : Thread nD τ).loc main_arg0))) (Yof m c) :=
  have hG := off_of_pre (F := F) _ _ _ _ _ _ _ h.2.1 h.2.2
  ⟨hG, fun i => size_of_pre _ i, fun i => tok_of_pre (F := F) _ _ _ _ _ _ _ h.1 i, rowsAre_yOf _ _ _ _ _ _ _ hG⟩

variable (Yv : Dev nD → S1728x18432.Idx → Elt F .bf16)

theorem ends_arg5 (c : Dev nD) : endsAt m Yv c main_arg5 = m ((c : Thread nD τ).loc main_arg5) := by
  unfold endsAt
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.unary_writes, Finset.mem_singleton]
      exact StableHlo.devRef_ne_of_ne (by decide))),
    Pipeline.withArrays_of_ne _ c _ _ main_arg5 (by exact (by decide : ∀ w, Pipeline.arrRef spec0 w ≠ main_arg5)),
    Pipeline.withR_of_not_mem _ _ c _ main_arg5 (by decide)]
  exact V_main_arg5 m c

theorem ends_arg6 (c : Dev nD) : endsAt m Yv c main_arg6 = m ((c : Thread nD τ).loc main_arg6) := by
  unfold endsAt
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.unary_writes, Finset.mem_singleton]
      exact StableHlo.devRef_ne_of_ne (by decide))),
    Pipeline.withArrays_of_ne _ c _ _ main_arg6 (by exact (by decide : ∀ w, Pipeline.arrRef spec0 w ≠ main_arg6)),
    Pipeline.withR_of_not_mem _ _ c _ main_arg6 (by decide)]
  exact V_main_arg6 m c

theorem ends_res (c : Dev nD) : endsAt m Yv c main_v2 = transpose S18432x1728 [1, 0] (Yv c) transposes_S1728x18432_S18432x1728_1_0 := by
  unfold endsAt
  simp only [hostOps1, List.flatten_cons, List.flatten_nil, List.append_nil, StableHlo.after_cons, StableHlo.after_nil]
  rw [StableHlo.unary_result]
  rw [Pipeline.withArrays_of_ne _ c _ _ main_v1 (by exact (by decide : ∀ w, Pipeline.arrRef spec0 w ≠ main_v1)),
    Pipeline.withR_of_mem _ _ c _ main_v1 (by decide)]
  unfold Gw; rw [Function.update_self]

/-- Every run ends with the arguments as they were, the result transposed out of `Yof`, and every semaphore at zero. -/
theorem run_of (h : ∀ c, Covers m c) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v2) = transpose S18432x1728 [1, 0] (Yof m c) transposes_S1728x18432_S18432x1728_1_0)
      ∧ r.2.sem = fun _ => 0) :=
  (θ_run defs _ _).mono (fun _ h => ⟨fun c => ⟨⟨((h.1 c).1 0).trans (((dats m (Yof m) 0 c).arrAt_in 0 rfl _).trans ((A_eq m _ c 0).trans (V_main_arg0 m c))),
      ((h.1 c).1 1).trans (((dats m (Yof m) 0 c).arrAt_in 1 rfl _).trans ((A_eq m _ c 1).trans (V_main_arg1 m c))),
      ((h.1 c).1 2).trans (((dats m (Yof m) 0 c).arrAt_in 2 rfl _).trans ((A_eq m _ c 2).trans (V_main_arg2 m c))),
      ((h.1 c).1 3).trans (((dats m (Yof m) 0 c).arrAt_in 3 rfl _).trans ((A_eq m _ c 3).trans (V_main_arg3 m c))),
      ((h.1 c).1 4).trans (((dats m (Yof m) 0 c).arrAt_in 4 rfl _).trans ((A_eq m _ c 4).trans (V_main_arg4 m c))),
      ((h.1 c).2 main_arg5 (Pipeline.mem_restRefs_of main_arg5 (by decide) (by decide))).trans (ends_arg5 m _ c),
      ((h.1 c).2 main_arg6 (Pipeline.mem_restRefs_of main_arg6 (by decide) (by decide))).trans (ends_arg6 m _ c)⟩,
      ((h.1 c).2 main_v2 (Pipeline.mem_restRefs_of main_v2 (by decide) (by decide))).trans (ends_res m _ c)⟩, h.2⟩)
    (run_main m ρ (Yof m) (fun c => rowsOf (m ((c : Thread nD τ).loc main_arg1))) (fun c => tokOf (m ((c : Thread nD τ).loc main_arg0))) fun c => fits m c (h c))

end Cert.Kernel.Hand

end
-- ==== Proof.Claims.lean ====
/- The frame claims, of the kernel at machine floats and over the extended reals. -/
module

public import proofs.«01_k».proof.Defs
public import proofs.«01_k».proof.Proof.Ends
public import proofs.«01_k».proof.Proof.Gen.KernelIdeal
public import Idealize.ShloMosaic.Lib.Pipeline.Regions

@[expose] public section

set_option maxHeartbeats 1000000

namespace Cert.Proof

open Idealize.ShloMosaic Idealize.SL.Sem

theorem frame_kernel : Cert.quiescent_Kernel (hKernel := Cert.Kernel.Gen.facts) (hPre_groups_cover := Cert.Pre_groups_cover.Gen.facts) :=
  fun m g h => (θ_run (Cert.Kernel.defs (F := Bits)) _ _).mono (fun _ h => ⟨fun c => (h.1 c).1, h.2⟩) (Cert.Kernel.Hand.run_of m g h)

/-- The ideal program is the kernel's text: its definitions unfold to the kernel's. -/
theorem main_eq : (Cert.KernelIdeal.main (F := Ideal)) = Cert.Kernel.main (F := Ideal) := by chain_rfl
theorem defs_eq : (Cert.KernelIdeal.defs (F := Ideal)) = Cert.Kernel.defs (F := Ideal) := by chain_rfl

/-- Every run of the ideal program: what `run_of` says of the kernel's text read over the extended reals. -/
theorem run_ideal (m : (ℓ : Loc Cert.KernelIdeal.nD Cert.KernelIdeal.τ Cert.KernelIdeal.sig) → Buf (Elt Ideal) ℓ) (g : Dev Cert.KernelIdeal.nD → PrngReg)
    (h : ∀ c, Cert.Kernel.Hand.Covers (F := Ideal) m c) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      (r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v2)
        = transpose Cert.Kernel.S18432x1728 [1, 0] (Cert.Kernel.Hand.Yof (F := Ideal) m c) Cert.Kernel.Gen.transposes_S1728x18432_S18432x1728_1_0)
      ∧ r.2.sem = fun _ => 0) := by
  have h := Cert.Kernel.Hand.run_of (F := Ideal) m g h
  rw [← main_eq, ← defs_eq] at h
  exact h

theorem frame_ideal : Cert.quiescent_KernelIdeal (hKernelIdeal := Cert.KernelIdeal.Gen.facts) (hPre_groups_cover := Cert.Pre_groups_cover.Gen.facts) :=
  fun m g h => (θ_run (Cert.KernelIdeal.defs (F := Ideal)) _ _).mono (fun _ h => ⟨fun c => (h.1 c).1, h.2⟩) (run_ideal m g h)

end Cert.Proof
-- ==== Proof.Nibble.lean ====
/-
  Four-bit floating point codes and the bytes they are packed in: the two ways of decoding a code give one number, and the shifts
  and masks that take a byte out of a word, or a code out of a byte.
-/
module

public import Idealize.ShloMosaic.Lib.Pointwise
public import Idealize.ShloMosaic.Lib.IdealHost

@[expose] public section

set_option maxRecDepth 16384

noncomputable section

namespace Cert.Proof.Nibble

open Idealize.ShloMosaic

/-! ## Bytes and nibbles -/

/-- The low four bits of a byte. -/
def lo (b : BitVec 8) : BitVec 4 := b.setWidth 4
/-- The high four bits of a byte. -/
def hi (b : BitVec 8) : BitVec 4 := b.extractLsb' 4 4
/-- Byte `k` of a word. -/
def byteOf (w : BitVec 32) (k : ℕ) : BitVec 8 := w.extractLsb' (8 * k) 8

theorem lo_widened : ∀ b : BitVec 8, IntOp.andi (b.setWidth 32) 15#32 = (lo b).setWidth 32 := by decide +kernel
theorem hi_widened : ∀ b : BitVec 8, IntOp.shrsi .vector (b.setWidth 32) 4#32 = (hi b).setWidth 32 := by decide +kernel

/-- A word shifted down by `8 k` and masked to eight bits is its byte `k`, widened. -/
theorem shifted_byte (w : BitVec 32) (s : BitVec 32) (k : ℕ) (hk : k < 4) (hs : s.toNat = 8 * k) :
    IntOp.andi (IntOp.shrsi .vector w s) 255#32 = (byteOf w k).setWidth 32 := by
  have hlt : s.toNat < 32 := by omega
  have e : IntOp.shrsi .vector w s = w.sshiftRight (8 * k) := by
    unfold IntOp.shrsi
    rw [if_pos hlt, BitVec.sshiftRight', hs]
  rw [e]
  apply BitVec.eq_of_getLsbD_eq
  intro i hi
  have h255 : (255#32 : BitVec 32).getLsbD i = decide (i < 8) := by
    have : i < 32 := hi
    interval_cases i <;> rfl
  simp only [IntOp.andi, BitVec.getLsbD_and, h255, byteOf, BitVec.getLsbD_setWidth,
    BitVec.getLsbD_sshiftRight, BitVec.getLsbD_extractLsb']
  by_cases h : i < 8
  · have h1 : 8 * k + i < 32 := by omega
    simp [h, hi, h1, show ¬ 32 ≤ i by omega]
  · simp [h]

/-- The byte itself, from the masked word. -/
theorem shifted_byte8 (w : BitVec 32) (s : BitVec 32) (k : ℕ) (hk : k < 4) (hs : s.toNat = 8 * k) :
    (IntOp.andi (IntOp.shrsi .vector w s) 255#32).setWidth 8 = byteOf w k := by
  rw [shifted_byte w s k hk hs]
  simp

/-! ## The decoded code -/

/-- Twice the magnitude of a code. -/
def twice (n : BitVec 4) : ℤ := [0, 1, 2, 3, 4, 6, 8, 12].getD (n.toNat % 8) 0

/-- The number a code stands for. -/
def e2m1 (n : BitVec 4) : EReal :=
  if 8 ≤ n.toNat then -(((twice n : ℝ) / 2 : ℝ) : EReal) else (((twice n : ℝ) / 2 : ℝ) : EReal)

/-- Twice the magnitude, computed from exponent and mantissa bits by shifts. -/
def shiftInt (n : BitVec 4) : BitVec 32 :=
  Scalar.select (IntOp.cmpi .slt (IntOp.andi (n.signExtend 32) 7#32) 4#32) (IntOp.andi (n.signExtend 32) 7#32)
    (IntOp.shli .vector (IntOp.ori 2#32 (IntOp.andi (IntOp.andi (n.signExtend 32) 7#32) 1#32))
      (IntOp.subi (IntOp.shrsi .vector (IntOp.andi (n.signExtend 32) 7#32) 1#32) 1#32))

/-- The decoding by shifts. -/
def shiftDec (n : BitVec 4) : Ideal .f32 :=
  Scalar.select (IntOp.cmpi .slt (n.signExtend 32) 0#32)
    (0 - (FloatOps.sitofp (F := Ideal) .f32 (shiftInt n) * Ideal.ofBits FTy.f32 1056964608#32 : EReal))
    (FloatOps.sitofp (F := Ideal) .f32 (shiftInt n) * Ideal.ofBits FTy.f32 1056964608#32 : EReal)

/-- The decoding by bit tests. -/
def treeDec (x : BitVec 32) : EReal :=
  let b (k : BitVec 32) : BitVec 1 := IntOp.cmpi .ne (IntOp.andi x k) 0#32
  let mag : EReal :=
    Scalar.select (b 4#32)
      (Scalar.select (b 2#32)
        (Scalar.select (b 1#32) (Ideal.ofBits FTy.f32 0x40C00000#32) (Ideal.ofBits FTy.f32 0x40800000#32))
        (Scalar.select (b 1#32) (Ideal.ofBits FTy.f32 0x40400000#32) (Ideal.ofBits FTy.f32 0x40000000#32)))
      (Scalar.select (b 2#32)
        (Scalar.select (b 1#32) (Ideal.ofBits FTy.f32 0x3FC00000#32) 1)
        (Scalar.select (b 1#32) (Ideal.ofBits FTy.f32 0x3F000000#32) 0))
  Scalar.select (b 8#32) (0 - mag) mag

theorem half : Ideal.ofBits FTy.f32 0x3F000000#32 = (((1 / 2 : ℝ)) : EReal) := by
  simp [Ideal.ofBits, Ideal.ieee, -EReal.coe_mul]; norm_num
theorem c6 : Ideal.ofBits FTy.f32 0x40C00000#32 = ((6 : ℝ) : EReal) := by simp [Ideal.ofBits, Ideal.ieee, -EReal.coe_mul]; norm_num
theorem c4 : Ideal.ofBits FTy.f32 0x40800000#32 = ((4 : ℝ) : EReal) := by simp [Ideal.ofBits, Ideal.ieee, -EReal.coe_mul]; norm_num
theorem c3 : Ideal.ofBits FTy.f32 0x40400000#32 = ((3 : ℝ) : EReal) := by simp [Ideal.ofBits, Ideal.ieee, -EReal.coe_mul]; norm_num
theorem c2 : Ideal.ofBits FTy.f32 0x40000000#32 = ((2 : ℝ) : EReal) := by simp [Ideal.ofBits, Ideal.ieee, -EReal.coe_mul]; norm_num
theorem c32 : Ideal.ofBits FTy.f32 0x3FC00000#32 = ((3 / 2 : ℝ) : EReal) := by simp [Ideal.ofBits, Ideal.ieee, -EReal.coe_mul]; norm_num

theorem shiftInt_toInt : ∀ n : BitVec 4, (shiftInt n).toInt = twice n := by decide +kernel
theorem sign_bit : ∀ n : BitVec 4, IntOp.cmpi .slt (n.signExtend 32) 0#32 = if 8 ≤ n.toNat then 1#1 else 0#1 := by decide +kernel

theorem shiftDec_eq (n : BitVec 4) : shiftDec n = e2m1 n := by
  have h : (FloatOps.sitofp (F := Ideal) .f32 (shiftInt n) * Ideal.ofBits FTy.f32 1056964608#32 : EReal) = (((twice n : ℝ) / 2 : ℝ) : EReal) := by
    rw [half]
    show (((shiftInt n).toInt : ℝ) : EReal) * _ = _
    rw [shiftInt_toInt, ← EReal.coe_mul]
    congr 1; ring
  unfold shiftDec e2m1
  rw [h, sign_bit, zero_sub]
  split <;> rfl

/-- A bit test of a widened code, by the code's number. -/
theorem bit_test : ∀ n : BitVec 4, ∀ k ∈ [8, 4, 2, 1],
    IntOp.cmpi .ne (IntOp.andi (n.setWidth 32) (BitVec.ofNat 32 k)) 0#32 = if n.toNat / k % 2 = 1 then 1#1 else 0#1 := by decide +kernel

theorem select_ite {α : Type} (p : Prop) [Decidable p] (a b : α) : Scalar.select (if p then 1#1 else 0#1) a b = if p then a else b := by
  split <;> rfl

theorem treeDec_eq (n : BitVec 4) : treeDec (n.setWidth 32) = e2m1 n := by
  unfold treeDec e2m1 twice
  simp only [show ∀ n : BitVec 4, _ from fun n => bit_test n 8 (by decide), show ∀ n : BitVec 4, _ from fun n => bit_test n 4 (by decide),
    show ∀ n : BitVec 4, _ from fun n => bit_test n 2 (by decide), show ∀ n : BitVec 4, _ from fun n => bit_test n 1 (by decide),
    c6, c4, c3, c2, c32, half, zero_sub, select_ite]
  have hn := n.isLt
  generalize n.toNat = v at hn
  interval_cases v <;> norm_num

end Cert.Proof.Nibble
-- ==== Proof.RefDecoded.lean ====
/- The reference's decoded operands over the extended reals, entry by entry. -/
module

public import proofs.«01_k».proof.Proof.Gen.ReferenceIdeal.Run
public import proofs.«01_k».proof.Proof.Nibble
public import Idealize.ShloMosaic.Lib.Pipeline.ValueKit

@[expose] public section

set_option maxRecDepth 16384
set_option maxHeartbeats 1000000

noncomputable section

namespace Cert.ReferenceIdeal.Hand

open Cert.ReferenceIdeal Cert.ReferenceIdeal.Gen
open Cert.Proof.Nibble
open Idealize.ShloMosaic Idealize.ShloMosaic.TcCoe

/-- Entry `j` of a row reads block scale `j / 8`. -/
abbrev blk (j : Fin 1280) : Fin 160 := ⟨j.val / 8, by have := j.isLt; omega⟩

/-! ## The four stored values -/

theorem aEven_apply (x : Vec Ideal S18432x1280 .i32) (s : Vec Ideal S18432x160 .fp8e4m3) (p : Fin 18432) (j : Fin 1280) :
    k0_pay12 (k0_pay3 s) (k0_pay5 x) (k0_pay6 x) (k0_pay7 x) (k0_pay9 x) (k0_pay10 x) (k0_pay11 x) (ix2 p j)
      = (treeDec (IntOp.andi (x (ix2 p j)) 15#32) * s (ix2 p (blk j)) : EReal) := by
  pointwise [k0_pay12, k0_pay3, k0_pay5, k0_pay6, k0_pay7, k0_pay8, k0_pay9, k0_pay10, k0_pay11, k0_pay4, k0_pay2]
  rfl

theorem aOdd_apply (x : Vec Ideal S18432x1280 .i32) (s : Vec Ideal S18432x160 .fp8e4m3) (p : Fin 18432) (j : Fin 1280) :
    k0_pay21 (k0_pay3 s) (k0_pay14 (k0_pay2 x)) (k0_pay15 (k0_pay2 x)) (k0_pay16 (k0_pay2 x)) (k0_pay18 (k0_pay2 x)) (k0_pay19 (k0_pay2 x))
        (k0_pay20 (k0_pay2 x)) (ix2 p j)
      = (treeDec (IntOp.shrsi .vector (x (ix2 p j)) 4#32) * s (ix2 p (blk j)) : EReal) := by
  pointwise [k0_pay21, k0_pay3, k0_pay14, k0_pay15, k0_pay16, k0_pay17, k0_pay18, k0_pay19, k0_pay20, k0_pay13, k0_pay2]
  rfl

theorem wLow_apply (C : Vec Ideal S11x1280x1728 .i8) (s : Vec Ideal S11x160x1728 .fp8e4m3) (e : Fin 11) (j : Fin 1280) (f : Fin 1728) :
    k0_pay31 (k0_pay23 s) (k0_pay25 C) (k0_pay26 C) (k0_pay27 C) (k0_pay28 C) (k0_pay29 C) (Scalar.ofBits .f32 0x40000000#32) k0_pay30 (ix3 e j f)
      = (treeDec (IntOp.andi ((C (ix3 e j f)).setWidth 32) 15#32) * s (ix3 e (blk j) f) : EReal) := by
  pointwise [k0_pay31, k0_pay23, k0_pay25, k0_pay26, k0_pay27, k0_pay28, k0_pay29, k0_pay30, k0_pay24, k0_pay22]
  rfl

theorem wHigh_apply (C : Vec Ideal S11x1280x1728 .i8) (s : Vec Ideal S11x160x1728 .fp8e4m3) (e : Fin 11) (j : Fin 1280) (f : Fin 1728) :
    k0_pay1 (k0_pay23 s) (k0_pay33 (k0_pay22 C)) (k0_pay34 (k0_pay22 C)) (k0_pay35 (k0_pay22 C)) (k0_pay36 (k0_pay22 C)) (k0_pay37 (k0_pay22 C))
        (Scalar.ofBits .f32 0x40400000#32) (Scalar.ofBits .f32 0x40000000#32) (ix3 e j f)
      = (treeDec (IntOp.shrsi .vector ((C (ix3 e j f)).setWidth 32) 4#32) * s (ix3 e (blk j) f) : EReal) := by
  pointwise [k0_pay1, k0_pay23, k0_pay33, k0_pay34, k0_pay35, k0_pay36, k0_pay37, k0_pay32, k0_pay22]
  rfl

end Cert.ReferenceIdeal.Hand
-- ==== Proof.RefRegion.lean ====
/- What the reference's one region leaves in its four result arrays. -/
module

public import proofs.«01_k».proof.Proof.RefDecoded

@[expose] public section

set_option maxRecDepth 16384
set_option maxHeartbeats 1000000

noncomputable section

namespace Cert.ReferenceIdeal.Hand

open Cert.ReferenceIdeal Cert.ReferenceIdeal.Gen
open Cert.Proof.Nibble
open Idealize.ShloMosaic Idealize.ShloMosaic.TcCoe

variable (m : (ℓ : Loc nD τ sig) → Buf (Elt Ideal) ℓ) (c : Dev nD)

/-! ## Every window's one block is its whole array -/

theorem idx_0 : ∀ (t : Fin grid0.N) (a : Fin 2), win0_0.index t a = 0 := by decide +kernel
theorem idx_1 : ∀ (t : Fin grid0.N) (a : Fin 2), win0_1.index t a = 0 := by decide +kernel
theorem idx_2 : ∀ (t : Fin grid0.N) (a : Fin 3), win0_2.index t a = 0 := by decide +kernel
theorem idx_3 : ∀ (t : Fin grid0.N) (a : Fin 3), win0_3.index t a = 0 := by decide +kernel
theorem idx_4 : ∀ (t : Fin grid0.N) (a : Fin 2), win0_4.index t a = 0 := by decide +kernel
theorem idx_5 : ∀ (t : Fin grid0.N) (a : Fin 2), win0_5.index t a = 0 := by decide +kernel
theorem idx_6 : ∀ (t : Fin grid0.N) (a : Fin 3), win0_6.index t a = 0 := by decide +kernel
theorem idx_7 : ∀ (t : Fin grid0.N) (a : Fin 3), win0_7.index t a = 0 := by decide +kernel

/-- The rows' codes as the region finds them. -/
def xIn : S18432x1280.Idx → BitVec 32 := V m c (Pipeline.arrRef spec0 0)
/-- The rows' scales as the region finds them. -/
def sIn : S18432x160.Idx → EReal := V m c (Pipeline.arrRef spec0 1)

theorem iblk_0 (t : Fin cfg0.N) : iblk m c 0 t = xIn m c := funext fun y =>
  congrArg (xIn m c) (by
    blk_simp
    exact funext fun a => Fin.ext (by blk_simp; rw [idx_0]; omega))
theorem iblk_1 (t : Fin cfg0.N) : iblk m c 1 t = sIn m c := funext fun y =>
  congrArg (sIn m c) (by
    blk_simp
    exact funext fun a => Fin.ext (by blk_simp; rw [idx_1]; omega))
theorem iblk_2 (t : Fin cfg0.N) : iblk m c 2 t = m ((c.tc : Thread nD τ).loc main_arg5) := by
  rw [← V_main_arg5 m c]
  exact funext fun y => congrArg (V m c main_arg5) (by
    blk_simp
    exact funext fun a => Fin.ext (by blk_simp; rw [idx_2]; omega))
theorem iblk_3 (t : Fin cfg0.N) : iblk m c 3 t = m ((c.tc : Thread nD τ).loc main_arg6) := by
  rw [← V_main_arg6 m c]
  exact funext fun y => congrArg (V m c main_arg6) (by
    blk_simp
    exact funext fun a => Fin.ext (by blk_simp; rw [idx_3]; omega))

theorem zero2 : (![0, 0] : Fin 2 → ℕ) = fun _ => 0 := by decide
theorem zero3 : (![0, 0, 0] : Fin 3 → ℕ) = fun _ => 0 := by decide
theorem ld_0 (X : Vec Ideal S18432x1280 .i32) : View.ld X r0_0 = X := View.ld_unit_zero zero2 _ X
theorem ld_1 (X : Vec Ideal S18432x160 .fp8e4m3) : View.ld X r0_1 = X := View.ld_unit_zero zero2 _ X
theorem ld_2 (X : Vec Ideal S11x1280x1728 .i8) : View.ld X r0_2 = X := View.ld_unit_zero zero3 _ X
theorem ld_3 (X : Vec Ideal S11x160x1728 .fp8e4m3) : View.ld X r0_3 = X := View.ld_unit_zero zero3 _ X

/-! ## The arrays -/

theorem region_aEven (p : Fin 18432) (j : Fin 1280) : Value.reg_main_v25_0 m c (ix2 p j)
    = (treeDec (IntOp.andi (xIn m c (ix2 p j)) 15#32) * sIn m c (ix2 p (blk j)) : EReal) := by
  have h : Value.reg_main_v25_0 m c = (fun i => treeDec (IntOp.andi (xIn m c i) 15#32) * sIn m c (ix2 (i 0) (blk (i 1))) : S18432x1280.Idx → EReal) := by
    refine (dats m 0 c).arrAt_eq_of_covers 4 _ (by decide +kernel) fun t hf y => ?_
    have e : (win0_4.blk t).view.emb y = y := funext fun a => Fin.ext (by blk_simp; rw [idx_4]; omega)
    rw [e]
    blk_simp
    rw [after0_4]
    frame_out
    rw [iblk_0, iblk_1, iblk_2, iblk_3]
    simp only [k0_pay38, k0_pay39, k0_pay40, k0_pay41, ld_0, ld_1, ld_2, ld_3]
    have ey : y = ix2 (y 0) (y 1) := by funext a; match a with
      | ⟨0, _⟩ => rfl | ⟨1, _⟩ => rfl
    rw [ey]
    exact aEven_apply _ _ _ _
  rw [h]
  rfl

theorem region_aOdd (p : Fin 18432) (j : Fin 1280) : Value.reg_main_v25_1 m c (ix2 p j)
    = (treeDec (IntOp.shrsi .vector (xIn m c (ix2 p j)) 4#32) * sIn m c (ix2 p (blk j)) : EReal) := by
  have h : Value.reg_main_v25_1 m c = (fun i => treeDec (IntOp.shrsi .vector (xIn m c i) 4#32) * sIn m c (ix2 (i 0) (blk (i 1))) : S18432x1280.Idx → EReal) := by
    refine (dats m 0 c).arrAt_eq_of_covers 5 _ (by decide +kernel) fun t hf y => ?_
    have e : (win0_5.blk t).view.emb y = y := funext fun a => Fin.ext (by blk_simp; rw [idx_5]; omega)
    rw [e]
    blk_simp
    rw [after0_5]
    frame_out
    rw [iblk_0, iblk_1, iblk_2, iblk_3]
    simp only [k0_pay38, k0_pay39, k0_pay40, k0_pay41, ld_0, ld_1, ld_2, ld_3]
    have ey : y = ix2 (y 0) (y 1) := by funext a; match a with
      | ⟨0, _⟩ => rfl | ⟨1, _⟩ => rfl
    rw [ey]
    exact aOdd_apply _ _ _ _
  rw [h]
  rfl

theorem region_wLow (e : Fin 11) (j : Fin 1280) (f : Fin 1728) : Value.reg_main_v25_2 m c (ix3 e j f)
    = (treeDec (IntOp.andi (((show S11x1280x1728.Idx → BitVec 8 from m ((c.tc : Thread nD τ).loc main_arg5)) (ix3 e j f)).setWidth 32) 15#32) * (show S11x160x1728.Idx → EReal from m ((c.tc : Thread nD τ).loc main_arg6)) (ix3 e (blk j) f) : EReal) := by
  have h : Value.reg_main_v25_2 m c = (fun i => treeDec (IntOp.andi (((show S11x1280x1728.Idx → BitVec 8 from m ((c.tc : Thread nD τ).loc main_arg5)) i).setWidth 32) 15#32) * (show S11x160x1728.Idx → EReal from m ((c.tc : Thread nD τ).loc main_arg6)) (ix3 (i 0) (blk (i 1)) (i 2)) : S11x1280x1728.Idx → EReal) := by
    refine (dats m 0 c).arrAt_eq_of_covers 6 _ (by decide +kernel) fun t hf y => ?_
    have e : (win0_6.blk t).view.emb y = y := funext fun a => Fin.ext (by blk_simp; rw [idx_6]; omega)
    rw [e]
    blk_simp
    rw [after0_6]
    frame_out
    rw [iblk_0, iblk_1, iblk_2, iblk_3]
    simp only [k0_pay38, k0_pay39, k0_pay40, k0_pay41, ld_0, ld_1, ld_2, ld_3]
    have ey : y = ix3 (y 0) (y 1) (y 2) := by funext a; match a with
      | ⟨0, _⟩ => rfl | ⟨1, _⟩ => rfl | ⟨2, _⟩ => rfl
    rw [ey]
    exact wLow_apply _ _ _ _ _
  rw [h]
  rfl

theorem region_wHigh (e : Fin 11) (j : Fin 1280) (f : Fin 1728) : Value.reg_main_v25_3 m c (ix3 e j f)
    = (treeDec (IntOp.shrsi .vector (((show S11x1280x1728.Idx → BitVec 8 from m ((c.tc : Thread nD τ).loc main_arg5)) (ix3 e j f)).setWidth 32) 4#32) * (show S11x160x1728.Idx → EReal from m ((c.tc : Thread nD τ).loc main_arg6)) (ix3 e (blk j) f) : EReal) := by
  have h : Value.reg_main_v25_3 m c = (fun i => treeDec (IntOp.shrsi .vector (((show S11x1280x1728.Idx → BitVec 8 from m ((c.tc : Thread nD τ).loc main_arg5)) i).setWidth 32) 4#32) * (show S11x160x1728.Idx → EReal from m ((c.tc : Thread nD τ).loc main_arg6)) (ix3 (i 0) (blk (i 1)) (i 2)) : S11x1280x1728.Idx → EReal) := by
    refine (dats m 0 c).arrAt_eq_of_covers 7 _ (by decide +kernel) fun t hf y => ?_
    have e : (win0_7.blk t).view.emb y = y := funext fun a => Fin.ext (by blk_simp; rw [idx_7]; omega)
    rw [e]
    blk_simp
    rw [after0_7]
    frame_out
    rw [iblk_0, iblk_1, iblk_2, iblk_3]
    simp only [k0_pay38, k0_pay39, k0_pay40, k0_pay41, ld_0, ld_1, ld_2, ld_3]
    have ey : y = ix3 (y 0) (y 1) (y 2) := by funext a; match a with
      | ⟨0, _⟩ => rfl | ⟨1, _⟩ => rfl | ⟨2, _⟩ => rfl
    rw [ey]
    exact wHigh_apply _ _ _ _ _
  rw [h]
  rfl

end Cert.ReferenceIdeal.Hand
-- ==== Proof.RefHost.lean ====
/- What the reference hands its region: the unpacked codes and scales of each row's token. -/
module

public import proofs.«01_k».proof.Proof.RefRegion
public import Idealize.ShloMosaic.Lib.Routing.Ops
public import Idealize.ShloMosaic.Lib.Routing.OpsPair

@[expose] public section

set_option maxRecDepth 16384
set_option maxHeartbeats 2000000

noncomputable section

namespace Cert.ReferenceIdeal.Hand

open Cert.ReferenceIdeal Cert.ReferenceIdeal.Gen
open Cert.Proof.Nibble
open Idealize.ShloMosaic Idealize.ShloMosaic.TcCoe Idealize.ShloMosaic.StableHlo

/-- Every activation word's four bytes, each group of 128 words giving 512 positions. -/
def unpacked (A : S9216x384.Idx → BitVec 32) : S9216x1536.Idx → BitVec 32 :=
  shapeCast S9216x1536
    (andi
      (Host.shrsi
        (broadcastInDim S9216x3x4x128 ![0, 1, 2, 3] bcast_S9216x3x1x128_S9216x3x4x128_0_1_2_3
          (shapeCast S9216x3x1x128 A shapeCasts_S9216x384_S9216x3x1x128))
        (broadcastInDim S9216x3x4x128 ![0, 1, 2, 3] bcast_S1x1x4x1_S9216x3x4x128_0_1_2_3
          (shapeCast S1x1x4x1 (muli (broadcastInDim S4 ![] bcast_S_S4 (constantI S_ 32 8#32)) (iotaInDim S4 32 0)) shapeCasts_S4_S1x1x4x1)))
      (broadcastInDim S9216x3x4x128 ![] bcast_S_S9216x3x4x128 (constantI S_ 32 255#32)))
    shapeCasts_S9216x3x4x128_S9216x1536

/-- An index vector with negative entries wrapped, as a column. -/
def wrapped (n : BitVec 32) (x : S18432.Idx → BitVec 32) : S18432x1.Idx → BitVec 32 :=
  broadcastInDim S18432x1 ![0] bcast_S18432_S18432x1_0
    (select (cmpi .slt x (broadcastInDim S18432 ![] bcast_S_S18432 (constantI S_ 32 0#32)))
      (addi x (broadcastInDim S18432 ![] bcast_S_S18432 (constantI S_ 32 n))) x)

theorem wrapped_apply (n : BitVec 32) (x : S18432.Idx → BitVec 32) (p : Fin 18432) (b : ℕ) (hb : b < 2 ^ 31) (h : x (ix1 p) = BitVec.ofNat 32 b) :
    wrapped n x (ix2 p 0) = BitVec.ofNat 32 b := by
  have e : wrapped n x (ix2 p 0) = Scalar.select (IntOp.cmpi .slt (x (ix1 p)) 0#32) (IntOp.addi (x (ix1 p)) n) (x (ix1 p)) := by
    pointwise [wrapped]
  rw [e, h]
  exact Routing.wrap_of_lt _ _ (by rw [BitVec.toNat_ofNat]; omega)

theorem shrsi_host (x s : BitVec 32) (hs : s.toNat < 32) : IntOp.shrsi .host x s = IntOp.shrsi .vector x s := by
  unfold IntOp.shrsi
  simp_all

theorem unpacked_apply (A : S9216x384.Idx → BitVec 32) (t : Fin 9216) (k : Fin 1536) :
    unpacked A (ix2 t k) = (byteOf (A (ix2 t ⟨128 * (k.val / 512) + k.val % 128, by omega⟩)) (k.val % 512 / 128)).setWidth 32 := by
  have e : unpacked A (ix2 t k) = IntOp.andi (IntOp.shrsi .host (A (ix2 t ⟨128 * (k.val / 512) + k.val % 128, by omega⟩))
      (8#32 * BitVec.ofNat 32 (k.val % 512 / 128))) 255#32 := by
    unfold unpacked
    refine (shapeCast_apply _ _ _ (ix4 t ⟨k.val / 512, by omega⟩ ⟨k.val % 512 / 128, by omega⟩ ⟨k.val % 128, by omega⟩ : S9216x3x4x128.Idx) ?_).trans ?_
    · rw [Shape.rowMajor_val_two, Shape.rowMajor_val_four]
      show ((t.val * 3 + k.val / 512) * 4 + k.val % 512 / 128) * 128 + k.val % 128 = t.val * 1536 + k.val
      omega
    · pointwise []
      rw [show (⟨k.val / 512 * 128 + k.val % 128, by omega⟩ : Fin 384) = ⟨128 * (k.val / 512) + k.val % 128, by omega⟩ from Fin.ext (by dsimp only; omega)]
      rfl
  have hs : (8#32 * BitVec.ofNat 32 (k.val % 512 / 128)).toNat = 8 * (k.val % 512 / 128) := by
    have := k.isLt
    rw [BitVec.toNat_mul, BitVec.toNat_ofNat, BitVec.toNat_ofNat]
    omega
  rw [e, shrsi_host _ _ (by omega)]
  exact shifted_byte _ _ _ (by omega) hs

variable (m : (ℓ : Loc nD τ sig) → Buf (Elt Ideal) ℓ) (c : Dev nD)

/-- The rows' unpacked words. -/
def rowBytes : S18432x1536.Idx → BitVec 32 :=
  Host.gather gather_S9216x1536_S18432x1_S18432x1536_1_0_n_n_0_1_11536 (unpacked (m ((c.tc : Thread nD τ).loc main_arg4)))
    (wrapped 9216#32 (m ((c.tc : Thread nD τ).loc main_arg0)))

theorem xIn_eq : xIn m c = extractStridedSlice S18432x1280 ![0, 0] (rowBytes m c) slices_S18432x1536_S18432x1280_0_0 := by
  unfold xIn
  show Gen.V0 m c (Proc.devRef .tc main_v21) = _
  simp only [Gen.V0, Gen.hostOps0, Gen.hostOps0_1, Gen.hostOps0_2, Gen.hostOps0_3, Gen.hostOps0_4, TRef.binary, TRef.nullary, TRef.unary, TRef.toBuf, TRef.ofBuf, cast_eq, List.flatten_cons, List.flatten_nil, List.append_nil, List.cons_append, List.nil_append]
  after_results_simp <;> rfl

theorem sIn_eq : sIn m c = bitcastToFloat (F := Ideal) .fp8e4m3 (trunci 8 (extractStridedSlice S18432x160 ![0, 1280] (rowBytes m c) slices_S18432x1536_S18432x160_0_1280) natLt_8_32) := by
  unfold sIn
  show Gen.V0 m c (Proc.devRef .tc main_v24) = _
  simp only [Gen.V0, Gen.hostOps0, Gen.hostOps0_1, Gen.hostOps0_2, Gen.hostOps0_3, Gen.hostOps0_4, TRef.binary, TRef.nullary, TRef.unary, TRef.toBuf, TRef.ofBuf, cast_eq, List.flatten_cons, List.flatten_nil, List.append_nil, List.cons_append, List.nil_append]
  after_results_simp <;> rfl

section rows

variable (p : Fin 18432) (t : Fin 9216)
  (ht : (show S18432.Idx → BitVec 32 from m ((c.tc : Thread nD τ).loc main_arg0)) (ix1 p) = BitVec.ofNat 32 t.val)

include ht

theorem rowBytes_apply (k : Fin 1536) : rowBytes m c (ix2 p k) = unpacked (m ((c.tc : Thread nD τ).loc main_arg4)) (ix2 t k) := by
  have hb := wrapped_apply 9216#32 _ p t.val (by omega) ht
  unfold rowBytes
  rw [ix2_eq_valueIdx] at hb
  rw [ix2_eq_valueIdx, ix2_eq_valueIdx]
  exact Routing.gather_row gather_S9216x1536_S18432x1_S18432x1536_1_0_n_n_0_1_11536 rfl rfl rfl rfl rfl _ _ p k t hb (by decide)

/-- A row's code, as a word. -/
theorem xIn_apply (j : Fin 1280) : xIn m c (ix2 p j)
    = (byteOf ((show S9216x384.Idx → BitVec 32 from m ((c.tc : Thread nD τ).loc main_arg4)) (ix2 t ⟨128 * (j.val / 512) + j.val % 128, by omega⟩))
        (j.val / 128 % 4)).setWidth 32 := by
  have e : xIn m c (ix2 p j) = rowBytes m c (ix2 p ⟨j.val, by omega⟩) := by
    rw [xIn_eq]
    pointwise []
  rw [e, rowBytes_apply m c p t ht, unpacked_apply]
  exact congrArg (fun z => (byteOf _ z).setWidth 32) (by show j.val % 512 / 128 = j.val / 128 % 4; omega)

/-- A row's scale. -/
theorem sIn_apply (s : Fin 160) : sIn m c (ix2 p s)
    = Ideal.ofBits .fp8e4m3 (byteOf ((show S9216x384.Idx → BitVec 32 from m ((c.tc : Thread nD τ).loc main_arg4)) (ix2 t ⟨256 + s.val % 128, by omega⟩))
        (2 + s.val / 128)) := by
  have e : sIn m c (ix2 p s) = Ideal.ofBits .fp8e4m3 ((rowBytes m c (ix2 p ⟨1280 + s.val, by omega⟩)).setWidth 8) := by
    rw [sIn_eq]
    pointwise []
  have h8 : ∀ b : BitVec 8, (b.setWidth 32).setWidth 8 = b := by decide
  rw [e, rowBytes_apply m c p t ht, unpacked_apply, h8]
  have e1 : (⟨128 * ((1280 + s.val) / 512) + (1280 + s.val) % 128, by omega⟩ : Fin 384) = ⟨256 + s.val % 128, by omega⟩ := Fin.ext (by show _ = _; dsimp only; omega)
  have e2 : (1280 + s.val) % 512 / 128 = 2 + s.val / 128 := by omega
  dsimp only
  rw [e1, e2]

end rows

end Cert.ReferenceIdeal.Hand
-- ==== Proof.RowExpert.lean ====
/- The expert the reference finds for a row: the number of groups that end at or before it. -/
module

public import proofs.«01_k».proof.Proof.RefHost
public import proofs.«01_k».proof.Proof.Ends
public import Idealize.ShloMosaic.Lib.Routing.OpsSearch
public import Idealize.ShloMosaic.Lib.Routing.OpsSet

@[expose] public section

set_option maxRecDepth 16384
set_option maxHeartbeats 1000000

noncomputable section

namespace Cert.ReferenceIdeal.Hand

open Cert.ReferenceIdeal Cert.ReferenceIdeal.Gen
open Cert.Proof.Groups
open Idealize.ShloMosaic Idealize.ShloMosaic.TcCoe
open Idealize.ShloMosaic.Routing (shape0 shape1 shape2 shape3 card_filter_fin)

/-! ## Counting down a column -/

/-- The sum down the columns of a widened `[N, a]` mask counts, at `p`, the rows whose bit is set there. -/
theorem reduce_count_rows {N a : Nat} (hN : N < 2 ^ 32) (msk : IVec (shape2 N a) 1) (hw : 1 < 32) (h : (shape2 N a).ReducesTo [0] (shape1 a))
    (hu : 0 < shape0.numel) (p : Fin a) (Q : Nat → Prop) [DecidablePred Q] (hQ : ∀ j : Fin N, msk (ValueIdx.ix2 j p) = 1#1 ↔ Q j.val) :
    Host.reduce IntOp.addi (extui 32 msk hw) (constantI shape0 32 0#32) h hu (ValueIdx.ix1 p) = BitVec.ofNat 32 (Nat.count Q N) := by
  classical
  have hval : ∀ i, (extui 32 msk hw i).toNat = if msk i = 1#1 then 1 else 0 := fun i => StableHlo.Predicate.toNat_setWidth_bit (msk i)
  have hdrop : ∀ i : (shape2 N a).Idx, h.drop i = ValueIdx.ix1 p ↔ i 1 = p := by
    intro i
    have hv0 : (h.drop i 0 : Nat) = i 1 := Shape.ReducesTo.drop_apply_val h i 0
    constructor
    · intro e
      rw [e] at hv0
      exact Fin.ext hv0.symm
    · intro e1
      funext c
      match c with
      | ⟨0, _⟩ => exact Fin.ext (hv0.trans (congrArg Fin.val e1))
  have hback : ∀ i : (shape2 N a).Idx, i 1 = p → ValueIdx.ix2 (i 0) p = i := fun i hi => by
    funext c
    match c with
    | ⟨0, _⟩ => rfl
    | ⟨1, _⟩ => exact hi.symm
  have hsum : ∑ i ∈ Finset.univ.filter (fun i : (shape2 N a).Idx => h.drop i = ValueIdx.ix1 p), (extui 32 msk hw i).toNat
      = (Finset.univ.filter (fun j : Fin N => msk (ValueIdx.ix2 j p) = 1#1)).card := by
    rw [Finset.card_filter]
    refine Finset.sum_bij' (fun i _ => i 0) (fun j _ => ValueIdx.ix2 j p) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (shape2 N a).Idx => h.drop i = ValueIdx.ix1 p)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← card_filter_fin N Q]
  exact congrArg Finset.card (Finset.filter_congr fun j _ => hQ j)

/-! ## The groups' ends -/

theorem sum_range_eq_off (G : ℕ → ℕ) (k : ℕ) : ((List.range k).map G).sum = off G k := by
  induction k with
  | zero => rfl
  | succ k ih => rw [List.range_succ, List.map_append, List.sum_append, ih, off]; simp

/-- Every row before the last group's end lies in one group. -/
theorem exists_group (G : ℕ → ℕ) (n p : ℕ) (h : p < off G n) : ∃ x < n, off G x ≤ p ∧ p < off G x + G x := by
  induction n with
  | zero => exact absurd h (Nat.not_lt_zero _)
  | succ n ih =>
    by_cases hp : p < off G n
    · obtain ⟨x, hx, h1⟩ := ih hp
      exact ⟨x, by omega, h1⟩
    · exact ⟨n, by omega, by omega, h⟩

theorem count_lt_self {x n : ℕ} (h : x ≤ n) : Nat.count (fun j => j < x) n = x := by
  rw [Nat.count_eq_card_filter_range]
  rw [show (Finset.range n).filter (fun j => j < x) = Finset.range x from by ext j; simp; omega, Finset.card_range]

/-- As many groups end at or before a row as its own group's number. -/
theorem count_ends (G : ℕ → ℕ) (n p x : ℕ) (hx : x < n) (h1 : off G x ≤ p) (h2 : p < off G x + G x) :
    Nat.count (fun j => off G (j + 1) ≤ p) n = x := by
  have e : (fun j => off G (j + 1) ≤ p) = fun j => j < x := by
    funext j
    refine propext ⟨fun h => ?_, fun h => ?_⟩
    · by_contra hj
      have := off_mono G (k := x + 1) (k' := j + 1) (by omega)
      rw [off] at this
      omega
    · exact (off_mono G (k := j + 1) (k' := x) (by omega)).trans h1
  simp only [e]
  exact count_lt_self hx.le

/-! ## The reference's expert of each row -/

/-- For each row, how many of the groups' running ends are at or below it. -/
def rowExpert (a1 : S11.Idx → BitVec 32) : S18432.Idx → BitVec 32 :=
  Host.reduce IntOp.addi (extui 32 (cmpi .sle (broadcastInDim S11x18432 ![0, 1] bcast_S11x1_S11x18432_0_1 (broadcastInDim S11x1 ![0] bcast_S11_S11x1_0
      (Host.reduceWindow IntOp.addi ![11] ![1] ![10] ![0] a1 (broadcastInDim S_ ![] bcast_S_S_ (constantI S_ 32 0#32)) reduceWindows_S11_S11_w11s1p10_0 h_S_)))
    (broadcastInDim S11x18432 ![0, 1] bcast_S1x18432_S11x18432_0_1 (broadcastInDim S1x18432 ![1] bcast_S18432_S1x18432_1 (iotaInDim S18432 32 0)))) natLt_1_32)
    (constantI S_ 32 0#32) reducesTo_S11x18432_S18432_d0 h_S_

theorem rowExpert_apply (a1 : S11.Idx → BitVec 32) (hG : off (rowsOf a1) 11 = 18432) (p : Fin 18432) :
    rowExpert a1 (ix1 p) = BitVec.ofNat 32 (Cert.Kernel.Hand.exOf (rowsOf a1) p.val).val := by
  obtain ⟨x, hx, h1, h2⟩ := exists_group (rowsOf a1) 11 p.val (by rw [hG]; exact p.isLt)
  rw [Cert.Kernel.Hand.exOf_eq (rowsOf a1) p.val ⟨x, hx⟩ h1 h2, ix1_eq_valueIdx]
  refine (reduce_count_rows (N := 11) (a := 18432) (by decide) _ _ _ _ p (fun j => off (rowsOf a1) (j + 1) ≤ p.val) fun j => ?_).trans
    (congrArg (BitVec.ofNat 32) (count_ends _ 11 _ x hx h1 h2))
  have hc : (Host.reduceWindow IntOp.addi ![11] ![1] ![10] ![0] a1 (broadcastInDim S_ ![] bcast_S_S_ (constantI S_ 32 0#32)) reduceWindows_S11_S11_w11s1p10_0 h_S_ : S11.Idx → BitVec 32) (ix1 j)
      = BitVec.ofNat 32 (off (rowsOf a1) (j.val + 1)) := by
    rw [ix1_eq_valueIdx, ← sum_range_eq_off]
    refine Routing.cumsum1 (N := 11) (Nm1 := 10) rfl a1 (rowsOf a1) (fun i => ?_) _ rfl _ _ j
    rw [← ix1_eq_valueIdx]
    exact size_of_pre a1 (ix1 i)
  have hm : ∀ A : S11.Idx → BitVec 32, (cmpi .sle (broadcastInDim S11x18432 ![0, 1] bcast_S11x1_S11x18432_0_1 (broadcastInDim S11x1 ![0] bcast_S11_S11x1_0 A))
    (broadcastInDim S11x18432 ![0, 1] bcast_S1x18432_S11x18432_0_1 (broadcastInDim S1x18432 ![1] bcast_S18432_S1x18432_1 (iotaInDim S18432 32 0))) : S11x18432.Idx → BitVec 1) (ix2 j p)
      = IntOp.cmpi .sle (A (ix1 j)) (BitVec.ofNat 32 p.val) := by
    intro A
    pointwise []
  rw [← ix2_eq_valueIdx, hm, hc]
  have hle : off (rowsOf a1) (j.val + 1) ≤ 18432 := hG ▸ off_mono (rowsOf a1) (by have := j.isLt; omega)
  have hp := p.isLt
  exact WordCmp.cmpi_sle_ofNat_eq_one_iff (by omega) (by omega)

/-! ## Taking an expert's weights -/

theorem take_weights (x : S11x1280x1728.Idx → EReal) (idx : S18432x1.Idx → BitVec 32) (p : Fin 18432) (j : Fin 1280) (f : Fin 1728) (e : Fin 11)
    (hb : idx (ix2 p 0) = BitVec.ofNat 32 e.val) :
    Host.gather gather_S11x1280x1728_S18432x1_S18432x1280x1728_12_0_n_n_0_1_112801728 x idx (ix3 p j f) = x (ix3 e j f) := by
  unfold Host.gather
  refine congrArg x (funext fun a => Fin.ext ?_)
  set d := gather_S11x1280x1728_S18432x1_S18432x1280x1728_12_0_n_n_0_1_112801728 with hd
  match a with
  | ⟨0, _⟩ =>
    show d.start (ix3 p j f) idx 0 + d.batchCoord (ix3 p j f) 0 + d.offCoord (ix3 p j f) 0 = e.val
    rw [d.batchCoord_eq_zero _ _ (by decide), d.offCoord_eq_zero _ _ (by decide)]
    simp only [Nat.add_zero]
    unfold GatherDims.start
    rw [dif_pos (by decide)]
    have hsi : ∀ h, d.siIdx (ix3 p j f) ⟨d.startIndexMap.idxOf 0, h⟩ = ix2 p 0 := by
      intro h
      funext b
      match b with
      | ⟨0, _⟩ => rfl
      | ⟨1, _⟩ => rfl
    have := e.isLt
    rw [hsi, hb, StableHlo.Predicate.toInt_ofNat_small _ (by omega)]
    show min ((e.val : Int)).toNat (11 - 1) = e.val
    omega
  | ⟨1, _⟩ =>
    show d.start (ix3 p j f) idx 1 + d.batchCoord (ix3 p j f) 1 + d.offCoord (ix3 p j f) 1 = j.val
    rw [d.batchCoord_eq_zero _ _ (by decide), Nat.add_zero]
    unfold GatherDims.start GatherDims.offCoord
    rw [dif_neg (by decide), dif_pos (by decide), Nat.zero_add]
    rfl
  | ⟨2, _⟩ =>
    show d.start (ix3 p j f) idx 2 + d.batchCoord (ix3 p j f) 2 + d.offCoord (ix3 p j f) 2 = f.val
    rw [d.batchCoord_eq_zero _ _ (by decide), Nat.add_zero]
    unfold GatherDims.start GatherDims.offCoord
    rw [dif_neg (by decide), dif_pos (by decide), Nat.zero_add]
    rfl

theorem take_scale (x : S11.Idx → EReal) (idx : S18432x1.Idx → BitVec 32) (p : Fin 18432) (e : Fin 11) (hb : idx (ix2 p 0) = BitVec.ofNat 32 e.val) :
    Host.gather gather_S11_S18432x1_S18432_n_0_n_n_0_1_1 x idx (ix1 p) = x (ix1 e) := by
  rw [ix2_eq_valueIdx] at hb
  rw [ix1_eq_valueIdx, ix1_eq_valueIdx]
  exact Routing.gather_take1 gather_S11_S18432x1_S18432_n_0_n_n_0_1_1 rfl rfl rfl rfl x idx p e hb (by decide)

end Cert.ReferenceIdeal.Hand
-- ==== Proof.Decoded.lean ====
/- The decoded blocks over the extended reals: each entry is the number its code stands for, times its block's scale. -/
module

public import proofs.«01_k».proof.Proof.Decode
public import proofs.«01_k».proof.Proof.Nibble
public import Idealize.ShloMosaic.Lib.BitcastFour

@[expose] public section

set_option maxRecDepth 16384
set_option maxHeartbeats 1000000

noncomputable section

namespace Cert.Kernel.Hand

open Cert.Kernel Cert.Kernel.Gen
open Cert.Proof.Nibble
open Idealize.ShloMosaic

/-- A lane's block of eight, as the floor division writes it: one less than the division towards zero where the signs differ and
    something is left over. -/
abbrev laneBlock (l : Fin 128) : BitVec 32 :=
  Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector (BitVec.ofNat 32 l.val) 8#32) 0#32))
    (IntOp.subi (IntOp.divsi ArithUnit.vector (BitVec.ofNat 32 l.val) 8#32) 1#32)
    (IntOp.divsi ArithUnit.vector (BitVec.ofNat 32 l.val) 8#32)

/-- The lane a block's scales are read at. -/
theorem scaleLane : ∀ (q : Fin 10) (l : Fin 128),
    (Scalar.select
        (IntOp.cmpi CmpIPredicate.slt
          (IntOp.addi (Scalar.muli (16#32) (Scalar.remsi (Scf.iv 0#32 1#32 q.val) 8#32))
            (laneBlock l))
          0#32)
        (IntOp.addi
          (IntOp.addi (Scalar.muli (16#32) (Scalar.remsi (Scf.iv 0#32 1#32 q.val) 8#32))
            (laneBlock l))
          128#32)
        (IntOp.addi (Scalar.muli (16#32) (Scalar.remsi (Scf.iv 0#32 1#32 q.val) 8#32))
          (laneBlock l))).toNat % 128 = 16 * (q.val % 8) + l.val / 8 := by
  decide +kernel

theorem byteShift : ∀ q : Fin 10, (Scalar.muli (8#32) (Scalar.remsi (Scf.iv 0#32 1#32 q.val) 4#32)).toNat = 8 * (q.val % 4) := by decide +kernel
theorem scaleShift : ∀ q : Fin 10,
    (Scalar.addi (16#32) (Scalar.muli (8#32) (Scalar.divsi (Scf.iv 0#32 1#32 q.val) 8#32))).toNat = 8 * (2 + q.val / 8) := by decide +kernel

/-- Where lane `l` of block `q` finds its scale. -/
def sLane (q : Fin 10) (l : Fin 128) : Fin 128 := ⟨16 * (q.val % 8) + l.val / 8, by have := l.isLt; omega⟩

theorem wLo_apply (q : Fin 10) (C : Vec Ideal S1x64x128 .i8) (S : Vec Ideal S64x128 .bf16) (r : Fin 64) (l : Fin 128) :
    wLo q.val C S (ix2 r l) = (e2m1 (lo (C (ix3 0 r l))) * S (ix2 r (sLane q l)) : EReal) := by
  rw [← shiftDec_eq]
  pointwise [wLo, k0_pay46, k0_pay45, k0_pay9, k0_pay10, k0_pay11, k0_pay2, k0_pay1, k0_pay8]
  exact congrArg₂ (fun a b : EReal => a * b) rfl (congrArg S (congrArg (ix2 r) (Fin.ext (scaleLane q l))))

/-- Four rows of bytes read as words, shifted down by four bits and read as bytes again: the low four bits of each byte are
    its high four bits before. -/
theorem shifted_rows {R R' n : ℕ} (hR : R = 4 * R') (C : (⟨2, ![R, n]⟩ : Shape).Idx → BitVec 8)
    (h : (⟨2, ![R, n]⟩ : Shape).Bitcasts 8 ⟨2, ![R', n]⟩ 32) (h' : (⟨2, ![R', n]⟩ : Shape).Bitcasts 32 ⟨2, ![R, n]⟩ 8) (r : Fin R) (l : Fin n) :
    lo (bitcast ⟨2, ![R, n]⟩ 8 (shrsi (bitcast ⟨2, ![R', n]⟩ 32 C h) (broadcast ⟨2, ![R', n]⟩ 4#32)) h' (ix2 r l)) = hi (C (ix2 r l)) := by
  apply BitVec.eq_of_getLsbD_eq
  intro i hi4
  have hr := r.isLt
  have hrow : (⟨2, ![R, n]⟩ : Shape).row (ix2 r l) = r.val := rfl
  rw [lo, hi, BitVec.getLsbD_setWidth, BitVec.getLsbD_extractLsb', bitcast_getLsbD _ h' _ i (by omega) (by decide)]
  rw [h'.srcIdx_congr _ (show ((⟨2, ![R, n]⟩ : Shape).row (ix2 r l) * 8 + i) / 32 = r.val / 4 by rw [hrow]; omega) _ (fun a ha => by
    match a, ha with
    | ⟨0, _⟩, _ => show r.val / 4 < R'; omega)]
  have esrc : ∀ hp, h'.srcIdx (ix2 r l) (r.val / 4) hp = ix2 (⟨r.val / 4, by omega⟩ : Fin R') l := fun hp => by
    funext c
    match c with
    | ⟨0, _⟩ => exact Fin.ext (h'.srcIdx_row _ _ _ ⟨0, Nat.zero_lt_two⟩ rfl)
    | ⟨1, _⟩ => exact Fin.ext (h'.srcIdx_other _ _ _ ⟨1, Nat.one_lt_two⟩ (by show ¬ 1 + 2 = 2; omega))
  have emod : ((⟨2, ![R, n]⟩ : Shape).row (ix2 r l) * 8 + i) % 32 = 8 * (r.val % 4) + i := by rw [hrow]; omega
  have esh : shrsi (bitcast ⟨2, ![R', n]⟩ 32 C h) (broadcast ⟨2, ![R', n]⟩ 4#32) (ix2 (⟨r.val / 4, by omega⟩ : Fin R') l)
      = (bitcast ⟨2, ![R', n]⟩ 32 C h (ix2 (⟨r.val / 4, by omega⟩ : Fin R') l)).sshiftRight 4 := rfl
  rw [esrc, emod, esh, BitVec.getLsbD_sshiftRight, if_pos (by omega), ix2_eq_valueIdx,
    bitcast_8_32_getLsbD_ix2 C h _ l _ (by omega) r (by show r.val = 4 * (r.val / 4) + (4 + (8 * (r.val % 4) + i)) / 8; omega)]
  have e1 : (4 + (8 * (r.val % 4) + i)) % 8 = 4 + i := by omega
  rw [e1, ix2_eq_valueIdx]
  simp only [hi4, show i < 8 by omega, show ¬ (32 ≤ 8 * (r.val % 4) + i) by omega, decide_true, decide_false, Bool.not_false, Bool.true_and]

theorem wHi_apply (q : Fin 10) (C : Vec Ideal S1x64x128 .i8) (S : Vec Ideal S64x128 .bf16) (r : Fin 64) (l : Fin 128) :
    wHi q.val C S (ix2 r l) = (e2m1 (hi (C (ix3 0 r l))) * S (ix2 r (sLane q l)) : EReal) := by
  have hC : C (ix3 0 r l) = shapeCast S64x128 C shapeCasts_S1x64x128_S64x128 (ix2 r l) := by pointwise
  rw [hC, ← shifted_rows (R' := 16) rfl (shapeCast S64x128 C shapeCasts_S1x64x128_S64x128) bitcasts_S64x128_w8_S16x128_w32 bitcasts_S16x128_w32_S64x128_w8,
    ← shiftDec_eq]
  pointwise [wHi, k0_pay47, k0_pay45, k0_pay9, k0_pay10, k0_pay11, k0_pay7, k0_pay8, k0_pay6, k0_pay5, k0_pay4, k0_pay3, k0_pay1]
  exact congrArg₂ (fun a b : EReal => a * b) rfl (congrArg S (congrArg (ix2 r) (Fin.ext (scaleLane q l))))

/-- The word of lane `l` in the column of words that holds block `q` of a row's codes. -/
def aWord (q : Fin 10) (l : Fin 128) : Fin 384 := ⟨128 * (q.val / 4) + l.val, by have := l.isLt; have := q.isLt; omega⟩
/-- The word that holds the scale of lane `l` of block `q`. -/
def aScaleWord (q : Fin 10) (l : Fin 128) : Fin 384 := ⟨256 + (sLane q l).val, by have := (sLane q l).isLt; omega⟩

theorem aLo_apply (X : S256x384.Idx → Elt Ideal .i32) (q : Fin 10) (r : Fin 256) (l : Fin 128) :
    aLo X q (ix2 r l) = (e2m1 (lo (byteOf (X (ix2 r (aWord q l))) (q.val % 4)))
      * Ideal.ofBits .fp8e4m3 (byteOf (X (ix2 r (aScaleWord q l))) (2 + q.val / 8)) : EReal) := by
  have hq := q.isLt
  rw [← shiftDec_eq, ← shifted_byte8 _ _ _ (by omega) (byteShift q), ← shifted_byte8 _ _ _ (by omega) (scaleShift q)]
  pointwise [aLo, aCol, aScl, k0_pay22, k0_pay21, k0_pay19, k0_pay20, k0_pay18, k0_pay16, k0_pay15, k0_pay14, k0_pay13, k0_pay12]
  refine congrArg₂ (fun a b : EReal => a * b) rfl (congrArg (fun j => Ideal.ofBits FTy.fp8e4m3
    (BitVec.setWidth 8 (IntOp.andi (IntOp.shrsi ArithUnit.vector (X (ix2 r j)) _) 255#32))) (Fin.ext ?_))
  exact congrArg (256 + ·) (scaleLane q l)

theorem aHi_apply (X : S256x384.Idx → Elt Ideal .i32) (q : Fin 10) (r : Fin 256) (l : Fin 128) :
    aHi X q (ix2 r l) = (e2m1 (hi (byteOf (X (ix2 r (aWord q l))) (q.val % 4)))
      * Ideal.ofBits .fp8e4m3 (byteOf (X (ix2 r (aScaleWord q l))) (2 + q.val / 8)) : EReal) := by
  have hq := q.isLt
  have hC : byteOf (X (ix2 r (aWord q l))) (q.val % 4) = trunci 8 (andi (shrsi (aCol X q)
      (broadcast S256x128 (Scalar.muli (8#32) (Scalar.remsi (Scf.iv 0#32 1#32 q.val) 4#32)))) (broadcast S256x128 255#32)) natLt_8_32 (ix2 r l) :=
    (shifted_byte8 _ _ _ (by omega) (byteShift q)).symm
  rw [hC, ← shifted_rows (R' := 64) rfl _ bitcasts_S256x128_w8_S64x128_w32 bitcasts_S64x128_w32_S256x128_w8, ← shiftDec_eq,
    ← shifted_byte8 _ _ _ (by omega) (scaleShift q)]
  pointwise [aHi, aScl, k0_pay23, k0_pay21, k0_pay19, k0_pay20, k0_pay18, k0_pay17, k0_pay13, k0_pay12]
  refine congrArg₂ (fun a b : EReal => a * b) rfl (congrArg (fun j => Ideal.ofBits FTy.fp8e4m3
    (BitVec.setWidth 8 (IntOp.andi (IntOp.shrsi ArithUnit.vector (X (ix2 r j)) _) 255#32))) (Fin.ext ?_))
  exact congrArg (256 + ·) (scaleLane q l)

theorem pay40_apply (S : Vec Ideal S1x160x1728 .fp8e4m3) (f : Fin 1728) (s : Fin 256) (hs : s.val < 160) :
    k0_pay44 S (ix2 f s) = S (ix3 0 ⟨s.val, hs⟩ f) := by
  pointwise [k0_pay44]
  rw [dif_pos hs]

theorem pay22_apply (g w : Elt Ideal .f32) (W : Vec Ideal S1728x2560 .bf16) (X : Vec Ideal S256x2560 .bf16) (f : Fin 1728) (r : Fin 256) :
    k0_pay25 g w W X (ix2 f r) = ((∑ x : Fin 2560, W (ix2 f x) * X (ix2 r x)) * (g * w) : EReal) := by
  pointwise [k0_pay25]

end Cert.Kernel.Hand
-- ==== Proof.KernelValue.lean ====
/- The kernel's result over the extended reals, entry by entry. -/
module

public import proofs.«01_k».proof.Proof.Decoded
public import proofs.«01_k».proof.Proof.Ends

@[expose] public section

set_option maxRecDepth 16384
set_option maxHeartbeats 1000000

noncomputable section

namespace Cert.Kernel.Hand

open Cert.Kernel Cert.Kernel.Gen
open Cert.Proof.Nibble Cert.Proof.Groups
open Idealize.ShloMosaic Idealize.ShloMosaic.TcCoe

/-- Position `j` of a row's codes. -/
abbrev codeWord (j : Fin 1280) : Fin 384 := ⟨128 * (j.val / 512) + j.val % 128, by omega⟩
/-- The word that holds a row's scale of position `j`. -/
abbrev scaleWord (j : Fin 1280) : Fin 384 := ⟨256 + j.val / 8 % 128, by omega⟩

/-- A row's code byte at position `j`. -/
def aByte (f4 : S9216x384.Idx → BitVec 32) (t : Fin 9216) (j : Fin 1280) : BitVec 8 := byteOf (f4 (ix2 t (codeWord j))) (j.val / 128 % 4)

/-- A row's scale at position `j`. -/
def aScale (f4 : S9216x384.Idx → BitVec 32) (t : Fin 9216) (j : Fin 1280) : EReal :=
  Ideal.ofBits .fp8e4m3 (byteOf (f4 (ix2 t (scaleWord j))) (2 + j.val / 8 / 128))

/-- The two sums a result entry is made of, scaled. -/
def entry (f2 : S11.Idx → EReal) (f3 : S1.Idx → EReal) (f4 : S9216x384.Idx → BitVec 32) (f5 : S11x1280x1728.Idx → BitVec 8) (f6 : S11x160x1728.Idx → EReal)
    (e : Fin 11) (t : Fin 9216) (f : Fin 1728) : EReal :=
  ((∑ j : Fin 1280, (e2m1 (lo (aByte f4 t j)) * aScale f4 t j) * (e2m1 (lo (f5 (ix3 e j f))) * f6 (ix3 e ⟨j.val / 8, by omega⟩ f)))
    + ∑ j : Fin 1280, (e2m1 (hi (aByte f4 t j)) * aScale f4 t j) * (e2m1 (hi (f5 (ix3 e j f))) * f6 (ix3 e ⟨j.val / 8, by omega⟩ f)))
    * (f3 (ix1 0) * f2 (ix1 e))

variable (f2 : S11.Idx → EReal) (f3 : S1.Idx → EReal) (f4 : S9216x384.Idx → BitVec 32) (f5 : S11x1280x1728.Idx → BitVec 8)
  (f6 : S11x160x1728.Idx → EReal)

section decoded

variable (e : Fin 11) (tok : ℕ → Fin 9216) (p : Fin 18432) (f : Fin 1728) (j : Fin 1280)

/-- An expert's codes, transposed. -/
abbrev codesOf : S1728x1280.Idx → BitVec 8 := fun i =>
  transpose S11x1728x1280 [0, 2, 1] f5 transposes_S11x1280x1728_S11x1728x1280_0_2_1 (ix3 e (i 0) (i 1))
/-- An expert's scales. -/
abbrev scalesOf : S1728x256.Idx → EReal := k0_pay44 (F := Ideal) (fun i => f6 (ix3 e (i 1) (i 2)))
/-- A row's place in its tile. -/
abbrev inTile : Fin 256 := ⟨p.val % 256, Nat.mod_lt _ (by decide)⟩

theorem codesOf_apply : codesOf f5 e (ix2 f j) = f5 (ix3 e j f) := by
  pointwise [codesOf]

theorem wDec_low : wDec (F := Ideal) (codesOf f5 e) (scalesOf f6 e) (ix2 f ⟨j.val, by omega⟩)
    = (e2m1 (lo (f5 (ix3 e j f))) * f6 (ix3 e ⟨j.val / 8, by omega⟩ f) : EReal) := by
  rw [wDec_lo (F := Ideal) (codesOf f5 e) (scalesOf f6 e) ⟨f.val / 64, by omega⟩ ⟨j.val / 128, by omega⟩ (ix2 ⟨f.val % 64, by omega⟩ ⟨j.val % 128, by omega⟩) _
    (by show f.val = 64 * (f.val / 64) + f.val % 64; omega) (by show j.val = 128 * (j.val / 128) + j.val % 128; omega)]
  rw [wLo_apply]
  unfold cBlk sBlk
  congr 1
  · refine congrArg (fun z => e2m1 (lo z)) ((congrArg (codesOf f5 e) ?_).trans (codesOf_apply f5 e f j))
    funext a
    match a with
    | ⟨0, _⟩ => exact Fin.ext (by show 64 * (f.val / 64) + f.val % 64 = f.val; omega)
    | ⟨1, _⟩ => exact Fin.ext (by show 128 * (j.val / 128) + j.val % 128 = j.val; omega)
  · refine Eq.trans (congrArg (scalesOf f6 e) ?_) (pay40_apply _ f ⟨j.val / 8, by omega⟩ (by show j.val / 8 < 160; omega))
    funext a
    match a with
    | ⟨0, _⟩ => exact Fin.ext (by show 64 * (f.val / 64) + f.val % 64 = f.val; omega)
    | ⟨1, _⟩ => exact Fin.ext (by show 128 * (j.val / 128 / 8) + (16 * (j.val / 128 % 8) + j.val % 128 / 8) = j.val / 8; omega)

theorem wDec_high : wDec (F := Ideal) (codesOf f5 e) (scalesOf f6 e) (ix2 f ⟨1280 + j.val, by omega⟩)
    = (e2m1 (hi (f5 (ix3 e j f))) * f6 (ix3 e ⟨j.val / 8, by omega⟩ f) : EReal) := by
  rw [wDec_hi (F := Ideal) (codesOf f5 e) (scalesOf f6 e) ⟨f.val / 64, by omega⟩ ⟨j.val / 128, by omega⟩ (ix2 ⟨f.val % 64, by omega⟩ ⟨j.val % 128, by omega⟩) _
    (by show f.val = 64 * (f.val / 64) + f.val % 64; omega) (by show 1280 + j.val = 128 * (10 + j.val / 128) + j.val % 128; omega)]
  rw [wHi_apply]
  unfold cBlk sBlk
  congr 1
  · refine congrArg (fun z => e2m1 (hi z)) ((congrArg (codesOf f5 e) ?_).trans (codesOf_apply f5 e f j))
    funext a
    match a with
    | ⟨0, _⟩ => exact Fin.ext (by show 64 * (f.val / 64) + f.val % 64 = f.val; omega)
    | ⟨1, _⟩ => exact Fin.ext (by show 128 * (j.val / 128) + j.val % 128 = j.val; omega)
  · refine Eq.trans (congrArg (scalesOf f6 e) ?_) (pay40_apply _ f ⟨j.val / 8, by omega⟩ (by show j.val / 8 < 160; omega))
    funext a
    match a with
    | ⟨0, _⟩ => exact Fin.ext (by show 64 * (f.val / 64) + f.val % 64 = f.val; omega)
    | ⟨1, _⟩ => exact Fin.ext (by show 128 * (j.val / 128 / 8) + (16 * (j.val / 128 % 8) + j.val % 128 / 8) = j.val / 8; omega)

/-- A tile's row holds its token's words. -/
theorem gath_apply (k : Fin 384) : gath (F := Ideal) f4 tok (p.val / 256) (ix2 (inTile p) k) = f4 (ix2 (tok p.val) k) := by
  unfold gath
  have e : p.val / 256 * 256 + p.val % 256 = p.val := by omega
  show f4 (ix2 (tok (p.val / 256 * 256 + p.val % 256)) k) = _
  rw [e]

theorem aWord_eq : aWord ⟨j.val / 128, by omega⟩ ⟨j.val % 128, by omega⟩ = codeWord j :=
  Fin.ext (by show 128 * (j.val / 128 / 4) + j.val % 128 = 128 * (j.val / 512) + j.val % 128; omega)

theorem aScaleWord_eq : aScaleWord ⟨j.val / 128, by omega⟩ ⟨j.val % 128, by omega⟩ = scaleWord j :=
  Fin.ext (by show 256 + (16 * (j.val / 128 % 8) + j.val % 128 / 8) = 256 + j.val / 8 % 128; omega)

theorem aDec_low : aDec (F := Ideal) (gath (F := Ideal) f4 tok (p.val / 256)) (ix2 (inTile p) ⟨j.val, by omega⟩)
    = (e2m1 (lo (aByte f4 (tok p.val) j)) * aScale f4 (tok p.val) j : EReal) := by
  rw [aDec_lo _ ⟨j.val / 128, by omega⟩ (ix2 (inTile p) ⟨j.val % 128, by omega⟩) _ rfl (by show j.val = 128 * (j.val / 128) + j.val % 128; omega)]
  rw [aLo_apply, aWord_eq, aScaleWord_eq, gath_apply, gath_apply]
  unfold aByte aScale
  rw [show j.val / 128 / 8 = j.val / 8 / 128 from by omega]

theorem aDec_high : aDec (F := Ideal) (gath (F := Ideal) f4 tok (p.val / 256)) (ix2 (inTile p) ⟨1280 + j.val, by omega⟩)
    = (e2m1 (hi (aByte f4 (tok p.val) j)) * aScale f4 (tok p.val) j : EReal) := by
  rw [aDec_hi _ ⟨j.val / 128, by omega⟩ (ix2 (inTile p) ⟨j.val % 128, by omega⟩) _ rfl (by show 1280 + j.val = 128 * (10 + j.val / 128) + j.val % 128; omega)]
  rw [aHi_apply, aWord_eq, aScaleWord_eq, gath_apply, gath_apply]
  unfold aByte aScale
  rw [show j.val / 128 / 8 = j.val / 8 / 128 from by omega]

end decoded

/-- The kernel's result at a row and a column. -/
theorem yOf_apply (G : ℕ → ℕ) (tok : ℕ → Fin 9216) (f : Fin 1728) (p : Fin 18432) :
    yOf (F := Ideal) f2 f3 f4 (transpose S11x1728x1280 [0, 2, 1] f5 transposes_S11x1280x1728_S11x1728x1280_0_2_1) f6 G tok (ix2 f p)
      = entry f2 f3 f4 f5 f6 (exOf G p.val) (tok p.val) f := by
  show k0_pay25 (F := Ideal) (f3 (ix1 0)) (f2 (ix1 (exOf G p.val))) (wDec (codesOf f5 (exOf G p.val)) (scalesOf f6 (exOf G p.val)))
    (aDec (gath f4 tok (p.val / 256))) (ix2 f (inTile p)) = _
  rw [pay22_apply]
  unfold entry
  refine congrArg (· * (f3 (ix1 0) * f2 (ix1 (exOf G p.val)))) ?_
  refine (Fin.sum_univ_add (a := 1280) (b := 1280) _).trans ?_
  refine congrArg₂ (· + ·) (Finset.sum_congr rfl fun j _ => ?_) (Finset.sum_congr rfl fun j _ => ?_)
  · rw [mul_comm]
    exact congrArg₂ (· * ·) (aDec_low f4 tok p j) (wDec_low f5 f6 (exOf G p.val) f j)
  · rw [mul_comm]
    exact congrArg₂ (· * ·) (aDec_high f4 tok p j) (wDec_high f5 f6 (exOf G p.val) f j)

end Cert.Kernel.Hand
-- ==== Proof.RefValue.lean ====
/- The reference's result over the extended reals, entry by entry, in the kernel's terms. -/
module

public import proofs.«01_k».proof.Proof.RowExpert
public import proofs.«01_k».proof.Proof.KernelValue

@[expose] public section

set_option maxRecDepth 16384
set_option maxHeartbeats 1000000

noncomputable section

namespace Cert.ReferenceIdeal.Hand

open Cert.ReferenceIdeal Cert.ReferenceIdeal.Gen
open Cert.Proof.Groups Cert.Proof.Nibble
open Cert.Kernel.Hand (entry aByte aScale exOf codeWord scaleWord)
open Idealize.ShloMosaic Idealize.ShloMosaic.TcCoe

/-- The result from the region's four arrays, the rows' expert indices and the two scales. -/
def combined (aE aO : S18432x1280.Idx → EReal) (wL wH : S11x1280x1728.Idx → EReal) (f2 : S11.Idx → EReal) (f3 : S1.Idx → EReal)
    (idx : S18432x1.Idx → BitVec 32) : S18432x1728.Idx → EReal :=
  truncf (F := Ideal) .bf16 (mulf (addf
      (Host.dotGeneral (F := Ideal) (φ₁ := .bf16) (φ₂ := .bf16) dot_S18432x1280_S18432x1280x1728_S18432x1728_1_1_n_2_0_0 none aE
        (Host.gather gather_S11x1280x1728_S18432x1_S18432x1280x1728_12_0_n_n_0_1_112801728 wL idx))
      (Host.dotGeneral (F := Ideal) (φ₁ := .bf16) (φ₂ := .bf16) dot_S18432x1280_S18432x1280x1728_S18432x1728_1_1_n_2_0_0 none aO
        (Host.gather gather_S11x1280x1728_S18432x1_S18432x1280x1728_12_0_n_n_0_1_112801728 wH idx)))
    (broadcastInDim S18432x1728 ![0, 1] bcast_S18432x1_S18432x1728_0_1 (broadcastInDim S18432x1 ![0] bcast_S18432_S18432x1_0
      (mulf (F := Ideal) (φ := .f32) (broadcastInDim S18432 ![] bcast_S_S18432 (shapeCast S_ f3 shapeCasts_S1_S_)) (Host.gather gather_S11_S18432x1_S18432_n_0_n_n_0_1_1 f2 idx)))))

theorem res_eq (m : (ℓ : Loc nD τ sig) → Buf (Elt Ideal) ℓ) (c : Dev nD) : Value.res_main_v56 m c
    = combined (Value.reg_main_v25_0 m c) (Value.reg_main_v25_1 m c) (Value.reg_main_v25_2 m c) (Value.reg_main_v25_3 m c)
        (m ((c.tc : Thread nD τ).loc main_arg2)) (m ((c.tc : Thread nD τ).loc main_arg3))
        (wrapped 11#32 (rowExpert (m ((c.tc : Thread nD τ).loc main_arg1)))) := rfl

theorem combined_apply (aE aO : S18432x1280.Idx → EReal) (wL wH : S11x1280x1728.Idx → EReal) (f2 : S11.Idx → EReal) (f3 : S1.Idx → EReal)
    (idx : S18432x1.Idx → BitVec 32) (p : Fin 18432) (f : Fin 1728) (e : Fin 11) (hb : idx (ix2 p 0) = BitVec.ofNat 32 e.val) :
    combined aE aO wL wH f2 f3 idx (ix2 p f)
      = ((∑ j : Fin 1280, aE (ix2 p j) * wL (ix3 e j f)) + ∑ j : Fin 1280, aO (ix2 p j) * wH (ix3 e j f)) * (f3 (ix1 0) * f2 (ix1 e)) := by
  have h : combined aE aO wL wH f2 f3 idx (ix2 p f)
      = ((∑ j : Fin 1280, aE (ix2 p j) * Host.gather gather_S11x1280x1728_S18432x1_S18432x1280x1728_12_0_n_n_0_1_112801728 wL idx (ix3 p j f))
          + ∑ j : Fin 1280, aO (ix2 p j) * Host.gather gather_S11x1280x1728_S18432x1_S18432x1280x1728_12_0_n_n_0_1_112801728 wH idx (ix3 p j f))
        * (f3 (ix1 0) * Host.gather gather_S11_S18432x1_S18432_n_0_n_n_0_1_1 f2 idx (ix1 p)) := by
    pointwise [combined]
  rw [h, take_scale f2 idx p e hb]
  simp only [fun j => take_weights wL idx p j f e hb, fun j => take_weights wH idx p j f e hb]

variable (m : (ℓ : Loc nD τ sig) → Buf (Elt Ideal) ℓ) (c : Dev nD)

/-- The reference's result at a row and a column. -/
theorem res_apply (hG : off (rowsOf (m ((c.tc : Thread nD τ).loc main_arg1))) 11 = 18432) (p : Fin 18432) (f : Fin 1728)
    (ht : (show S18432.Idx → BitVec 32 from m ((c.tc : Thread nD τ).loc main_arg0)) (ix1 p) = BitVec.ofNat 32 (tokOf (m ((c.tc : Thread nD τ).loc main_arg0)) p.val).val) :
    (show S18432x1728.Idx → EReal from Value.res_main_v56 m c) (ix2 p f)
      = entry (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
          (exOf (rowsOf (m ((c.tc : Thread nD τ).loc main_arg1))) p.val) (tokOf (m ((c.tc : Thread nD τ).loc main_arg0)) p.val) f := by
  have hx := rowExpert_apply (m ((c.tc : Thread nD τ).loc main_arg1)) hG p
  have hb := wrapped_apply 11#32 _ p _ (by have := (exOf (rowsOf (m ((c.tc : Thread nD τ).loc main_arg1))) p.val).isLt; omega) hx
  have hc := combined_apply (Value.reg_main_v25_0 m c) (Value.reg_main_v25_1 m c) (Value.reg_main_v25_2 m c) (Value.reg_main_v25_3 m c)
        (m ((c.tc : Thread nD τ).loc main_arg2)) (m ((c.tc : Thread nD τ).loc main_arg3)) _ p f _ hb
  refine ((congrFun (res_eq m c) (ix2 p f)).trans hc).trans ?_
  unfold entry
  refine congrArg₂ (· * ·) (congrArg₂ (· + ·) (Finset.sum_congr rfl fun j _ => ?_) (Finset.sum_congr rfl fun j _ => ?_)) rfl
  · rw [region_aEven, region_wLow, xIn_apply m c p _ ht, sIn_apply m c p _ ht, lo_widened, lo_widened, treeDec_eq, treeDec_eq]
    rfl
  · rw [region_aOdd, region_wHigh, xIn_apply m c p _ ht, sIn_apply m c p _ ht, hi_widened, hi_widened, treeDec_eq, treeDec_eq]
    rfl

end Cert.ReferenceIdeal.Hand
-- ==== Proof.Algebraic.lean ====
/- The value claim: over the extended reals the kernel and the reference leave the same result. -/
module

public import proofs.«01_k».proof.Proof.Claims
public import proofs.«01_k».proof.Proof.RefValue

@[expose] public section

set_option maxRecDepth 16384
set_option maxHeartbeats 1000000

namespace Cert.Proof

open Cert.Proof.Groups
open Idealize.ShloMosaic Idealize.ShloMosaic.TcCoe Idealize.SL.Sem

theorem frame_reference : Cert.quiescent_ReferenceIdeal (hReferenceIdeal := Cert.ReferenceIdeal.Gen.facts) (hPre_groups_cover := Cert.Pre_groups_cover.Gen.facts) :=
  fun m g _ => Cert.ReferenceIdeal.Gen.frame m g

/-- The two results, of the same arguments. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.Kernel.Hand.Covers (F := Ideal) m c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v56 m' c
      = transpose Cert.Kernel.S18432x1728 [1, 0] (Cert.Kernel.Hand.Yof (F := Ideal) m c) Cert.Kernel.Gen.transposes_S1728x18432_S18432x1728_1_0 := by
  have hG := off_of_pre (F := Ideal) _ _ _ _ _ _ _ h.2.1 h.2.2
  funext i
  obtain ⟨p, f, rfl⟩ : ∃ (p : Fin 18432) (f : Fin 1728), i = ix2 p f := ⟨i 0, i 1, by
    funext a
    match a with
    | ⟨0, _⟩ => rfl
    | ⟨1, _⟩ => rfl⟩
  refine (Cert.ReferenceIdeal.Hand.res_apply m' c (by rw [h1]; exact hG) p f (by
    rw [h0]
    exact tok_of_pre (F := Ideal) _ _ _ _ _ _ _ h.1 (ix1 p))).trans ?_
  rw [h0, h1, h2, h3, h4, h5, h6]
  refine (Cert.Kernel.Hand.yOf_apply _ _ _ _ _ _ _ f p).symm.trans ?_
  symm
  have ht : ∀ Y : Cert.Kernel.S1728x18432.Idx → EReal,
      transpose Cert.Kernel.S18432x1728 [1, 0] Y Cert.Kernel.Gen.transposes_S1728x18432_S18432x1728_1_0 (ix2 p f) = Y (ix2 f p) := by
    intro Y
    pointwise []
  exact ht _

theorem algebraic : Cert.algebraic_KernelIdeal_ReferenceIdeal (hKernelIdeal := Cert.KernelIdeal.Gen.facts) (hReferenceIdeal := Cert.ReferenceIdeal.Gen.facts)
    (hPre_groups_cover := Cert.Pre_groups_cover.Gen.facts) := by
  intro m g m' g' hpre hargs
  refine ⟨fun c => transpose Cert.Kernel.S18432x1728 [1, 0] (Cert.Kernel.Hand.Yof (F := Ideal) m c) Cert.Kernel.Gen.transposes_S1728x18432_S18432x1728_1_0, ?_, ?_⟩
  · exact (θ_run (Cert.KernelIdeal.defs (F := Ideal)) _ _).mono (fun _ h c => ⟨(h.1 c).2, (h.1 c).1⟩) (run_ideal m g hpre)
  · refine (θ_run (Cert.ReferenceIdeal.defs (F := Ideal)) _ _).mono (fun _ h c => ⟨(h c).1.trans ?_, (h c).2⟩) (Cert.ReferenceIdeal.Value.run m' g')
    obtain ⟨h0, h1, h2, h3, h4, h5, h6⟩ := hargs c
    exact same_result m m' c (hpre c) h0 h1 h2 h3 h4 h5 h6

end Cert.Proof
-- ==== Proof.lean ====
module

public import proofs.«01_k».proof.Defs
public import proofs.«01_k».proof.Proof.Algebraic

@[expose] public section

theorem Cert.Proof.claim : Cert.Claim :=
  ⟨Cert.Kernel.Gen.facts, Cert.KernelIdeal.Gen.facts, Cert.ReferenceIdeal.Gen.facts, Cert.Pre_groups_cover.Gen.facts, Cert.Proof.frame_kernel,
    Cert.Proof.frame_ideal, Cert.Proof.frame_reference, trivial, Cert.Proof.algebraic⟩
